-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_scores [hPre_finite_scores : Cert.Pre_finite_scores.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.1 = (fun _ => 1#1)
    ∧ (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_scores [hPre_finite_scores : Cert.Pre_finite_scores.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).1 = (fun _ => 1#1)
    ∧ (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.1 = (fun _ => 1#1)
    ∧ (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2 = (fun _ => 1#1)

def Pre_InProj (m : (ℓ : Loc Cert.InProj.nD Cert.InProj.τ Cert.InProj.sig) → Buf (Elt Bits) ℓ) : Prop :=
  True

def Pre_InProjIdeal (m : (ℓ : Loc Cert.InProjIdeal.nD Cert.InProjIdeal.τ Cert.InProjIdeal.sig) → Buf (Elt Ideal) ℓ) : Prop :=
  True

def Pre_InProjReferenceIdeal (m : (ℓ : Loc Cert.InProjReferenceIdeal.nD Cert.InProjReferenceIdeal.τ Cert.InProjReferenceIdeal.sig) → Buf (Elt Ideal) ℓ) : Prop :=
  True

def Pre_OutProj (m : (ℓ : Loc Cert.OutProj.nD Cert.OutProj.τ Cert.OutProj.sig) → Buf (Elt Bits) ℓ) : Prop :=
  True

def Pre_OutProjIdeal (m : (ℓ : Loc Cert.OutProjIdeal.nD Cert.OutProjIdeal.τ Cert.OutProjIdeal.sig) → Buf (Elt Ideal) ℓ) : Prop :=
  True

def Pre_OutProjReferenceIdeal (m : (ℓ : Loc Cert.OutProjReferenceIdeal.nD Cert.OutProjReferenceIdeal.τ Cert.OutProjReferenceIdeal.sig) → Buf (Elt Ideal) ℓ) : Prop :=
  True

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnReferenceIdeal (m : (ℓ : Loc Cert.FfnReferenceIdeal.nD Cert.FfnReferenceIdeal.τ Cert.FfnReferenceIdeal.sig) → Buf (Elt Ideal) ℓ) : Prop :=
  True

def Pre_FfnLast (m : (ℓ : Loc Cert.FfnLast.nD Cert.FfnLast.τ Cert.FfnLast.sig) → Buf (Elt Bits) ℓ) : Prop :=
  True

def Pre_FfnLastIdeal (m : (ℓ : Loc Cert.FfnLastIdeal.nD Cert.FfnLastIdeal.τ Cert.FfnLastIdeal.sig) → Buf (Elt Ideal) ℓ) : Prop :=
  True

def Pre_FfnLastReferenceIdeal (m : (ℓ : Loc Cert.FfnLastReferenceIdeal.nD Cert.FfnLastReferenceIdeal.τ Cert.FfnLastReferenceIdeal.sig) → Buf (Elt Ideal) ℓ) : Prop :=
  True

def Pre_DownQ (m : (ℓ : Loc Cert.DownQ.nD Cert.DownQ.τ Cert.DownQ.sig) → Buf (Elt Bits) ℓ) : Prop :=
  True

def Pre_DownQIdeal (m : (ℓ : Loc Cert.DownQIdeal.nD Cert.DownQIdeal.τ Cert.DownQIdeal.sig) → Buf (Elt Ideal) ℓ) : Prop :=
  True

def Pre_DownQReferenceIdeal (m : (ℓ : Loc Cert.DownQReferenceIdeal.nD Cert.DownQReferenceIdeal.τ Cert.DownQReferenceIdeal.sig) → Buf (Elt Ideal) ℓ) : Prop :=
  True

def Pre_DownKv (m : (ℓ : Loc Cert.DownKv.nD Cert.DownKv.τ Cert.DownKv.sig) → Buf (Elt Bits) ℓ) : Prop :=
  True

def Pre_DownKvIdeal (m : (ℓ : Loc Cert.DownKvIdeal.nD Cert.DownKvIdeal.τ Cert.DownKvIdeal.sig) → Buf (Elt Ideal) ℓ) : Prop :=
  True

def Pre_DownKvReferenceIdeal (m : (ℓ : Loc Cert.DownKvReferenceIdeal.nD Cert.DownKvReferenceIdeal.τ Cert.DownKvReferenceIdeal.sig) → Buf (Elt Ideal) ℓ) : Prop :=
  True

def Pre_UpQ (m : (ℓ : Loc Cert.UpQ.nD Cert.UpQ.τ Cert.UpQ.sig) → Buf (Elt Bits) ℓ) : Prop :=
  True

def Pre_UpQIdeal (m : (ℓ : Loc Cert.UpQIdeal.nD Cert.UpQIdeal.τ Cert.UpQIdeal.sig) → Buf (Elt Ideal) ℓ) : Prop :=
  True

def Pre_UpQReferenceIdeal (m : (ℓ : Loc Cert.UpQReferenceIdeal.nD Cert.UpQReferenceIdeal.τ Cert.UpQReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_scores [hKernelIdeal : Cert.KernelIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scores m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_scores [hReferenceIdeal : Cert.ReferenceIdeal.Facts] [hPre_finite_scores : Cert.Pre_finite_scores.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scores m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_InProj [hInProj : Cert.InProj.Facts] : Prop :=
  ∀ (m : (ℓ : Loc Cert.InProj.nD Cert.InProj.τ Cert.InProj.sig) → Buf (Elt Bits) ℓ) (g : Dev Cert.InProj.nD → PrngReg), Pre_InProj m →
    θ_run (Cert.InProj.defs (F := Bits)) (onTc (τ := Cert.InProj.τ) (Cert.InProj.main (F := Bits))) ⟨m, fun _ => 0, g⟩ (fun r => (∀ c : Dev Cert.InProj.nD,
      r.2.mem ((c.tc : Thread Cert.InProj.nD Cert.InProj.τ).loc Cert.InProj.main_arg0) = m ((c.tc : Thread Cert.InProj.nD Cert.InProj.τ).loc Cert.InProj.main_arg0)
      ∧ r.2.mem ((c.tc : Thread Cert.InProj.nD Cert.InProj.τ).loc Cert.InProj.main_arg1) = m ((c.tc : Thread Cert.InProj.nD Cert.InProj.τ).loc Cert.InProj.main_arg1))
      ∧ r.2.sem = fun _ => 0)

def quiescent_InProjIdeal [hInProjIdeal : Cert.InProjIdeal.Facts] : Prop :=
  ∀ (m : (ℓ : Loc Cert.InProjIdeal.nD Cert.InProjIdeal.τ Cert.InProjIdeal.sig) → Buf (Elt Ideal) ℓ) (g : Dev Cert.InProjIdeal.nD → PrngReg), Pre_InProjIdeal m →
    θ_run (Cert.InProjIdeal.defs (F := Ideal)) (onTc (τ := Cert.InProjIdeal.τ) (Cert.InProjIdeal.main (F := Ideal))) ⟨m, fun _ => 0, g⟩ (fun r => (∀ c : Dev Cert.InProjIdeal.nD,
      r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
      ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1))
      ∧ r.2.sem = fun _ => 0)

def quiescent_InProjReferenceIdeal [hInProjReferenceIdeal : Cert.InProjReferenceIdeal.Facts] : Prop :=
  ∀ (m : (ℓ : Loc Cert.InProjReferenceIdeal.nD Cert.InProjReferenceIdeal.τ Cert.InProjReferenceIdeal.sig) → Buf (Elt Ideal) ℓ) (g : Dev Cert.InProjReferenceIdeal.nD → PrngReg), Pre_InProjReferenceIdeal m →
    θ_run (Cert.InProjReferenceIdeal.defs (F := Ideal)) (onTc (τ := Cert.InProjReferenceIdeal.τ) (Cert.InProjReferenceIdeal.main (F := Ideal))) ⟨m, fun _ => 0, g⟩ (fun r => (∀ c : Dev Cert.InProjReferenceIdeal.nD,
      r.2.mem ((c.tc : Thread Cert.InProjReferenceIdeal.nD Cert.InProjReferenceIdeal.τ).loc Cert.InProjReferenceIdeal.main_arg0) = m ((c.tc : Thread Cert.InProjReferenceIdeal.nD Cert.InProjReferenceIdeal.τ).loc Cert.InProjReferenceIdeal.main_arg0)
      ∧ r.2.mem ((c.tc : Thread Cert.InProjReferenceIdeal.nD Cert.InProjReferenceIdeal.τ).loc Cert.InProjReferenceIdeal.main_arg1) = m ((c.tc : Thread Cert.InProjReferenceIdeal.nD Cert.InProjReferenceIdeal.τ).loc Cert.InProjReferenceIdeal.main_arg1))
      ∧ r.2.sem = fun _ => 0)

def quiescent_OutProj [hOutProj : Cert.OutProj.Facts] : Prop :=
  ∀ (m : (ℓ : Loc Cert.OutProj.nD Cert.OutProj.τ Cert.OutProj.sig) → Buf (Elt Bits) ℓ) (g : Dev Cert.OutProj.nD → PrngReg), Pre_OutProj m →
    θ_run (Cert.OutProj.defs (F := Bits)) (onTc (τ := Cert.OutProj.τ) (Cert.OutProj.main (F := Bits))) ⟨m, fun _ => 0, g⟩ (fun r => (∀ c : Dev Cert.OutProj.nD,
      r.2.mem ((c.tc : Thread Cert.OutProj.nD Cert.OutProj.τ).loc Cert.OutProj.main_arg0) = m ((c.tc : Thread Cert.OutProj.nD Cert.OutProj.τ).loc Cert.OutProj.main_arg0)
      ∧ r.2.mem ((c.tc : Thread Cert.OutProj.nD Cert.OutProj.τ).loc Cert.OutProj.main_arg1) = m ((c.tc : Thread Cert.OutProj.nD Cert.OutProj.τ).loc Cert.OutProj.main_arg1)
      ∧ r.2.mem ((c.tc : Thread Cert.OutProj.nD Cert.OutProj.τ).loc Cert.OutProj.main_arg2) = m ((c.tc : Thread Cert.OutProj.nD Cert.OutProj.τ).loc Cert.OutProj.main_arg2)
      ∧ r.2.mem ((c.tc : Thread Cert.OutProj.nD Cert.OutProj.τ).loc Cert.OutProj.main_arg3) = m ((c.tc : Thread Cert.OutProj.nD Cert.OutProj.τ).loc Cert.OutProj.main_arg3))
      ∧ r.2.sem = fun _ => 0)

def quiescent_OutProjIdeal [hOutProjIdeal : Cert.OutProjIdeal.Facts] : Prop :=
  ∀ (m : (ℓ : Loc Cert.OutProjIdeal.nD Cert.OutProjIdeal.τ Cert.OutProjIdeal.sig) → Buf (Elt Ideal) ℓ) (g : Dev Cert.OutProjIdeal.nD → PrngReg), Pre_OutProjIdeal m →
    θ_run (Cert.OutProjIdeal.defs (F := Ideal)) (onTc (τ := Cert.OutProjIdeal.τ) (Cert.OutProjIdeal.main (F := Ideal))) ⟨m, fun _ => 0, g⟩ (fun r => (∀ c : Dev Cert.OutProjIdeal.nD,
      r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
      ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
      ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2)
      ∧ r.2.mem ((c.tc : Thread Cert.OutProjIdeal.nD Cert.OutProjIdeal.τ).loc Cert.OutProjIdeal.main_arg3) = m ((c.tc : Thread Cert.OutProjIdeal.nD Cert.OutProjIdeal.τ).loc Cert.OutProjIdeal.main_arg3))
      ∧ r.2.sem = fun _ => 0)

def quiescent_OutProjReferenceIdeal [hOutProjReferenceIdeal : Cert.OutProjReferenceIdeal.Facts] : Prop :=
  ∀ (m : (ℓ : Loc Cert.OutProjReferenceIdeal.nD Cert.OutProjReferenceIdeal.τ Cert.OutProjReferenceIdeal.sig) → Buf (Elt Ideal) ℓ) (g : Dev Cert.OutProjReferenceIdeal.nD → PrngReg), Pre_OutProjReferenceIdeal m →
    θ_run (Cert.OutProjReferenceIdeal.defs (F := Ideal)) (onTc (τ := Cert.OutProjReferenceIdeal.τ) (Cert.OutProjReferenceIdeal.main (F := Ideal))) ⟨m, fun _ => 0, g⟩ (fun r => (∀ c : Dev Cert.OutProjReferenceIdeal.nD,
      r.2.mem ((c.tc : Thread Cert.OutProjReferenceIdeal.nD Cert.OutProjReferenceIdeal.τ).loc Cert.OutProjReferenceIdeal.main_arg0) = m ((c.tc : Thread Cert.OutProjReferenceIdeal.nD Cert.OutProjReferenceIdeal.τ).loc Cert.OutProjReferenceIdeal.main_arg0)
      ∧ r.2.mem ((c.tc : Thread Cert.OutProjReferenceIdeal.nD Cert.OutProjReferenceIdeal.τ).loc Cert.OutProjReferenceIdeal.main_arg1) = m ((c.tc : Thread Cert.OutProjReferenceIdeal.nD Cert.OutProjReferenceIdeal.τ).loc Cert.OutProjReferenceIdeal.main_arg1)
      ∧ r.2.mem ((c.tc : Thread Cert.OutProjReferenceIdeal.nD Cert.OutProjReferenceIdeal.τ).loc Cert.OutProjReferenceIdeal.main_arg2) = m ((c.tc : Thread Cert.OutProjReferenceIdeal.nD Cert.OutProjReferenceIdeal.τ).loc Cert.OutProjReferenceIdeal.main_arg2)
      ∧ r.2.mem ((c.tc : Thread Cert.OutProjReferenceIdeal.nD Cert.OutProjReferenceIdeal.τ).loc Cert.OutProjReferenceIdeal.main_arg3) = m ((c.tc : Thread Cert.OutProjReferenceIdeal.nD Cert.OutProjReferenceIdeal.τ).loc Cert.OutProjReferenceIdeal.main_arg3))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4)
      ∧ r.2.mem ((c.tc : Thread Cert.Ffn.nD Cert.Ffn.τ).loc Cert.Ffn.main_arg5) = m ((c.tc : Thread Cert.Ffn.nD Cert.Ffn.τ).loc Cert.Ffn.main_arg5)
      ∧ r.2.mem ((c.tc : Thread Cert.Ffn.nD Cert.Ffn.τ).loc Cert.Ffn.main_arg6) = m ((c.tc : Thread Cert.Ffn.nD Cert.Ffn.τ).loc Cert.Ffn.main_arg6)
      ∧ r.2.mem ((c.tc : Thread Cert.Ffn.nD Cert.Ffn.τ).loc Cert.Ffn.main_arg7) = m ((c.tc : Thread Cert.Ffn.nD Cert.Ffn.τ).loc Cert.Ffn.main_arg7)
      ∧ r.2.mem ((c.tc : Thread Cert.Ffn.nD Cert.Ffn.τ).loc Cert.Ffn.main_arg8) = m ((c.tc : Thread Cert.Ffn.nD Cert.Ffn.τ).loc Cert.Ffn.main_arg8))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
      ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5)
      ∧ r.2.mem ((c.tc : Thread Cert.FfnIdeal.nD Cert.FfnIdeal.τ).loc Cert.FfnIdeal.main_arg6) = m ((c.tc : Thread Cert.FfnIdeal.nD Cert.FfnIdeal.τ).loc Cert.FfnIdeal.main_arg6)
      ∧ r.2.mem ((c.tc : Thread Cert.FfnIdeal.nD Cert.FfnIdeal.τ).loc Cert.FfnIdeal.main_arg7) = m ((c.tc : Thread Cert.FfnIdeal.nD Cert.FfnIdeal.τ).loc Cert.FfnIdeal.main_arg7)
      ∧ r.2.mem ((c.tc : Thread Cert.FfnIdeal.nD Cert.FfnIdeal.τ).loc Cert.FfnIdeal.main_arg8) = m ((c.tc : Thread Cert.FfnIdeal.nD Cert.FfnIdeal.τ).loc Cert.FfnIdeal.main_arg8))
      ∧ r.2.sem = fun _ => 0)

def quiescent_FfnReferenceIdeal [hFfnReferenceIdeal : Cert.FfnReferenceIdeal.Facts] : Prop :=
  ∀ (m : (ℓ : Loc Cert.FfnReferenceIdeal.nD Cert.FfnReferenceIdeal.τ Cert.FfnReferenceIdeal.sig) → Buf (Elt Ideal) ℓ) (g : Dev Cert.FfnReferenceIdeal.nD → PrngReg), Pre_FfnReferenceIdeal m →
    θ_run (Cert.FfnReferenceIdeal.defs (F := Ideal)) (onTc (τ := Cert.FfnReferenceIdeal.τ) (Cert.FfnReferenceIdeal.main (F := Ideal))) ⟨m, fun _ => 0, g⟩ (fun r => (∀ c : Dev Cert.FfnReferenceIdeal.nD,
      r.2.mem ((c.tc : Thread Cert.FfnReferenceIdeal.nD Cert.FfnReferenceIdeal.τ).loc Cert.FfnReferenceIdeal.main_arg0) = m ((c.tc : Thread Cert.FfnReferenceIdeal.nD Cert.FfnReferenceIdeal.τ).loc Cert.FfnReferenceIdeal.main_arg0)
      ∧ r.2.mem ((c.tc : Thread Cert.FfnReferenceIdeal.nD Cert.FfnReferenceIdeal.τ).loc Cert.FfnReferenceIdeal.main_arg1) = m ((c.tc : Thread Cert.FfnReferenceIdeal.nD Cert.FfnReferenceIdeal.τ).loc Cert.FfnReferenceIdeal.main_arg1)
      ∧ r.2.mem ((c.tc : Thread Cert.FfnReferenceIdeal.nD Cert.FfnReferenceIdeal.τ).loc Cert.FfnReferenceIdeal.main_arg2) = m ((c.tc : Thread Cert.FfnReferenceIdeal.nD Cert.FfnReferenceIdeal.τ).loc Cert.FfnReferenceIdeal.main_arg2)
      ∧ r.2.mem ((c.tc : Thread Cert.FfnReferenceIdeal.nD Cert.FfnReferenceIdeal.τ).loc Cert.FfnReferenceIdeal.main_arg3) = m ((c.tc : Thread Cert.FfnReferenceIdeal.nD Cert.FfnReferenceIdeal.τ).loc Cert.FfnReferenceIdeal.main_arg3)
      ∧ r.2.mem ((c.tc : Thread Cert.FfnReferenceIdeal.nD Cert.FfnReferenceIdeal.τ).loc Cert.FfnReferenceIdeal.main_arg4) = m ((c.tc : Thread Cert.FfnReferenceIdeal.nD Cert.FfnReferenceIdeal.τ).loc Cert.FfnReferenceIdeal.main_arg4)
      ∧ r.2.mem ((c.tc : Thread Cert.FfnReferenceIdeal.nD Cert.FfnReferenceIdeal.τ).loc Cert.FfnReferenceIdeal.main_arg5) = m ((c.tc : Thread Cert.FfnReferenceIdeal.nD Cert.FfnReferenceIdeal.τ).loc Cert.FfnReferenceIdeal.main_arg5)
      ∧ r.2.mem ((c.tc : Thread Cert.FfnReferenceIdeal.nD Cert.FfnReferenceIdeal.τ).loc Cert.FfnReferenceIdeal.main_arg6) = m ((c.tc : Thread Cert.FfnReferenceIdeal.nD Cert.FfnReferenceIdeal.τ).loc Cert.FfnReferenceIdeal.main_arg6)
      ∧ r.2.mem ((c.tc : Thread Cert.FfnReferenceIdeal.nD Cert.FfnReferenceIdeal.τ).loc Cert.FfnReferenceIdeal.main_arg7) = m ((c.tc : Thread Cert.FfnReferenceIdeal.nD Cert.FfnReferenceIdeal.τ).loc Cert.FfnReferenceIdeal.main_arg7)
      ∧ r.2.mem ((c.tc : Thread Cert.FfnReferenceIdeal.nD Cert.FfnReferenceIdeal.τ).loc Cert.FfnReferenceIdeal.main_arg8) = m ((c.tc : Thread Cert.FfnReferenceIdeal.nD Cert.FfnReferenceIdeal.τ).loc Cert.FfnReferenceIdeal.main_arg8))
      ∧ r.2.sem = fun _ => 0)

def quiescent_FfnLast [hFfnLast : Cert.FfnLast.Facts] : Prop :=
  ∀ (m : (ℓ : Loc Cert.FfnLast.nD Cert.FfnLast.τ Cert.FfnLast.sig) → Buf (Elt Bits) ℓ) (g : Dev Cert.FfnLast.nD → PrngReg), Pre_FfnLast m →
    θ_run (Cert.FfnLast.defs (F := Bits)) (onTc (τ := Cert.FfnLast.τ) (Cert.FfnLast.main (F := Bits))) ⟨m, fun _ => 0, g⟩ (fun r => (∀ c : Dev Cert.FfnLast.nD,
      r.2.mem ((c.tc : Thread Cert.FfnLast.nD Cert.FfnLast.τ).loc Cert.FfnLast.main_arg0) = m ((c.tc : Thread Cert.FfnLast.nD Cert.FfnLast.τ).loc Cert.FfnLast.main_arg0)
      ∧ r.2.mem ((c.tc : Thread Cert.FfnLast.nD Cert.FfnLast.τ).loc Cert.FfnLast.main_arg1) = m ((c.tc : Thread Cert.FfnLast.nD Cert.FfnLast.τ).loc Cert.FfnLast.main_arg1)
      ∧ r.2.mem ((c.tc : Thread Cert.FfnLast.nD Cert.FfnLast.τ).loc Cert.FfnLast.main_arg2) = m ((c.tc : Thread Cert.FfnLast.nD Cert.FfnLast.τ).loc Cert.FfnLast.main_arg2)
      ∧ r.2.mem ((c.tc : Thread Cert.FfnLast.nD Cert.FfnLast.τ).loc Cert.FfnLast.main_arg3) = m ((c.tc : Thread Cert.FfnLast.nD Cert.FfnLast.τ).loc Cert.FfnLast.main_arg3)
      ∧ r.2.mem ((c.tc : Thread Cert.FfnLast.nD Cert.FfnLast.τ).loc Cert.FfnLast.main_arg4) = m ((c.tc : Thread Cert.FfnLast.nD Cert.FfnLast.τ).loc Cert.FfnLast.main_arg4)
      ∧ r.2.mem ((c.tc : Thread Cert.FfnLast.nD Cert.FfnLast.τ).loc Cert.FfnLast.main_arg5) = m ((c.tc : Thread Cert.FfnLast.nD Cert.FfnLast.τ).loc Cert.FfnLast.main_arg5))
      ∧ r.2.sem = fun _ => 0)

def quiescent_FfnLastIdeal [hFfnLastIdeal : Cert.FfnLastIdeal.Facts] : Prop :=
  ∀ (m : (ℓ : Loc Cert.FfnLastIdeal.nD Cert.FfnLastIdeal.τ Cert.FfnLastIdeal.sig) → Buf (Elt Ideal) ℓ) (g : Dev Cert.FfnLastIdeal.nD → PrngReg), Pre_FfnLastIdeal m →
    θ_run (Cert.FfnLastIdeal.defs (F := Ideal)) (onTc (τ := Cert.FfnLastIdeal.τ) (Cert.FfnLastIdeal.main (F := Ideal))) ⟨m, fun _ => 0, g⟩ (fun r => (∀ c : Dev Cert.FfnLastIdeal.nD,
      r.2.mem ((c.tc : Thread Cert.FfnLastIdeal.nD Cert.FfnLastIdeal.τ).loc Cert.FfnLastIdeal.main_arg0) = m ((c.tc : Thread Cert.FfnLastIdeal.nD Cert.FfnLastIdeal.τ).loc Cert.FfnLastIdeal.main_arg0)
      ∧ r.2.mem ((c.tc : Thread Cert.FfnLastIdeal.nD Cert.FfnLastIdeal.τ).loc Cert.FfnLastIdeal.main_arg1) = m ((c.tc : Thread Cert.FfnLastIdeal.nD Cert.FfnLastIdeal.τ).loc Cert.FfnLastIdeal.main_arg1)
      ∧ r.2.mem ((c.tc : Thread Cert.FfnLastIdeal.nD Cert.FfnLastIdeal.τ).loc Cert.FfnLastIdeal.main_arg2) = m ((c.tc : Thread Cert.FfnLastIdeal.nD Cert.FfnLastIdeal.τ).loc Cert.FfnLastIdeal.main_arg2)
      ∧ r.2.mem ((c.tc : Thread Cert.FfnLastIdeal.nD Cert.FfnLastIdeal.τ).loc Cert.FfnLastIdeal.main_arg3) = m ((c.tc : Thread Cert.FfnLastIdeal.nD Cert.FfnLastIdeal.τ).loc Cert.FfnLastIdeal.main_arg3)
      ∧ r.2.mem ((c.tc : Thread Cert.FfnLastIdeal.nD Cert.FfnLastIdeal.τ).loc Cert.FfnLastIdeal.main_arg4) = m ((c.tc : Thread Cert.FfnLastIdeal.nD Cert.FfnLastIdeal.τ).loc Cert.FfnLastIdeal.main_arg4)
      ∧ r.2.mem ((c.tc : Thread Cert.FfnLastIdeal.nD Cert.FfnLastIdeal.τ).loc Cert.FfnLastIdeal.main_arg5) = m ((c.tc : Thread Cert.FfnLastIdeal.nD Cert.FfnLastIdeal.τ).loc Cert.FfnLastIdeal.main_arg5))
      ∧ r.2.sem = fun _ => 0)

def quiescent_FfnLastReferenceIdeal [hFfnLastReferenceIdeal : Cert.FfnLastReferenceIdeal.Facts] : Prop :=
  ∀ (m : (ℓ : Loc Cert.FfnLastReferenceIdeal.nD Cert.FfnLastReferenceIdeal.τ Cert.FfnLastReferenceIdeal.sig) → Buf (Elt Ideal) ℓ) (g : Dev Cert.FfnLastReferenceIdeal.nD → PrngReg), Pre_FfnLastReferenceIdeal m →
    θ_run (Cert.FfnLastReferenceIdeal.defs (F := Ideal)) (onTc (τ := Cert.FfnLastReferenceIdeal.τ) (Cert.FfnLastReferenceIdeal.main (F := Ideal))) ⟨m, fun _ => 0, g⟩ (fun r => (∀ c : Dev Cert.FfnLastReferenceIdeal.nD,
      r.2.mem ((c.tc : Thread Cert.FfnLastReferenceIdeal.nD Cert.FfnLastReferenceIdeal.τ).loc Cert.FfnLastReferenceIdeal.main_arg0) = m ((c.tc : Thread Cert.FfnLastReferenceIdeal.nD Cert.FfnLastReferenceIdeal.τ).loc Cert.FfnLastReferenceIdeal.main_arg0)
      ∧ r.2.mem ((c.tc : Thread Cert.FfnLastReferenceIdeal.nD Cert.FfnLastReferenceIdeal.τ).loc Cert.FfnLastReferenceIdeal.main_arg1) = m ((c.tc : Thread Cert.FfnLastReferenceIdeal.nD Cert.FfnLastReferenceIdeal.τ).loc Cert.FfnLastReferenceIdeal.main_arg1)
      ∧ r.2.mem ((c.tc : Thread Cert.FfnLastReferenceIdeal.nD Cert.FfnLastReferenceIdeal.τ).loc Cert.FfnLastReferenceIdeal.main_arg2) = m ((c.tc : Thread Cert.FfnLastReferenceIdeal.nD Cert.FfnLastReferenceIdeal.τ).loc Cert.FfnLastReferenceIdeal.main_arg2)
      ∧ r.2.mem ((c.tc : Thread Cert.FfnLastReferenceIdeal.nD Cert.FfnLastReferenceIdeal.τ).loc Cert.FfnLastReferenceIdeal.main_arg3) = m ((c.tc : Thread Cert.FfnLastReferenceIdeal.nD Cert.FfnLastReferenceIdeal.τ).loc Cert.FfnLastReferenceIdeal.main_arg3)
      ∧ r.2.mem ((c.tc : Thread Cert.FfnLastReferenceIdeal.nD Cert.FfnLastReferenceIdeal.τ).loc Cert.FfnLastReferenceIdeal.main_arg4) = m ((c.tc : Thread Cert.FfnLastReferenceIdeal.nD Cert.FfnLastReferenceIdeal.τ).loc Cert.FfnLastReferenceIdeal.main_arg4)
      ∧ r.2.mem ((c.tc : Thread Cert.FfnLastReferenceIdeal.nD Cert.FfnLastReferenceIdeal.τ).loc Cert.FfnLastReferenceIdeal.main_arg5) = m ((c.tc : Thread Cert.FfnLastReferenceIdeal.nD Cert.FfnLastReferenceIdeal.τ).loc Cert.FfnLastReferenceIdeal.main_arg5))
      ∧ r.2.sem = fun _ => 0)

def quiescent_DownQ [hDownQ : Cert.DownQ.Facts] : Prop :=
  ∀ (m : (ℓ : Loc Cert.DownQ.nD Cert.DownQ.τ Cert.DownQ.sig) → Buf (Elt Bits) ℓ) (g : Dev Cert.DownQ.nD → PrngReg), Pre_DownQ m →
    θ_run (Cert.DownQ.defs (F := Bits)) (onTc (τ := Cert.DownQ.τ) (Cert.DownQ.main (F := Bits))) ⟨m, fun _ => 0, g⟩ (fun r => (∀ c : Dev Cert.DownQ.nD,
      r.2.mem ((c.tc : Thread Cert.DownQ.nD Cert.DownQ.τ).loc Cert.DownQ.main_arg0) = m ((c.tc : Thread Cert.DownQ.nD Cert.DownQ.τ).loc Cert.DownQ.main_arg0)
      ∧ r.2.mem ((c.tc : Thread Cert.DownQ.nD Cert.DownQ.τ).loc Cert.DownQ.main_arg1) = m ((c.tc : Thread Cert.DownQ.nD Cert.DownQ.τ).loc Cert.DownQ.main_arg1)
      ∧ r.2.mem ((c.tc : Thread Cert.DownQ.nD Cert.DownQ.τ).loc Cert.DownQ.main_arg2) = m ((c.tc : Thread Cert.DownQ.nD Cert.DownQ.τ).loc Cert.DownQ.main_arg2))
      ∧ r.2.sem = fun _ => 0)

def quiescent_DownQIdeal [hDownQIdeal : Cert.DownQIdeal.Facts] : Prop :=
  ∀ (m : (ℓ : Loc Cert.DownQIdeal.nD Cert.DownQIdeal.τ Cert.DownQIdeal.sig) → Buf (Elt Ideal) ℓ) (g : Dev Cert.DownQIdeal.nD → PrngReg), Pre_DownQIdeal m →
    θ_run (Cert.DownQIdeal.defs (F := Ideal)) (onTc (τ := Cert.DownQIdeal.τ) (Cert.DownQIdeal.main (F := Ideal))) ⟨m, fun _ => 0, g⟩ (fun r => (∀ c : Dev Cert.DownQIdeal.nD,
      r.2.mem ((c.tc : Thread Cert.DownQIdeal.nD Cert.DownQIdeal.τ).loc Cert.DownQIdeal.main_arg0) = m ((c.tc : Thread Cert.DownQIdeal.nD Cert.DownQIdeal.τ).loc Cert.DownQIdeal.main_arg0)
      ∧ r.2.mem ((c.tc : Thread Cert.DownQIdeal.nD Cert.DownQIdeal.τ).loc Cert.DownQIdeal.main_arg1) = m ((c.tc : Thread Cert.DownQIdeal.nD Cert.DownQIdeal.τ).loc Cert.DownQIdeal.main_arg1)
      ∧ r.2.mem ((c.tc : Thread Cert.DownQIdeal.nD Cert.DownQIdeal.τ).loc Cert.DownQIdeal.main_arg2) = m ((c.tc : Thread Cert.DownQIdeal.nD Cert.DownQIdeal.τ).loc Cert.DownQIdeal.main_arg2))
      ∧ r.2.sem = fun _ => 0)

def quiescent_DownQReferenceIdeal [hDownQReferenceIdeal : Cert.DownQReferenceIdeal.Facts] : Prop :=
  ∀ (m : (ℓ : Loc Cert.DownQReferenceIdeal.nD Cert.DownQReferenceIdeal.τ Cert.DownQReferenceIdeal.sig) → Buf (Elt Ideal) ℓ) (g : Dev Cert.DownQReferenceIdeal.nD → PrngReg), Pre_DownQReferenceIdeal m →
    θ_run (Cert.DownQReferenceIdeal.defs (F := Ideal)) (onTc (τ := Cert.DownQReferenceIdeal.τ) (Cert.DownQReferenceIdeal.main (F := Ideal))) ⟨m, fun _ => 0, g⟩ (fun r => (∀ c : Dev Cert.DownQReferenceIdeal.nD,
      r.2.mem ((c.tc : Thread Cert.DownQReferenceIdeal.nD Cert.DownQReferenceIdeal.τ).loc Cert.DownQReferenceIdeal.main_arg0) = m ((c.tc : Thread Cert.DownQReferenceIdeal.nD Cert.DownQReferenceIdeal.τ).loc Cert.DownQReferenceIdeal.main_arg0)
      ∧ r.2.mem ((c.tc : Thread Cert.DownQReferenceIdeal.nD Cert.DownQReferenceIdeal.τ).loc Cert.DownQReferenceIdeal.main_arg1) = m ((c.tc : Thread Cert.DownQReferenceIdeal.nD Cert.DownQReferenceIdeal.τ).loc Cert.DownQReferenceIdeal.main_arg1)
      ∧ r.2.mem ((c.tc : Thread Cert.DownQReferenceIdeal.nD Cert.DownQReferenceIdeal.τ).loc Cert.DownQReferenceIdeal.main_arg2) = m ((c.tc : Thread Cert.DownQReferenceIdeal.nD Cert.DownQReferenceIdeal.τ).loc Cert.DownQReferenceIdeal.main_arg2))
      ∧ r.2.sem = fun _ => 0)

def quiescent_DownKv [hDownKv : Cert.DownKv.Facts] : Prop :=
  ∀ (m : (ℓ : Loc Cert.DownKv.nD Cert.DownKv.τ Cert.DownKv.sig) → Buf (Elt Bits) ℓ) (g : Dev Cert.DownKv.nD → PrngReg), Pre_DownKv m →
    θ_run (Cert.DownKv.defs (F := Bits)) (onTc (τ := Cert.DownKv.τ) (Cert.DownKv.main (F := Bits))) ⟨m, fun _ => 0, g⟩ (fun r => (∀ c : Dev Cert.DownKv.nD,
      r.2.mem ((c.tc : Thread Cert.DownKv.nD Cert.DownKv.τ).loc Cert.DownKv.main_arg0) = m ((c.tc : Thread Cert.DownKv.nD Cert.DownKv.τ).loc Cert.DownKv.main_arg0)
      ∧ r.2.mem ((c.tc : Thread Cert.DownKv.nD Cert.DownKv.τ).loc Cert.DownKv.main_arg1) = m ((c.tc : Thread Cert.DownKv.nD Cert.DownKv.τ).loc Cert.DownKv.main_arg1)
      ∧ r.2.mem ((c.tc : Thread Cert.DownKv.nD Cert.DownKv.τ).loc Cert.DownKv.main_arg2) = m ((c.tc : Thread Cert.DownKv.nD Cert.DownKv.τ).loc Cert.DownKv.main_arg2))
      ∧ r.2.sem = fun _ => 0)

def quiescent_DownKvIdeal [hDownKvIdeal : Cert.DownKvIdeal.Facts] : Prop :=
  ∀ (m : (ℓ : Loc Cert.DownKvIdeal.nD Cert.DownKvIdeal.τ Cert.DownKvIdeal.sig) → Buf (Elt Ideal) ℓ) (g : Dev Cert.DownKvIdeal.nD → PrngReg), Pre_DownKvIdeal m →
    θ_run (Cert.DownKvIdeal.defs (F := Ideal)) (onTc (τ := Cert.DownKvIdeal.τ) (Cert.DownKvIdeal.main (F := Ideal))) ⟨m, fun _ => 0, g⟩ (fun r => (∀ c : Dev Cert.DownKvIdeal.nD,
      r.2.mem ((c.tc : Thread Cert.DownKvIdeal.nD Cert.DownKvIdeal.τ).loc Cert.DownKvIdeal.main_arg0) = m ((c.tc : Thread Cert.DownKvIdeal.nD Cert.DownKvIdeal.τ).loc Cert.DownKvIdeal.main_arg0)
      ∧ r.2.mem ((c.tc : Thread Cert.DownKvIdeal.nD Cert.DownKvIdeal.τ).loc Cert.DownKvIdeal.main_arg1) = m ((c.tc : Thread Cert.DownKvIdeal.nD Cert.DownKvIdeal.τ).loc Cert.DownKvIdeal.main_arg1)
      ∧ r.2.mem ((c.tc : Thread Cert.DownKvIdeal.nD Cert.DownKvIdeal.τ).loc Cert.DownKvIdeal.main_arg2) = m ((c.tc : Thread Cert.DownKvIdeal.nD Cert.DownKvIdeal.τ).loc Cert.DownKvIdeal.main_arg2))
      ∧ r.2.sem = fun _ => 0)

def quiescent_DownKvReferenceIdeal [hDownKvReferenceIdeal : Cert.DownKvReferenceIdeal.Facts] : Prop :=
  ∀ (m : (ℓ : Loc Cert.DownKvReferenceIdeal.nD Cert.DownKvReferenceIdeal.τ Cert.DownKvReferenceIdeal.sig) → Buf (Elt Ideal) ℓ) (g : Dev Cert.DownKvReferenceIdeal.nD → PrngReg), Pre_DownKvReferenceIdeal m →
    θ_run (Cert.DownKvReferenceIdeal.defs (F := Ideal)) (onTc (τ := Cert.DownKvReferenceIdeal.τ) (Cert.DownKvReferenceIdeal.main (F := Ideal))) ⟨m, fun _ => 0, g⟩ (fun r => (∀ c : Dev Cert.DownKvReferenceIdeal.nD,
      r.2.mem ((c.tc : Thread Cert.DownKvReferenceIdeal.nD Cert.DownKvReferenceIdeal.τ).loc Cert.DownKvReferenceIdeal.main_arg0) = m ((c.tc : Thread Cert.DownKvReferenceIdeal.nD Cert.DownKvReferenceIdeal.τ).loc Cert.DownKvReferenceIdeal.main_arg0)
      ∧ r.2.mem ((c.tc : Thread Cert.DownKvReferenceIdeal.nD Cert.DownKvReferenceIdeal.τ).loc Cert.DownKvReferenceIdeal.main_arg1) = m ((c.tc : Thread Cert.DownKvReferenceIdeal.nD Cert.DownKvReferenceIdeal.τ).loc Cert.DownKvReferenceIdeal.main_arg1)
      ∧ r.2.mem ((c.tc : Thread Cert.DownKvReferenceIdeal.nD Cert.DownKvReferenceIdeal.τ).loc Cert.DownKvReferenceIdeal.main_arg2) = m ((c.tc : Thread Cert.DownKvReferenceIdeal.nD Cert.DownKvReferenceIdeal.τ).loc Cert.DownKvReferenceIdeal.main_arg2))
      ∧ r.2.sem = fun _ => 0)

def quiescent_UpQ [hUpQ : Cert.UpQ.Facts] : Prop :=
  ∀ (m : (ℓ : Loc Cert.UpQ.nD Cert.UpQ.τ Cert.UpQ.sig) → Buf (Elt Bits) ℓ) (g : Dev Cert.UpQ.nD → PrngReg), Pre_UpQ m →
    θ_run (Cert.UpQ.defs (F := Bits)) (onTc (τ := Cert.UpQ.τ) (Cert.UpQ.main (F := Bits))) ⟨m, fun _ => 0, g⟩ (fun r => (∀ c : Dev Cert.UpQ.nD,
      r.2.mem ((c.tc : Thread Cert.UpQ.nD Cert.UpQ.τ).loc Cert.UpQ.main_arg0) = m ((c.tc : Thread Cert.UpQ.nD Cert.UpQ.τ).loc Cert.UpQ.main_arg0)
      ∧ r.2.mem ((c.tc : Thread Cert.UpQ.nD Cert.UpQ.τ).loc Cert.UpQ.main_arg1) = m ((c.tc : Thread Cert.UpQ.nD Cert.UpQ.τ).loc Cert.UpQ.main_arg1)
      ∧ r.2.mem ((c.tc : Thread Cert.UpQ.nD Cert.UpQ.τ).loc Cert.UpQ.main_arg2) = m ((c.tc : Thread Cert.UpQ.nD Cert.UpQ.τ).loc Cert.UpQ.main_arg2)
      ∧ r.2.mem ((c.tc : Thread Cert.UpQ.nD Cert.UpQ.τ).loc Cert.UpQ.main_arg3) = m ((c.tc : Thread Cert.UpQ.nD Cert.UpQ.τ).loc Cert.UpQ.main_arg3)
      ∧ r.2.mem ((c.tc : Thread Cert.UpQ.nD Cert.UpQ.τ).loc Cert.UpQ.main_arg4) = m ((c.tc : Thread Cert.UpQ.nD Cert.UpQ.τ).loc Cert.UpQ.main_arg4))
      ∧ r.2.sem = fun _ => 0)

def quiescent_UpQIdeal [hUpQIdeal : Cert.UpQIdeal.Facts] : Prop :=
  ∀ (m : (ℓ : Loc Cert.UpQIdeal.nD Cert.UpQIdeal.τ Cert.UpQIdeal.sig) → Buf (Elt Ideal) ℓ) (g : Dev Cert.UpQIdeal.nD → PrngReg), Pre_UpQIdeal m →
    θ_run (Cert.UpQIdeal.defs (F := Ideal)) (onTc (τ := Cert.UpQIdeal.τ) (Cert.UpQIdeal.main (F := Ideal))) ⟨m, fun _ => 0, g⟩ (fun r => (∀ c : Dev Cert.UpQIdeal.nD,
      r.2.mem ((c.tc : Thread Cert.UpQIdeal.nD Cert.UpQIdeal.τ).loc Cert.UpQIdeal.main_arg0) = m ((c.tc : Thread Cert.UpQIdeal.nD Cert.UpQIdeal.τ).loc Cert.UpQIdeal.main_arg0)
      ∧ r.2.mem ((c.tc : Thread Cert.UpQIdeal.nD Cert.UpQIdeal.τ).loc Cert.UpQIdeal.main_arg1) = m ((c.tc : Thread Cert.UpQIdeal.nD Cert.UpQIdeal.τ).loc Cert.UpQIdeal.main_arg1)
      ∧ r.2.mem ((c.tc : Thread Cert.UpQIdeal.nD Cert.UpQIdeal.τ).loc Cert.UpQIdeal.main_arg2) = m ((c.tc : Thread Cert.UpQIdeal.nD Cert.UpQIdeal.τ).loc Cert.UpQIdeal.main_arg2)
      ∧ r.2.mem ((c.tc : Thread Cert.UpQIdeal.nD Cert.UpQIdeal.τ).loc Cert.UpQIdeal.main_arg3) = m ((c.tc : Thread Cert.UpQIdeal.nD Cert.UpQIdeal.τ).loc Cert.UpQIdeal.main_arg3)
      ∧ r.2.mem ((c.tc : Thread Cert.UpQIdeal.nD Cert.UpQIdeal.τ).loc Cert.UpQIdeal.main_arg4) = m ((c.tc : Thread Cert.UpQIdeal.nD Cert.UpQIdeal.τ).loc Cert.UpQIdeal.main_arg4))
      ∧ r.2.sem = fun _ => 0)

def quiescent_UpQReferenceIdeal [hUpQReferenceIdeal : Cert.UpQReferenceIdeal.Facts] : Prop :=
  ∀ (m : (ℓ : Loc Cert.UpQReferenceIdeal.nD Cert.UpQReferenceIdeal.τ Cert.UpQReferenceIdeal.sig) → Buf (Elt Ideal) ℓ) (g : Dev Cert.UpQReferenceIdeal.nD → PrngReg), Pre_UpQReferenceIdeal m →
    θ_run (Cert.UpQReferenceIdeal.defs (F := Ideal)) (onTc (τ := Cert.UpQReferenceIdeal.τ) (Cert.UpQReferenceIdeal.main (F := Ideal))) ⟨m, fun _ => 0, g⟩ (fun r => (∀ c : Dev Cert.UpQReferenceIdeal.nD,
      r.2.mem ((c.tc : Thread Cert.UpQReferenceIdeal.nD Cert.UpQReferenceIdeal.τ).loc Cert.UpQReferenceIdeal.main_arg0) = m ((c.tc : Thread Cert.UpQReferenceIdeal.nD Cert.UpQReferenceIdeal.τ).loc Cert.UpQReferenceIdeal.main_arg0)
      ∧ r.2.mem ((c.tc : Thread Cert.UpQReferenceIdeal.nD Cert.UpQReferenceIdeal.τ).loc Cert.UpQReferenceIdeal.main_arg1) = m ((c.tc : Thread Cert.UpQReferenceIdeal.nD Cert.UpQReferenceIdeal.τ).loc Cert.UpQReferenceIdeal.main_arg1)
      ∧ r.2.mem ((c.tc : Thread Cert.UpQReferenceIdeal.nD Cert.UpQReferenceIdeal.τ).loc Cert.UpQReferenceIdeal.main_arg2) = m ((c.tc : Thread Cert.UpQReferenceIdeal.nD Cert.UpQReferenceIdeal.τ).loc Cert.UpQReferenceIdeal.main_arg2)
      ∧ r.2.mem ((c.tc : Thread Cert.UpQReferenceIdeal.nD Cert.UpQReferenceIdeal.τ).loc Cert.UpQReferenceIdeal.main_arg3) = m ((c.tc : Thread Cert.UpQReferenceIdeal.nD Cert.UpQReferenceIdeal.τ).loc Cert.UpQReferenceIdeal.main_arg3)
      ∧ r.2.mem ((c.tc : Thread Cert.UpQReferenceIdeal.nD Cert.UpQReferenceIdeal.τ).loc Cert.UpQReferenceIdeal.main_arg4) = m ((c.tc : Thread Cert.UpQReferenceIdeal.nD Cert.UpQReferenceIdeal.τ).loc Cert.UpQReferenceIdeal.main_arg4))
      ∧ r.2.sem = fun _ => 0)

def preserves_Kernel_KernelIdeal : Prop :=
  True

def algebraic_KernelIdeal_ReferenceIdeal_pre_finite_scores [hKernelIdeal : Cert.KernelIdeal.Facts] [hReferenceIdeal : Cert.ReferenceIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scores m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v22)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v22) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_InProj_InProjIdeal : Prop :=
  True

def algebraic_InProjIdeal_InProjReferenceIdeal [hInProjIdeal : Cert.InProjIdeal.Facts] [hInProjReferenceIdeal : Cert.InProjReferenceIdeal.Facts] : Prop :=
  ∀ (m : (ℓ : Loc Cert.InProjIdeal.nD Cert.InProjIdeal.τ Cert.InProjIdeal.sig) → Buf (Elt Ideal) ℓ) (g : Dev Cert.InProjIdeal.nD → PrngReg)
    (m' : (ℓ : Loc Cert.InProjReferenceIdeal.nD Cert.InProjReferenceIdeal.τ Cert.InProjReferenceIdeal.sig) → Buf (Elt Ideal) ℓ) (g' : Dev Cert.InProjReferenceIdeal.nD → PrngReg), Pre_InProjIdeal m →
    (∀ c : Dev Cert.InProjIdeal.nD,
      m' ((c.tc : Thread Cert.InProjReferenceIdeal.nD Cert.InProjReferenceIdeal.τ).loc Cert.InProjReferenceIdeal.main_arg0) = m ((c.tc : Thread Cert.InProjIdeal.nD Cert.InProjIdeal.τ).loc Cert.InProjIdeal.main_arg0)
      ∧ m' ((c.tc : Thread Cert.InProjReferenceIdeal.nD Cert.InProjReferenceIdeal.τ).loc Cert.InProjReferenceIdeal.main_arg1) = m ((c.tc : Thread Cert.InProjIdeal.nD Cert.InProjIdeal.τ).loc Cert.InProjIdeal.main_arg1)) →
    ∃ (v0 : (c : Dev Cert.InProjIdeal.nD) → Buf (Elt Ideal) ((c.tc : Thread Cert.InProjIdeal.nD Cert.InProjIdeal.τ).loc Cert.InProjIdeal.main_v2)),
      θ_run (Cert.InProjIdeal.defs (F := Ideal)) (onTc (τ := Cert.InProjIdeal.τ) (Cert.InProjIdeal.main (F := Ideal))) ⟨m, fun _ => 0, g⟩ (fun r => ∀ c : Dev Cert.InProjIdeal.nD,
          r.2.mem ((c.tc : Thread Cert.InProjIdeal.nD Cert.InProjIdeal.τ).loc Cert.InProjIdeal.main_v2) = v0 c
          ∧ r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
          ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1))
      ∧ θ_run (Cert.InProjReferenceIdeal.defs (F := Ideal)) (onTc (τ := Cert.InProjReferenceIdeal.τ) (Cert.InProjReferenceIdeal.main (F := Ideal))) ⟨m', fun _ => 0, g'⟩ (fun r => ∀ c : Dev Cert.InProjReferenceIdeal.nD,
          r.2.mem ((c.tc : Thread Cert.InProjReferenceIdeal.nD Cert.InProjReferenceIdeal.τ).loc Cert.InProjReferenceIdeal.main_v1) = v0 c
          ∧ r.2.mem ((c.tc : Thread Cert.InProjReferenceIdeal.nD Cert.InProjReferenceIdeal.τ).loc Cert.InProjReferenceIdeal.main_arg0) = m' ((c.tc : Thread Cert.InProjReferenceIdeal.nD Cert.InProjReferenceIdeal.τ).loc Cert.InProjReferenceIdeal.main_arg0)
          ∧ r.2.mem ((c.tc : Thread Cert.InProjReferenceIdeal.nD Cert.InProjReferenceIdeal.τ).loc Cert.InProjReferenceIdeal.main_arg1) = m' ((c.tc : Thread Cert.InProjReferenceIdeal.nD Cert.InProjReferenceIdeal.τ).loc Cert.InProjReferenceIdeal.main_arg1))

def preserves_OutProj_OutProjIdeal : Prop :=
  True

def algebraic_OutProjIdeal_OutProjReferenceIdeal [hOutProjIdeal : Cert.OutProjIdeal.Facts] [hOutProjReferenceIdeal : Cert.OutProjReferenceIdeal.Facts] : Prop :=
  ∀ (m : (ℓ : Loc Cert.OutProjIdeal.nD Cert.OutProjIdeal.τ Cert.OutProjIdeal.sig) → Buf (Elt Ideal) ℓ) (g : Dev Cert.OutProjIdeal.nD → PrngReg)
    (m' : (ℓ : Loc Cert.OutProjReferenceIdeal.nD Cert.OutProjReferenceIdeal.τ Cert.OutProjReferenceIdeal.sig) → Buf (Elt Ideal) ℓ) (g' : Dev Cert.OutProjReferenceIdeal.nD → PrngReg), Pre_OutProjIdeal m →
    (∀ c : Dev Cert.OutProjIdeal.nD,
      m' ((c.tc : Thread Cert.OutProjReferenceIdeal.nD Cert.OutProjReferenceIdeal.τ).loc Cert.OutProjReferenceIdeal.main_arg0) = m ((c.tc : Thread Cert.OutProjIdeal.nD Cert.OutProjIdeal.τ).loc Cert.OutProjIdeal.main_arg0)
      ∧ m' ((c.tc : Thread Cert.OutProjReferenceIdeal.nD Cert.OutProjReferenceIdeal.τ).loc Cert.OutProjReferenceIdeal.main_arg1) = m ((c.tc : Thread Cert.OutProjIdeal.nD Cert.OutProjIdeal.τ).loc Cert.OutProjIdeal.main_arg1)
      ∧ m' ((c.tc : Thread Cert.OutProjReferenceIdeal.nD Cert.OutProjReferenceIdeal.τ).loc Cert.OutProjReferenceIdeal.main_arg2) = m ((c.tc : Thread Cert.OutProjIdeal.nD Cert.OutProjIdeal.τ).loc Cert.OutProjIdeal.main_arg2)
      ∧ m' ((c.tc : Thread Cert.OutProjReferenceIdeal.nD Cert.OutProjReferenceIdeal.τ).loc Cert.OutProjReferenceIdeal.main_arg3) = m ((c.tc : Thread Cert.OutProjIdeal.nD Cert.OutProjIdeal.τ).loc Cert.OutProjIdeal.main_arg3)) →
    ∃ (v0 : (c : Dev Cert.OutProjIdeal.nD) → Buf (Elt Ideal) ((c.tc : Thread Cert.OutProjIdeal.nD Cert.OutProjIdeal.τ).loc Cert.OutProjIdeal.main_v2)),
      θ_run (Cert.OutProjIdeal.defs (F := Ideal)) (onTc (τ := Cert.OutProjIdeal.τ) (Cert.OutProjIdeal.main (F := Ideal))) ⟨m, fun _ => 0, g⟩ (fun r => ∀ c : Dev Cert.OutProjIdeal.nD,
          r.2.mem ((c.tc : Thread Cert.OutProjIdeal.nD Cert.OutProjIdeal.τ).loc Cert.OutProjIdeal.main_v2) = v0 c
          ∧ r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
          ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
          ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2)
          ∧ r.2.mem ((c.tc : Thread Cert.OutProjIdeal.nD Cert.OutProjIdeal.τ).loc Cert.OutProjIdeal.main_arg3) = m ((c.tc : Thread Cert.OutProjIdeal.nD Cert.OutProjIdeal.τ).loc Cert.OutProjIdeal.main_arg3))
      ∧ θ_run (Cert.OutProjReferenceIdeal.defs (F := Ideal)) (onTc (τ := Cert.OutProjReferenceIdeal.τ) (Cert.OutProjReferenceIdeal.main (F := Ideal))) ⟨m', fun _ => 0, g'⟩ (fun r => ∀ c : Dev Cert.OutProjReferenceIdeal.nD,
          r.2.mem ((c.tc : Thread Cert.OutProjReferenceIdeal.nD Cert.OutProjReferenceIdeal.τ).loc Cert.OutProjReferenceIdeal.main_v3) = v0 c
          ∧ r.2.mem ((c.tc : Thread Cert.OutProjReferenceIdeal.nD Cert.OutProjReferenceIdeal.τ).loc Cert.OutProjReferenceIdeal.main_arg0) = m' ((c.tc : Thread Cert.OutProjReferenceIdeal.nD Cert.OutProjReferenceIdeal.τ).loc Cert.OutProjReferenceIdeal.main_arg0)
          ∧ r.2.mem ((c.tc : Thread Cert.OutProjReferenceIdeal.nD Cert.OutProjReferenceIdeal.τ).loc Cert.OutProjReferenceIdeal.main_arg1) = m' ((c.tc : Thread Cert.OutProjReferenceIdeal.nD Cert.OutProjReferenceIdeal.τ).loc Cert.OutProjReferenceIdeal.main_arg1)
          ∧ r.2.mem ((c.tc : Thread Cert.OutProjReferenceIdeal.nD Cert.OutProjReferenceIdeal.τ).loc Cert.OutProjReferenceIdeal.main_arg2) = m' ((c.tc : Thread Cert.OutProjReferenceIdeal.nD Cert.OutProjReferenceIdeal.τ).loc Cert.OutProjReferenceIdeal.main_arg2)
          ∧ r.2.mem ((c.tc : Thread Cert.OutProjReferenceIdeal.nD Cert.OutProjReferenceIdeal.τ).loc Cert.OutProjReferenceIdeal.main_arg3) = m' ((c.tc : Thread Cert.OutProjReferenceIdeal.nD Cert.OutProjReferenceIdeal.τ).loc Cert.OutProjReferenceIdeal.main_arg3))

def preserves_Ffn_FfnIdeal : Prop :=
  True

def algebraic_FfnIdeal_FfnReferenceIdeal [hFfnIdeal : Cert.FfnIdeal.Facts] [hFfnReferenceIdeal : Cert.FfnReferenceIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnReferenceIdeal.nD Cert.FfnReferenceIdeal.τ Cert.FfnReferenceIdeal.sig) → Buf (Elt Ideal) ℓ) (g' : Dev Cert.FfnReferenceIdeal.nD → PrngReg), Pre_FfnIdeal m →
    (∀ c : Dev Cert.FfnIdeal.nD,
      m' ((c.tc : Thread Cert.FfnReferenceIdeal.nD Cert.FfnReferenceIdeal.τ).loc Cert.FfnReferenceIdeal.main_arg0) = m ((c.tc : Thread Cert.FfnIdeal.nD Cert.FfnIdeal.τ).loc Cert.FfnIdeal.main_arg0)
      ∧ m' ((c.tc : Thread Cert.FfnReferenceIdeal.nD Cert.FfnReferenceIdeal.τ).loc Cert.FfnReferenceIdeal.main_arg1) = m ((c.tc : Thread Cert.FfnIdeal.nD Cert.FfnIdeal.τ).loc Cert.FfnIdeal.main_arg1)
      ∧ m' ((c.tc : Thread Cert.FfnReferenceIdeal.nD Cert.FfnReferenceIdeal.τ).loc Cert.FfnReferenceIdeal.main_arg2) = m ((c.tc : Thread Cert.FfnIdeal.nD Cert.FfnIdeal.τ).loc Cert.FfnIdeal.main_arg2)
      ∧ m' ((c.tc : Thread Cert.FfnReferenceIdeal.nD Cert.FfnReferenceIdeal.τ).loc Cert.FfnReferenceIdeal.main_arg3) = m ((c.tc : Thread Cert.FfnIdeal.nD Cert.FfnIdeal.τ).loc Cert.FfnIdeal.main_arg3)
      ∧ m' ((c.tc : Thread Cert.FfnReferenceIdeal.nD Cert.FfnReferenceIdeal.τ).loc Cert.FfnReferenceIdeal.main_arg4) = m ((c.tc : Thread Cert.FfnIdeal.nD Cert.FfnIdeal.τ).loc Cert.FfnIdeal.main_arg4)
      ∧ m' ((c.tc : Thread Cert.FfnReferenceIdeal.nD Cert.FfnReferenceIdeal.τ).loc Cert.FfnReferenceIdeal.main_arg5) = m ((c.tc : Thread Cert.FfnIdeal.nD Cert.FfnIdeal.τ).loc Cert.FfnIdeal.main_arg5)
      ∧ m' ((c.tc : Thread Cert.FfnReferenceIdeal.nD Cert.FfnReferenceIdeal.τ).loc Cert.FfnReferenceIdeal.main_arg6) = m ((c.tc : Thread Cert.FfnIdeal.nD Cert.FfnIdeal.τ).loc Cert.FfnIdeal.main_arg6)
      ∧ m' ((c.tc : Thread Cert.FfnReferenceIdeal.nD Cert.FfnReferenceIdeal.τ).loc Cert.FfnReferenceIdeal.main_arg7) = m ((c.tc : Thread Cert.FfnIdeal.nD Cert.FfnIdeal.τ).loc Cert.FfnIdeal.main_arg7)
      ∧ m' ((c.tc : Thread Cert.FfnReferenceIdeal.nD Cert.FfnReferenceIdeal.τ).loc Cert.FfnReferenceIdeal.main_arg8) = m ((c.tc : Thread Cert.FfnIdeal.nD Cert.FfnIdeal.τ).loc Cert.FfnIdeal.main_arg8)) →
    ∃ (v0 : (c : Dev Cert.FfnIdeal.nD) → Buf (Elt Ideal) ((c.tc : Thread Cert.FfnIdeal.nD Cert.FfnIdeal.τ).loc Cert.FfnIdeal.main_v3_0)) (v1 : (c : Dev Cert.FfnIdeal.nD) → Buf (Elt Ideal) ((c.tc : Thread Cert.FfnIdeal.nD Cert.FfnIdeal.τ).loc Cert.FfnIdeal.main_v3_1)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v3_0) = v0 c
          ∧ r.2.mem ((c.tc : Thread Cert.FfnIdeal.nD Cert.FfnIdeal.τ).loc Cert.FfnIdeal.main_v3_1) = v1 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
          ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5)
          ∧ r.2.mem ((c.tc : Thread Cert.FfnIdeal.nD Cert.FfnIdeal.τ).loc Cert.FfnIdeal.main_arg6) = m ((c.tc : Thread Cert.FfnIdeal.nD Cert.FfnIdeal.τ).loc Cert.FfnIdeal.main_arg6)
          ∧ r.2.mem ((c.tc : Thread Cert.FfnIdeal.nD Cert.FfnIdeal.τ).loc Cert.FfnIdeal.main_arg7) = m ((c.tc : Thread Cert.FfnIdeal.nD Cert.FfnIdeal.τ).loc Cert.FfnIdeal.main_arg7)
          ∧ r.2.mem ((c.tc : Thread Cert.FfnIdeal.nD Cert.FfnIdeal.τ).loc Cert.FfnIdeal.main_arg8) = m ((c.tc : Thread Cert.FfnIdeal.nD Cert.FfnIdeal.τ).loc Cert.FfnIdeal.main_arg8))
      ∧ θ_run (Cert.FfnReferenceIdeal.defs (F := Ideal)) (onTc (τ := Cert.FfnReferenceIdeal.τ) (Cert.FfnReferenceIdeal.main (F := Ideal))) ⟨m', fun _ => 0, g'⟩ (fun r => ∀ c : Dev Cert.FfnReferenceIdeal.nD,
          r.2.mem ((c.tc : Thread Cert.FfnReferenceIdeal.nD Cert.FfnReferenceIdeal.τ).loc Cert.FfnReferenceIdeal.main_v25) = v0 c
          ∧ r.2.mem ((c.tc : Thread Cert.FfnReferenceIdeal.nD Cert.FfnReferenceIdeal.τ).loc Cert.FfnReferenceIdeal.main_v52) = v1 c
          ∧ r.2.mem ((c.tc : Thread Cert.FfnReferenceIdeal.nD Cert.FfnReferenceIdeal.τ).loc Cert.FfnReferenceIdeal.main_arg0) = m' ((c.tc : Thread Cert.FfnReferenceIdeal.nD Cert.FfnReferenceIdeal.τ).loc Cert.FfnReferenceIdeal.main_arg0)
          ∧ r.2.mem ((c.tc : Thread Cert.FfnReferenceIdeal.nD Cert.FfnReferenceIdeal.τ).loc Cert.FfnReferenceIdeal.main_arg1) = m' ((c.tc : Thread Cert.FfnReferenceIdeal.nD Cert.FfnReferenceIdeal.τ).loc Cert.FfnReferenceIdeal.main_arg1)
          ∧ r.2.mem ((c.tc : Thread Cert.FfnReferenceIdeal.nD Cert.FfnReferenceIdeal.τ).loc Cert.FfnReferenceIdeal.main_arg2) = m' ((c.tc : Thread Cert.FfnReferenceIdeal.nD Cert.FfnReferenceIdeal.τ).loc Cert.FfnReferenceIdeal.main_arg2)
          ∧ r.2.mem ((c.tc : Thread Cert.FfnReferenceIdeal.nD Cert.FfnReferenceIdeal.τ).loc Cert.FfnReferenceIdeal.main_arg3) = m' ((c.tc : Thread Cert.FfnReferenceIdeal.nD Cert.FfnReferenceIdeal.τ).loc Cert.FfnReferenceIdeal.main_arg3)
          ∧ r.2.mem ((c.tc : Thread Cert.FfnReferenceIdeal.nD Cert.FfnReferenceIdeal.τ).loc Cert.FfnReferenceIdeal.main_arg4) = m' ((c.tc : Thread Cert.FfnReferenceIdeal.nD Cert.FfnReferenceIdeal.τ).loc Cert.FfnReferenceIdeal.main_arg4)
          ∧ r.2.mem ((c.tc : Thread Cert.FfnReferenceIdeal.nD Cert.FfnReferenceIdeal.τ).loc Cert.FfnReferenceIdeal.main_arg5) = m' ((c.tc : Thread Cert.FfnReferenceIdeal.nD Cert.FfnReferenceIdeal.τ).loc Cert.FfnReferenceIdeal.main_arg5)
          ∧ r.2.mem ((c.tc : Thread Cert.FfnReferenceIdeal.nD Cert.FfnReferenceIdeal.τ).loc Cert.FfnReferenceIdeal.main_arg6) = m' ((c.tc : Thread Cert.FfnReferenceIdeal.nD Cert.FfnReferenceIdeal.τ).loc Cert.FfnReferenceIdeal.main_arg6)
          ∧ r.2.mem ((c.tc : Thread Cert.FfnReferenceIdeal.nD Cert.FfnReferenceIdeal.τ).loc Cert.FfnReferenceIdeal.main_arg7) = m' ((c.tc : Thread Cert.FfnReferenceIdeal.nD Cert.FfnReferenceIdeal.τ).loc Cert.FfnReferenceIdeal.main_arg7)
          ∧ r.2.mem ((c.tc : Thread Cert.FfnReferenceIdeal.nD Cert.FfnReferenceIdeal.τ).loc Cert.FfnReferenceIdeal.main_arg8) = m' ((c.tc : Thread Cert.FfnReferenceIdeal.nD Cert.FfnReferenceIdeal.τ).loc Cert.FfnReferenceIdeal.main_arg8))

def preserves_FfnLast_FfnLastIdeal : Prop :=
  True

def algebraic_FfnLastIdeal_FfnLastReferenceIdeal [hFfnLastIdeal : Cert.FfnLastIdeal.Facts] [hFfnLastReferenceIdeal : Cert.FfnLastReferenceIdeal.Facts] : Prop :=
  ∀ (m : (ℓ : Loc Cert.FfnLastIdeal.nD Cert.FfnLastIdeal.τ Cert.FfnLastIdeal.sig) → Buf (Elt Ideal) ℓ) (g : Dev Cert.FfnLastIdeal.nD → PrngReg)
    (m' : (ℓ : Loc Cert.FfnLastReferenceIdeal.nD Cert.FfnLastReferenceIdeal.τ Cert.FfnLastReferenceIdeal.sig) → Buf (Elt Ideal) ℓ) (g' : Dev Cert.FfnLastReferenceIdeal.nD → PrngReg), Pre_FfnLastIdeal m →
    (∀ c : Dev Cert.FfnLastIdeal.nD,
      m' ((c.tc : Thread Cert.FfnLastReferenceIdeal.nD Cert.FfnLastReferenceIdeal.τ).loc Cert.FfnLastReferenceIdeal.main_arg0) = m ((c.tc : Thread Cert.FfnLastIdeal.nD Cert.FfnLastIdeal.τ).loc Cert.FfnLastIdeal.main_arg0)
      ∧ m' ((c.tc : Thread Cert.FfnLastReferenceIdeal.nD Cert.FfnLastReferenceIdeal.τ).loc Cert.FfnLastReferenceIdeal.main_arg1) = m ((c.tc : Thread Cert.FfnLastIdeal.nD Cert.FfnLastIdeal.τ).loc Cert.FfnLastIdeal.main_arg1)
      ∧ m' ((c.tc : Thread Cert.FfnLastReferenceIdeal.nD Cert.FfnLastReferenceIdeal.τ).loc Cert.FfnLastReferenceIdeal.main_arg2) = m ((c.tc : Thread Cert.FfnLastIdeal.nD Cert.FfnLastIdeal.τ).loc Cert.FfnLastIdeal.main_arg2)
      ∧ m' ((c.tc : Thread Cert.FfnLastReferenceIdeal.nD Cert.FfnLastReferenceIdeal.τ).loc Cert.FfnLastReferenceIdeal.main_arg3) = m ((c.tc : Thread Cert.FfnLastIdeal.nD Cert.FfnLastIdeal.τ).loc Cert.FfnLastIdeal.main_arg3)
      ∧ m' ((c.tc : Thread Cert.FfnLastReferenceIdeal.nD Cert.FfnLastReferenceIdeal.τ).loc Cert.FfnLastReferenceIdeal.main_arg4) = m ((c.tc : Thread Cert.FfnLastIdeal.nD Cert.FfnLastIdeal.τ).loc Cert.FfnLastIdeal.main_arg4)
      ∧ m' ((c.tc : Thread Cert.FfnLastReferenceIdeal.nD Cert.FfnLastReferenceIdeal.τ).loc Cert.FfnLastReferenceIdeal.main_arg5) = m ((c.tc : Thread Cert.FfnLastIdeal.nD Cert.FfnLastIdeal.τ).loc Cert.FfnLastIdeal.main_arg5)) →
    ∃ (v0 : (c : Dev Cert.FfnLastIdeal.nD) → Buf (Elt Ideal) ((c.tc : Thread Cert.FfnLastIdeal.nD Cert.FfnLastIdeal.τ).loc Cert.FfnLastIdeal.main_v3)),
      θ_run (Cert.FfnLastIdeal.defs (F := Ideal)) (onTc (τ := Cert.FfnLastIdeal.τ) (Cert.FfnLastIdeal.main (F := Ideal))) ⟨m, fun _ => 0, g⟩ (fun r => ∀ c : Dev Cert.FfnLastIdeal.nD,
          r.2.mem ((c.tc : Thread Cert.FfnLastIdeal.nD Cert.FfnLastIdeal.τ).loc Cert.FfnLastIdeal.main_v3) = v0 c
          ∧ r.2.mem ((c.tc : Thread Cert.FfnLastIdeal.nD Cert.FfnLastIdeal.τ).loc Cert.FfnLastIdeal.main_arg0) = m ((c.tc : Thread Cert.FfnLastIdeal.nD Cert.FfnLastIdeal.τ).loc Cert.FfnLastIdeal.main_arg0)
          ∧ r.2.mem ((c.tc : Thread Cert.FfnLastIdeal.nD Cert.FfnLastIdeal.τ).loc Cert.FfnLastIdeal.main_arg1) = m ((c.tc : Thread Cert.FfnLastIdeal.nD Cert.FfnLastIdeal.τ).loc Cert.FfnLastIdeal.main_arg1)
          ∧ r.2.mem ((c.tc : Thread Cert.FfnLastIdeal.nD Cert.FfnLastIdeal.τ).loc Cert.FfnLastIdeal.main_arg2) = m ((c.tc : Thread Cert.FfnLastIdeal.nD Cert.FfnLastIdeal.τ).loc Cert.FfnLastIdeal.main_arg2)
          ∧ r.2.mem ((c.tc : Thread Cert.FfnLastIdeal.nD Cert.FfnLastIdeal.τ).loc Cert.FfnLastIdeal.main_arg3) = m ((c.tc : Thread Cert.FfnLastIdeal.nD Cert.FfnLastIdeal.τ).loc Cert.FfnLastIdeal.main_arg3)
          ∧ r.2.mem ((c.tc : Thread Cert.FfnLastIdeal.nD Cert.FfnLastIdeal.τ).loc Cert.FfnLastIdeal.main_arg4) = m ((c.tc : Thread Cert.FfnLastIdeal.nD Cert.FfnLastIdeal.τ).loc Cert.FfnLastIdeal.main_arg4)
          ∧ r.2.mem ((c.tc : Thread Cert.FfnLastIdeal.nD Cert.FfnLastIdeal.τ).loc Cert.FfnLastIdeal.main_arg5) = m ((c.tc : Thread Cert.FfnLastIdeal.nD Cert.FfnLastIdeal.τ).loc Cert.FfnLastIdeal.main_arg5))
      ∧ θ_run (Cert.FfnLastReferenceIdeal.defs (F := Ideal)) (onTc (τ := Cert.FfnLastReferenceIdeal.τ) (Cert.FfnLastReferenceIdeal.main (F := Ideal))) ⟨m', fun _ => 0, g'⟩ (fun r => ∀ c : Dev Cert.FfnLastReferenceIdeal.nD,
          r.2.mem ((c.tc : Thread Cert.FfnLastReferenceIdeal.nD Cert.FfnLastReferenceIdeal.τ).loc Cert.FfnLastReferenceIdeal.main_v25) = v0 c
          ∧ r.2.mem ((c.tc : Thread Cert.FfnLastReferenceIdeal.nD Cert.FfnLastReferenceIdeal.τ).loc Cert.FfnLastReferenceIdeal.main_arg0) = m' ((c.tc : Thread Cert.FfnLastReferenceIdeal.nD Cert.FfnLastReferenceIdeal.τ).loc Cert.FfnLastReferenceIdeal.main_arg0)
          ∧ r.2.mem ((c.tc : Thread Cert.FfnLastReferenceIdeal.nD Cert.FfnLastReferenceIdeal.τ).loc Cert.FfnLastReferenceIdeal.main_arg1) = m' ((c.tc : Thread Cert.FfnLastReferenceIdeal.nD Cert.FfnLastReferenceIdeal.τ).loc Cert.FfnLastReferenceIdeal.main_arg1)
          ∧ r.2.mem ((c.tc : Thread Cert.FfnLastReferenceIdeal.nD Cert.FfnLastReferenceIdeal.τ).loc Cert.FfnLastReferenceIdeal.main_arg2) = m' ((c.tc : Thread Cert.FfnLastReferenceIdeal.nD Cert.FfnLastReferenceIdeal.τ).loc Cert.FfnLastReferenceIdeal.main_arg2)
          ∧ r.2.mem ((c.tc : Thread Cert.FfnLastReferenceIdeal.nD Cert.FfnLastReferenceIdeal.τ).loc Cert.FfnLastReferenceIdeal.main_arg3) = m' ((c.tc : Thread Cert.FfnLastReferenceIdeal.nD Cert.FfnLastReferenceIdeal.τ).loc Cert.FfnLastReferenceIdeal.main_arg3)
          ∧ r.2.mem ((c.tc : Thread Cert.FfnLastReferenceIdeal.nD Cert.FfnLastReferenceIdeal.τ).loc Cert.FfnLastReferenceIdeal.main_arg4) = m' ((c.tc : Thread Cert.FfnLastReferenceIdeal.nD Cert.FfnLastReferenceIdeal.τ).loc Cert.FfnLastReferenceIdeal.main_arg4)
          ∧ r.2.mem ((c.tc : Thread Cert.FfnLastReferenceIdeal.nD Cert.FfnLastReferenceIdeal.τ).loc Cert.FfnLastReferenceIdeal.main_arg5) = m' ((c.tc : Thread Cert.FfnLastReferenceIdeal.nD Cert.FfnLastReferenceIdeal.τ).loc Cert.FfnLastReferenceIdeal.main_arg5))

def preserves_DownQ_DownQIdeal : Prop :=
  True

def algebraic_DownQIdeal_DownQReferenceIdeal [hDownQIdeal : Cert.DownQIdeal.Facts] [hDownQReferenceIdeal : Cert.DownQReferenceIdeal.Facts] : Prop :=
  ∀ (m : (ℓ : Loc Cert.DownQIdeal.nD Cert.DownQIdeal.τ Cert.DownQIdeal.sig) → Buf (Elt Ideal) ℓ) (g : Dev Cert.DownQIdeal.nD → PrngReg)
    (m' : (ℓ : Loc Cert.DownQReferenceIdeal.nD Cert.DownQReferenceIdeal.τ Cert.DownQReferenceIdeal.sig) → Buf (Elt Ideal) ℓ) (g' : Dev Cert.DownQReferenceIdeal.nD → PrngReg), Pre_DownQIdeal m →
    (∀ c : Dev Cert.DownQIdeal.nD,
      m' ((c.tc : Thread Cert.DownQReferenceIdeal.nD Cert.DownQReferenceIdeal.τ).loc Cert.DownQReferenceIdeal.main_arg0) = m ((c.tc : Thread Cert.DownQIdeal.nD Cert.DownQIdeal.τ).loc Cert.DownQIdeal.main_arg0)
      ∧ m' ((c.tc : Thread Cert.DownQReferenceIdeal.nD Cert.DownQReferenceIdeal.τ).loc Cert.DownQReferenceIdeal.main_arg1) = m ((c.tc : Thread Cert.DownQIdeal.nD Cert.DownQIdeal.τ).loc Cert.DownQIdeal.main_arg1)
      ∧ m' ((c.tc : Thread Cert.DownQReferenceIdeal.nD Cert.DownQReferenceIdeal.τ).loc Cert.DownQReferenceIdeal.main_arg2) = m ((c.tc : Thread Cert.DownQIdeal.nD Cert.DownQIdeal.τ).loc Cert.DownQIdeal.main_arg2)) →
    ∃ (v0 : (c : Dev Cert.DownQIdeal.nD) → Buf (Elt Ideal) ((c.tc : Thread Cert.DownQIdeal.nD Cert.DownQIdeal.τ).loc Cert.DownQIdeal.main_v3)),
      θ_run (Cert.DownQIdeal.defs (F := Ideal)) (onTc (τ := Cert.DownQIdeal.τ) (Cert.DownQIdeal.main (F := Ideal))) ⟨m, fun _ => 0, g⟩ (fun r => ∀ c : Dev Cert.DownQIdeal.nD,
          r.2.mem ((c.tc : Thread Cert.DownQIdeal.nD Cert.DownQIdeal.τ).loc Cert.DownQIdeal.main_v3) = v0 c
          ∧ r.2.mem ((c.tc : Thread Cert.DownQIdeal.nD Cert.DownQIdeal.τ).loc Cert.DownQIdeal.main_arg0) = m ((c.tc : Thread Cert.DownQIdeal.nD Cert.DownQIdeal.τ).loc Cert.DownQIdeal.main_arg0)
          ∧ r.2.mem ((c.tc : Thread Cert.DownQIdeal.nD Cert.DownQIdeal.τ).loc Cert.DownQIdeal.main_arg1) = m ((c.tc : Thread Cert.DownQIdeal.nD Cert.DownQIdeal.τ).loc Cert.DownQIdeal.main_arg1)
          ∧ r.2.mem ((c.tc : Thread Cert.DownQIdeal.nD Cert.DownQIdeal.τ).loc Cert.DownQIdeal.main_arg2) = m ((c.tc : Thread Cert.DownQIdeal.nD Cert.DownQIdeal.τ).loc Cert.DownQIdeal.main_arg2))
      ∧ θ_run (Cert.DownQReferenceIdeal.defs (F := Ideal)) (onTc (τ := Cert.DownQReferenceIdeal.τ) (Cert.DownQReferenceIdeal.main (F := Ideal))) ⟨m', fun _ => 0, g'⟩ (fun r => ∀ c : Dev Cert.DownQReferenceIdeal.nD,
          r.2.mem ((c.tc : Thread Cert.DownQReferenceIdeal.nD Cert.DownQReferenceIdeal.τ).loc Cert.DownQReferenceIdeal.main_v14) = v0 c
          ∧ r.2.mem ((c.tc : Thread Cert.DownQReferenceIdeal.nD Cert.DownQReferenceIdeal.τ).loc Cert.DownQReferenceIdeal.main_arg0) = m' ((c.tc : Thread Cert.DownQReferenceIdeal.nD Cert.DownQReferenceIdeal.τ).loc Cert.DownQReferenceIdeal.main_arg0)
          ∧ r.2.mem ((c.tc : Thread Cert.DownQReferenceIdeal.nD Cert.DownQReferenceIdeal.τ).loc Cert.DownQReferenceIdeal.main_arg1) = m' ((c.tc : Thread Cert.DownQReferenceIdeal.nD Cert.DownQReferenceIdeal.τ).loc Cert.DownQReferenceIdeal.main_arg1)
          ∧ r.2.mem ((c.tc : Thread Cert.DownQReferenceIdeal.nD Cert.DownQReferenceIdeal.τ).loc Cert.DownQReferenceIdeal.main_arg2) = m' ((c.tc : Thread Cert.DownQReferenceIdeal.nD Cert.DownQReferenceIdeal.τ).loc Cert.DownQReferenceIdeal.main_arg2))

def preserves_DownKv_DownKvIdeal : Prop :=
  True

def algebraic_DownKvIdeal_DownKvReferenceIdeal [hDownKvIdeal : Cert.DownKvIdeal.Facts] [hDownKvReferenceIdeal : Cert.DownKvReferenceIdeal.Facts] : Prop :=
  ∀ (m : (ℓ : Loc Cert.DownKvIdeal.nD Cert.DownKvIdeal.τ Cert.DownKvIdeal.sig) → Buf (Elt Ideal) ℓ) (g : Dev Cert.DownKvIdeal.nD → PrngReg)
    (m' : (ℓ : Loc Cert.DownKvReferenceIdeal.nD Cert.DownKvReferenceIdeal.τ Cert.DownKvReferenceIdeal.sig) → Buf (Elt Ideal) ℓ) (g' : Dev Cert.DownKvReferenceIdeal.nD → PrngReg), Pre_DownKvIdeal m →
    (∀ c : Dev Cert.DownKvIdeal.nD,
      m' ((c.tc : Thread Cert.DownKvReferenceIdeal.nD Cert.DownKvReferenceIdeal.τ).loc Cert.DownKvReferenceIdeal.main_arg0) = m ((c.tc : Thread Cert.DownKvIdeal.nD Cert.DownKvIdeal.τ).loc Cert.DownKvIdeal.main_arg0)
      ∧ m' ((c.tc : Thread Cert.DownKvReferenceIdeal.nD Cert.DownKvReferenceIdeal.τ).loc Cert.DownKvReferenceIdeal.main_arg1) = m ((c.tc : Thread Cert.DownKvIdeal.nD Cert.DownKvIdeal.τ).loc Cert.DownKvIdeal.main_arg1)
      ∧ m' ((c.tc : Thread Cert.DownKvReferenceIdeal.nD Cert.DownKvReferenceIdeal.τ).loc Cert.DownKvReferenceIdeal.main_arg2) = m ((c.tc : Thread Cert.DownKvIdeal.nD Cert.DownKvIdeal.τ).loc Cert.DownKvIdeal.main_arg2)) →
    ∃ (v0 : (c : Dev Cert.DownKvIdeal.nD) → Buf (Elt Ideal) ((c.tc : Thread Cert.DownKvIdeal.nD Cert.DownKvIdeal.τ).loc Cert.DownKvIdeal.main_v4)),
      θ_run (Cert.DownKvIdeal.defs (F := Ideal)) (onTc (τ := Cert.DownKvIdeal.τ) (Cert.DownKvIdeal.main (F := Ideal))) ⟨m, fun _ => 0, g⟩ (fun r => ∀ c : Dev Cert.DownKvIdeal.nD,
          r.2.mem ((c.tc : Thread Cert.DownKvIdeal.nD Cert.DownKvIdeal.τ).loc Cert.DownKvIdeal.main_v4) = v0 c
          ∧ r.2.mem ((c.tc : Thread Cert.DownKvIdeal.nD Cert.DownKvIdeal.τ).loc Cert.DownKvIdeal.main_arg0) = m ((c.tc : Thread Cert.DownKvIdeal.nD Cert.DownKvIdeal.τ).loc Cert.DownKvIdeal.main_arg0)
          ∧ r.2.mem ((c.tc : Thread Cert.DownKvIdeal.nD Cert.DownKvIdeal.τ).loc Cert.DownKvIdeal.main_arg1) = m ((c.tc : Thread Cert.DownKvIdeal.nD Cert.DownKvIdeal.τ).loc Cert.DownKvIdeal.main_arg1)
          ∧ r.2.mem ((c.tc : Thread Cert.DownKvIdeal.nD Cert.DownKvIdeal.τ).loc Cert.DownKvIdeal.main_arg2) = m ((c.tc : Thread Cert.DownKvIdeal.nD Cert.DownKvIdeal.τ).loc Cert.DownKvIdeal.main_arg2))
      ∧ θ_run (Cert.DownKvReferenceIdeal.defs (F := Ideal)) (onTc (τ := Cert.DownKvReferenceIdeal.τ) (Cert.DownKvReferenceIdeal.main (F := Ideal))) ⟨m', fun _ => 0, g'⟩ (fun r => ∀ c : Dev Cert.DownKvReferenceIdeal.nD,
          r.2.mem ((c.tc : Thread Cert.DownKvReferenceIdeal.nD Cert.DownKvReferenceIdeal.τ).loc Cert.DownKvReferenceIdeal.main_v18) = v0 c
          ∧ r.2.mem ((c.tc : Thread Cert.DownKvReferenceIdeal.nD Cert.DownKvReferenceIdeal.τ).loc Cert.DownKvReferenceIdeal.main_arg0) = m' ((c.tc : Thread Cert.DownKvReferenceIdeal.nD Cert.DownKvReferenceIdeal.τ).loc Cert.DownKvReferenceIdeal.main_arg0)
          ∧ r.2.mem ((c.tc : Thread Cert.DownKvReferenceIdeal.nD Cert.DownKvReferenceIdeal.τ).loc Cert.DownKvReferenceIdeal.main_arg1) = m' ((c.tc : Thread Cert.DownKvReferenceIdeal.nD Cert.DownKvReferenceIdeal.τ).loc Cert.DownKvReferenceIdeal.main_arg1)
          ∧ r.2.mem ((c.tc : Thread Cert.DownKvReferenceIdeal.nD Cert.DownKvReferenceIdeal.τ).loc Cert.DownKvReferenceIdeal.main_arg2) = m' ((c.tc : Thread Cert.DownKvReferenceIdeal.nD Cert.DownKvReferenceIdeal.τ).loc Cert.DownKvReferenceIdeal.main_arg2))

def preserves_UpQ_UpQIdeal : Prop :=
  IdealRules.named_const.Statement Cert.UpQIdeal.κ "per_entry" .f32 0x3BAAAAAB#32 ((1 / 192 : ℝ) : EReal)

def algebraic_UpQIdeal_UpQReferenceIdeal [hUpQIdeal : Cert.UpQIdeal.Facts] [hUpQReferenceIdeal : Cert.UpQReferenceIdeal.Facts] : Prop :=
  ∀ (m : (ℓ : Loc Cert.UpQIdeal.nD Cert.UpQIdeal.τ Cert.UpQIdeal.sig) → Buf (Elt Ideal) ℓ) (g : Dev Cert.UpQIdeal.nD → PrngReg)
    (m' : (ℓ : Loc Cert.UpQReferenceIdeal.nD Cert.UpQReferenceIdeal.τ Cert.UpQReferenceIdeal.sig) → Buf (Elt Ideal) ℓ) (g' : Dev Cert.UpQReferenceIdeal.nD → PrngReg), Pre_UpQIdeal m →
    (∀ c : Dev Cert.UpQIdeal.nD,
      m' ((c.tc : Thread Cert.UpQReferenceIdeal.nD Cert.UpQReferenceIdeal.τ).loc Cert.UpQReferenceIdeal.main_arg0) = m ((c.tc : Thread Cert.UpQIdeal.nD Cert.UpQIdeal.τ).loc Cert.UpQIdeal.main_arg0)
      ∧ m' ((c.tc : Thread Cert.UpQReferenceIdeal.nD Cert.UpQReferenceIdeal.τ).loc Cert.UpQReferenceIdeal.main_arg1) = m ((c.tc : Thread Cert.UpQIdeal.nD Cert.UpQIdeal.τ).loc Cert.UpQIdeal.main_arg1)
      ∧ m' ((c.tc : Thread Cert.UpQReferenceIdeal.nD Cert.UpQReferenceIdeal.τ).loc Cert.UpQReferenceIdeal.main_arg2) = m ((c.tc : Thread Cert.UpQIdeal.nD Cert.UpQIdeal.τ).loc Cert.UpQIdeal.main_arg2)
      ∧ m' ((c.tc : Thread Cert.UpQReferenceIdeal.nD Cert.UpQReferenceIdeal.τ).loc Cert.UpQReferenceIdeal.main_arg3) = m ((c.tc : Thread Cert.UpQIdeal.nD Cert.UpQIdeal.τ).loc Cert.UpQIdeal.main_arg3)
      ∧ m' ((c.tc : Thread Cert.UpQReferenceIdeal.nD Cert.UpQReferenceIdeal.τ).loc Cert.UpQReferenceIdeal.main_arg4) = m ((c.tc : Thread Cert.UpQIdeal.nD Cert.UpQIdeal.τ).loc Cert.UpQIdeal.main_arg4)) →
    ∃ (v0 : (c : Dev Cert.UpQIdeal.nD) → Buf (Elt Ideal) ((c.tc : Thread Cert.UpQIdeal.nD Cert.UpQIdeal.τ).loc Cert.UpQIdeal.main_v9)),
      θ_run (Cert.UpQIdeal.defs (F := Ideal)) (onTc (τ := Cert.UpQIdeal.τ) (Cert.UpQIdeal.main (F := Ideal))) ⟨m, fun _ => 0, g⟩ (fun r => ∀ c : Dev Cert.UpQIdeal.nD,
          r.2.mem ((c.tc : Thread Cert.UpQIdeal.nD Cert.UpQIdeal.τ).loc Cert.UpQIdeal.main_v9) = v0 c
          ∧ r.2.mem ((c.tc : Thread Cert.UpQIdeal.nD Cert.UpQIdeal.τ).loc Cert.UpQIdeal.main_arg0) = m ((c.tc : Thread Cert.UpQIdeal.nD Cert.UpQIdeal.τ).loc Cert.UpQIdeal.main_arg0)
          ∧ r.2.mem ((c.tc : Thread Cert.UpQIdeal.nD Cert.UpQIdeal.τ).loc Cert.UpQIdeal.main_arg1) = m ((c.tc : Thread Cert.UpQIdeal.nD Cert.UpQIdeal.τ).loc Cert.UpQIdeal.main_arg1)
          ∧ r.2.mem ((c.tc : Thread Cert.UpQIdeal.nD Cert.UpQIdeal.τ).loc Cert.UpQIdeal.main_arg2) = m ((c.tc : Thread Cert.UpQIdeal.nD Cert.UpQIdeal.τ).loc Cert.UpQIdeal.main_arg2)
          ∧ r.2.mem ((c.tc : Thread Cert.UpQIdeal.nD Cert.UpQIdeal.τ).loc Cert.UpQIdeal.main_arg3) = m ((c.tc : Thread Cert.UpQIdeal.nD Cert.UpQIdeal.τ).loc Cert.UpQIdeal.main_arg3)
          ∧ r.2.mem ((c.tc : Thread Cert.UpQIdeal.nD Cert.UpQIdeal.τ).loc Cert.UpQIdeal.main_arg4) = m ((c.tc : Thread Cert.UpQIdeal.nD Cert.UpQIdeal.τ).loc Cert.UpQIdeal.main_arg4))
      ∧ θ_run (Cert.UpQReferenceIdeal.defs (F := Ideal)) (onTc (τ := Cert.UpQReferenceIdeal.τ) (Cert.UpQReferenceIdeal.main (F := Ideal))) ⟨m', fun _ => 0, g'⟩ (fun r => ∀ c : Dev Cert.UpQReferenceIdeal.nD,
          r.2.mem ((c.tc : Thread Cert.UpQReferenceIdeal.nD Cert.UpQReferenceIdeal.τ).loc Cert.UpQReferenceIdeal.main_v52) = v0 c
          ∧ r.2.mem ((c.tc : Thread Cert.UpQReferenceIdeal.nD Cert.UpQReferenceIdeal.τ).loc Cert.UpQReferenceIdeal.main_arg0) = m' ((c.tc : Thread Cert.UpQReferenceIdeal.nD Cert.UpQReferenceIdeal.τ).loc Cert.UpQReferenceIdeal.main_arg0)
          ∧ r.2.mem ((c.tc : Thread Cert.UpQReferenceIdeal.nD Cert.UpQReferenceIdeal.τ).loc Cert.UpQReferenceIdeal.main_arg1) = m' ((c.tc : Thread Cert.UpQReferenceIdeal.nD Cert.UpQReferenceIdeal.τ).loc Cert.UpQReferenceIdeal.main_arg1)
          ∧ r.2.mem ((c.tc : Thread Cert.UpQReferenceIdeal.nD Cert.UpQReferenceIdeal.τ).loc Cert.UpQReferenceIdeal.main_arg2) = m' ((c.tc : Thread Cert.UpQReferenceIdeal.nD Cert.UpQReferenceIdeal.τ).loc Cert.UpQReferenceIdeal.main_arg2)
          ∧ r.2.mem ((c.tc : Thread Cert.UpQReferenceIdeal.nD Cert.UpQReferenceIdeal.τ).loc Cert.UpQReferenceIdeal.main_arg3) = m' ((c.tc : Thread Cert.UpQReferenceIdeal.nD Cert.UpQReferenceIdeal.τ).loc Cert.UpQReferenceIdeal.main_arg3)
          ∧ r.2.mem ((c.tc : Thread Cert.UpQReferenceIdeal.nD Cert.UpQReferenceIdeal.τ).loc Cert.UpQReferenceIdeal.main_arg4) = m' ((c.tc : Thread Cert.UpQReferenceIdeal.nD Cert.UpQReferenceIdeal.τ).loc Cert.UpQReferenceIdeal.main_arg4))

def Claim : Prop :=
  ∃ (hKernel : Cert.Kernel.Facts) (hKernelIdeal : Cert.KernelIdeal.Facts) (hReferenceIdeal : Cert.ReferenceIdeal.Facts) (hInProj : Cert.InProj.Facts) (hInProjIdeal : Cert.InProjIdeal.Facts) (hInProjReferenceIdeal : Cert.InProjReferenceIdeal.Facts) (hOutProj : Cert.OutProj.Facts) (hOutProjIdeal : Cert.OutProjIdeal.Facts) (hOutProjReferenceIdeal : Cert.OutProjReferenceIdeal.Facts) (hFfn : Cert.Ffn.Facts) (hFfnIdeal : Cert.FfnIdeal.Facts) (hFfnReferenceIdeal : Cert.FfnReferenceIdeal.Facts) (hFfnLast : Cert.FfnLast.Facts) (hFfnLastIdeal : Cert.FfnLastIdeal.Facts) (hFfnLastReferenceIdeal : Cert.FfnLastReferenceIdeal.Facts) (hDownQ : Cert.DownQ.Facts) (hDownQIdeal : Cert.DownQIdeal.Facts) (hDownQReferenceIdeal : Cert.DownQReferenceIdeal.Facts) (hDownKv : Cert.DownKv.Facts) (hDownKvIdeal : Cert.DownKvIdeal.Facts) (hDownKvReferenceIdeal : Cert.DownKvReferenceIdeal.Facts) (hUpQ : Cert.UpQ.Facts) (hUpQIdeal : Cert.UpQIdeal.Facts) (hUpQReferenceIdeal : Cert.UpQReferenceIdeal.Facts) (hPre_finite_scores : Cert.Pre_finite_scores.Facts),
    quiescent_Kernel (hKernel := hKernel)
    ∧ quiescent_KernelIdeal (hKernelIdeal := hKernelIdeal)
    ∧ quiescent_KernelIdeal_pre_finite_scores (hKernelIdeal := hKernelIdeal) (hPre_finite_scores := hPre_finite_scores)
    ∧ quiescent_ReferenceIdeal (hReferenceIdeal := hReferenceIdeal)
    ∧ quiescent_ReferenceIdeal_pre_finite_scores (hReferenceIdeal := hReferenceIdeal) (hPre_finite_scores := hPre_finite_scores)
    ∧ quiescent_InProj (hInProj := hInProj)
    ∧ quiescent_InProjIdeal (hInProjIdeal := hInProjIdeal)
    ∧ quiescent_InProjReferenceIdeal (hInProjReferenceIdeal := hInProjReferenceIdeal)
    ∧ quiescent_OutProj (hOutProj := hOutProj)
    ∧ quiescent_OutProjIdeal (hOutProjIdeal := hOutProjIdeal)
    ∧ quiescent_OutProjReferenceIdeal (hOutProjReferenceIdeal := hOutProjReferenceIdeal)
    ∧ quiescent_Ffn (hFfn := hFfn)
    ∧ quiescent_FfnIdeal (hFfnIdeal := hFfnIdeal)
    ∧ quiescent_FfnReferenceIdeal (hFfnReferenceIdeal := hFfnReferenceIdeal)
    ∧ quiescent_FfnLast (hFfnLast := hFfnLast)
    ∧ quiescent_FfnLastIdeal (hFfnLastIdeal := hFfnLastIdeal)
    ∧ quiescent_FfnLastReferenceIdeal (hFfnLastReferenceIdeal := hFfnLastReferenceIdeal)
    ∧ quiescent_DownQ (hDownQ := hDownQ)
    ∧ quiescent_DownQIdeal (hDownQIdeal := hDownQIdeal)
    ∧ quiescent_DownQReferenceIdeal (hDownQReferenceIdeal := hDownQReferenceIdeal)
    ∧ quiescent_DownKv (hDownKv := hDownKv)
    ∧ quiescent_DownKvIdeal (hDownKvIdeal := hDownKvIdeal)
    ∧ quiescent_DownKvReferenceIdeal (hDownKvReferenceIdeal := hDownKvReferenceIdeal)
    ∧ quiescent_UpQ (hUpQ := hUpQ)
    ∧ quiescent_UpQIdeal (hUpQIdeal := hUpQIdeal)
    ∧ quiescent_UpQReferenceIdeal (hUpQReferenceIdeal := hUpQReferenceIdeal)
    ∧ preserves_Kernel_KernelIdeal
    ∧ algebraic_KernelIdeal_ReferenceIdeal_pre_finite_scores (hKernelIdeal := hKernelIdeal) (hReferenceIdeal := hReferenceIdeal) (hPre_finite_scores := hPre_finite_scores)
    ∧ preserves_InProj_InProjIdeal
    ∧ algebraic_InProjIdeal_InProjReferenceIdeal (hInProjIdeal := hInProjIdeal) (hInProjReferenceIdeal := hInProjReferenceIdeal)
    ∧ preserves_OutProj_OutProjIdeal
    ∧ algebraic_OutProjIdeal_OutProjReferenceIdeal (hOutProjIdeal := hOutProjIdeal) (hOutProjReferenceIdeal := hOutProjReferenceIdeal)
    ∧ preserves_Ffn_FfnIdeal
    ∧ algebraic_FfnIdeal_FfnReferenceIdeal (hFfnIdeal := hFfnIdeal) (hFfnReferenceIdeal := hFfnReferenceIdeal)
    ∧ preserves_FfnLast_FfnLastIdeal
    ∧ algebraic_FfnLastIdeal_FfnLastReferenceIdeal (hFfnLastIdeal := hFfnLastIdeal) (hFfnLastReferenceIdeal := hFfnLastReferenceIdeal)
    ∧ preserves_DownQ_DownQIdeal
    ∧ algebraic_DownQIdeal_DownQReferenceIdeal (hDownQIdeal := hDownQIdeal) (hDownQReferenceIdeal := hDownQReferenceIdeal)
    ∧ preserves_DownKv_DownKvIdeal
    ∧ algebraic_DownKvIdeal_DownKvReferenceIdeal (hDownKvIdeal := hDownKvIdeal) (hDownKvReferenceIdeal := hDownKvReferenceIdeal)
    ∧ preserves_UpQ_UpQIdeal
    ∧ algebraic_UpQIdeal_UpQReferenceIdeal (hUpQIdeal := hUpQIdeal) (hUpQReferenceIdeal := hUpQReferenceIdeal)
-- ==== Pre_finite_scores.lean ====
abbrev S4x4096x16x192 : Shape := ⟨4, ![4, 4096, 16, 192]⟩
abbrev S4x256x16x192 : Shape := ⟨4, ![4, 256, 16, 192]⟩
abbrev S4x256x16x128 : Shape := ⟨4, ![4, 256, 16, 128]⟩
abbrev S4x4096x16x128 : Shape := ⟨4, ![4, 4096, 16, 128]⟩
abbrev S_ : Shape := ⟨0, ![]⟩

class Facts : Prop where
  bcast_S_S4x4096x16x192 : S_.BroadcastsInDim S4x4096x16x192 (![] : Fin 0 → Fin S4x4096x16x192.rank)
  bcast_S_S4x256x16x192 : S_.BroadcastsInDim S4x256x16x192 (![] : Fin 0 → Fin S4x256x16x192.rank)

variable [Facts]

def fn {F : FTy → Type} [FloatOps F] (main_arg0 : FVec F S4x4096x16x192 .f32) (main_arg1 : FVec F S4x256x16x192 .f32) (main_arg2 : FVec F S4x256x16x128 .f32) (main_arg3 : FVec F S4x4096x16x192 .f32) (main_arg4 : FVec F S4x4096x16x128 .f32) : IVec S4x4096x16x192 1 × IVec S4x256x16x192 1 × IVec S4x4096x16x192 1 :=
  let main_v0 : FVec F S4x4096x16x192 .f32 := Host.absf main_arg0
  let main_cst : FVec F S_ .f32 := constant S_ .f32 0x7F800000#32
  let main_v1 : FVec F S4x4096x16x192 .f32 := broadcastInDim S4x4096x16x192 ![] bcast_S_S4x4096x16x192 main_cst
  let main_v2 : IVec S4x4096x16x192 1 := cmpf .olt main_v0 main_v1
  let main_v3 : FVec F S4x256x16x192 .f32 := Host.absf main_arg1
  let main_cst_0 : FVec F S_ .f32 := constant S_ .f32 0x7F800000#32
  let main_v4 : FVec F S4x256x16x192 .f32 := broadcastInDim S4x256x16x192 ![] bcast_S_S4x256x16x192 main_cst_0
  let main_v5 : IVec S4x256x16x192 1 := cmpf .olt main_v3 main_v4
  let main_v6 : FVec F S4x4096x16x192 .f32 := Host.absf main_arg3
  let main_cst_1 : FVec F S_ .f32 := constant S_ .f32 0x7F800000#32
  let main_v7 : FVec F S4x4096x16x192 .f32 := broadcastInDim S4x4096x16x192 ![] bcast_S_S4x4096x16x192 main_cst_1
  let main_v8 : IVec S4x4096x16x192 1 := cmpf .olt main_v6 main_v7
  (main_v2, main_v5, main_v8)
-- ==== Kernel.lean ====
abbrev S4x4096x16x192 : Shape := ⟨4, ![4, 4096, 16, 192]⟩
abbrev S4x256x16x192 : Shape := ⟨4, ![4, 256, 16, 192]⟩
abbrev S4x256x16x128 : Shape := ⟨4, ![4, 256, 16, 128]⟩
abbrev S4x4096x16x128 : Shape := ⟨4, ![4, 4096, 16, 128]⟩
abbrev S_ : Shape := ⟨0, ![]⟩
abbrev S4x4096x16x256 : Shape := ⟨4, ![4, 4096, 16, 256]⟩
abbrev S4x4096x4096 : Shape := ⟨3, ![4, 4096, 4096]⟩
abbrev S4x256x16x256 : Shape := ⟨4, ![4, 256, 16, 256]⟩
abbrev S4x256x4096 : Shape := ⟨3, ![4, 256, 4096]⟩
abbrev S4x4096x2048 : Shape := ⟨3, ![4, 4096, 2048]⟩
abbrev S1x1024x256 : Shape := ⟨3, ![1, 1024, 256]⟩
abbrev S1x256x256 : Shape := ⟨3, ![1, 256, 256]⟩
abbrev S1x4096x256 : Shape := ⟨3, ![1, 4096, 256]⟩
abbrev S1x1024x128 : Shape := ⟨3, ![1, 1024, 128]⟩
abbrev S1024x256 : Shape := ⟨2, ![1024, 256]⟩
abbrev S256x256 : Shape := ⟨2, ![256, 256]⟩
abbrev S1024 : Shape := ⟨1, ![1024]⟩
abbrev S1024x1 : Shape := ⟨2, ![1024, 1]⟩
abbrev S1x512x256 : Shape := ⟨3, ![1, 512, 256]⟩
abbrev S512x256 : Shape := ⟨2, ![512, 256]⟩
abbrev S1024x512 : Shape := ⟨2, ![1024, 512]⟩
abbrev S1024x128 : Shape := ⟨2, ![1024, 128]⟩

abbrev nBuf : Space → Nat
  | .hbm => 38
  | .vmem => 12
  | .smem => 0
  | _ => 0

abbrev bufTy : (tb : Table) → Fin (tcTables nBuf tb) → BufTy
  | .hbm, ⟨0, _⟩ => ⟨S4x4096x16x192, .f32⟩
  | .hbm, ⟨1, _⟩ => ⟨S4x256x16x192, .f32⟩
  | .hbm, ⟨2, _⟩ => ⟨S4x256x16x128, .f32⟩
  | .hbm, ⟨3, _⟩ => ⟨S4x4096x16x192, .f32⟩
  | .hbm, ⟨4, _⟩ => ⟨S4x4096x16x128, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S4x4096x16x192, .f32⟩
  | .hbm, ⟨11, _⟩ => ⟨S4x4096x16x192, .f32⟩
  | .hbm, ⟨12, _⟩ => ⟨S_, .i32⟩
  | .hbm, ⟨13, _⟩ => ⟨S_, .f32⟩
  | .hbm, ⟨14, _⟩ => ⟨S4x4096x16x256, .f32⟩
  | .hbm, ⟨15, _⟩ => ⟨S4x4096x4096, .f32⟩
  | .hbm, ⟨16, _⟩ => ⟨S4x4096x4096, .bf16⟩
  | .hbm, ⟨17, _⟩ => ⟨S_, .i32⟩
  | .hbm, ⟨18, _⟩ => ⟨S_, .f32⟩
  | .hbm, ⟨19, _⟩ => ⟨S4x256x16x256, .f32⟩
  | .hbm, ⟨20, _⟩ => ⟨S4x256x4096, .f32⟩
  | .hbm, ⟨21, _⟩ => ⟨S4x256x4096, .bf16⟩
  | .hbm, ⟨22, _⟩ => ⟨S_, .f32⟩
  | .hbm, ⟨23, _⟩ => ⟨S4x256x16x128, .f32⟩
  | .hbm, ⟨24, _⟩ => ⟨S4x256x16x256, .f32⟩
  | .hbm, ⟨25, _⟩ => ⟨S4x256x4096, .f32⟩
  | .hbm, ⟨26, _⟩ => ⟨S4x256x4096, .bf16⟩
  | .hbm, ⟨27, _⟩ => ⟨S_, .i32⟩
  | .hbm, ⟨28, _⟩ => ⟨S_, .f32⟩
  | .hbm, ⟨29, _⟩ => ⟨S4x4096x16x256, .f32⟩
  | .hbm, ⟨30, _⟩ => ⟨S4x4096x4096, .f32⟩
  | .hbm, ⟨31, _⟩ => ⟨S4x4096x4096, .bf16⟩
  | .hbm, ⟨32, _⟩ => ⟨S_, .f32⟩
  | .hbm, ⟨33, _⟩ => ⟨S4x4096x16x128, .f32⟩
  | .hbm, ⟨34, _⟩ => ⟨S4x4096x16x256, .f32⟩
  | .hbm, ⟨35, _⟩ => ⟨S4x4096x4096, .f32⟩
  | .hbm, ⟨36, _⟩ => ⟨S4x4096x4096, .bf16⟩
  | .hbm, ⟨37, _⟩ => ⟨S4x4096x2048, .bf16⟩
  | .local _ .vmem, ⟨0, _⟩ => ⟨S1x1024x256, .bf16⟩
  | .local _ .vmem, ⟨1, _⟩ => ⟨S1x1024x256, .bf16⟩
  | .local _ .vmem, ⟨2, _⟩ => ⟨S1x256x256, .bf16⟩
  | .local _ .vmem, ⟨3, _⟩ => ⟨S1x256x256, .bf16⟩
  | .local _ .vmem, ⟨4, _⟩ => ⟨S1x256x256, .bf16⟩
  | .local _ .vmem, ⟨5, _⟩ => ⟨S1x256x256, .bf16⟩
  | .local _ .vmem, ⟨6, _⟩ => ⟨S1x4096x256, .bf16⟩
  | .local _ .vmem, ⟨7, _⟩ => ⟨S1x4096x256, .bf16⟩
  | .local _ .vmem, ⟨8, _⟩ => ⟨S1x4096x256, .bf16⟩
  | .local _ .vmem, ⟨9, _⟩ => ⟨S1x4096x256, .bf16⟩
  | .local _ .vmem, ⟨10, _⟩ => ⟨S1x1024x128, .bf16⟩
  | .local _ .vmem, ⟨11, _⟩ => ⟨S1x1024x128, .bf16⟩
  | _, _ => ⟨S4x4096x16x192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_cst_0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_c : Ref sig .tc := ⟨.hbm, 12, rfl⟩
abbrev main_call0_v0 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_c_1 : Ref sig .tc := ⟨.hbm, 17, rfl⟩
abbrev main_call1_v0 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst_2 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_c_3 : Ref sig .tc := ⟨.hbm, 27, rfl⟩
abbrev main_call2_v0 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_cst_4 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![4, 16, 4], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x1024x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x256x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x256x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x4096x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1x4096x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1x1024x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]
-- ==== ReferenceIdeal.lean ====
abbrev S4x4096x16x192 : Shape := ⟨4, ![4, 4096, 16, 192]⟩
abbrev S4x256x16x192 : Shape := ⟨4, ![4, 256, 16, 192]⟩
abbrev S4x256x16x128 : Shape := ⟨4, ![4, 256, 16, 128]⟩
abbrev S4x4096x16x128 : Shape := ⟨4, ![4, 4096, 16, 128]⟩
abbrev S4x4352x16x192 : Shape := ⟨4, ![4, 4352, 16, 192]⟩
abbrev S4x4352x16x128 : Shape := ⟨4, ![4, 4352, 16, 128]⟩
abbrev S4x16x4096x4352 : Shape := ⟨4, ![4, 16, 4096, 4352]⟩
abbrev S_ : Shape := ⟨0, ![]⟩
abbrev S4x16x4096 : Shape := ⟨3, ![4, 16, 4096]⟩
abbrev S4x16x4096x1 : Shape := ⟨4, ![4, 16, 4096, 1]⟩
abbrev S4x16x128x4096 : Shape := ⟨4, ![4, 16, 128, 4096]⟩
abbrev S4x4096x2048 : Shape := ⟨3, ![4, 4096, 2048]⟩

abbrev nBuf : Space → Nat
  | .hbm => 29
  | .vmem => 0
  | .smem => 0
  | _ => 0

abbrev bufTy : (tb : Table) → Fin (tcTables nBuf tb) → BufTy
  | .hbm, ⟨0, _⟩ => ⟨S4x4096x16x192, .f32⟩
  | .hbm, ⟨1, _⟩ => ⟨S4x256x16x192, .f32⟩
  | .hbm, ⟨2, _⟩ => ⟨S4x256x16x128, .f32⟩
  | .hbm, ⟨3, _⟩ => ⟨S4x4096x16x192, .f32⟩
  | .hbm, ⟨4, _⟩ => ⟨S4x4096x16x128, .f32⟩
  | .hbm, ⟨5, _⟩ => ⟨S4x4352x16x192, .f32⟩
  | .hbm, ⟨6, _⟩ => ⟨S4x4352x16x128, .f32⟩
  | .hbm, ⟨7, _⟩ => ⟨S4x16x4096x4352, .f32⟩
  | .hbm, ⟨8, _⟩ => ⟨S_, .f32⟩
  | .hbm, ⟨9, _⟩ => ⟨S4x16x4096x4352, .f32⟩
  | .hbm, ⟨10, _⟩ => ⟨S4x16x4096x4352, .f32⟩
  | .hbm, ⟨11, _⟩ => ⟨S_, .f32⟩
  | .hbm, ⟨12, _⟩ => ⟨S4x16x4096, .f32⟩
  | .hbm, ⟨13, _⟩ => ⟨S_, .f32⟩
  | .hbm, ⟨14, _⟩ => ⟨S4x16x4096, .f32⟩
  | .hbm, ⟨15, _⟩ => ⟨S4x16x4096, .f32⟩
  | .hbm, ⟨16, _⟩ => ⟨S4x16x4096x1, .f32⟩
  | .hbm, ⟨17, _⟩ => ⟨S4x16x4096x4352, .f32⟩
  | .hbm, ⟨18, _⟩ => ⟨S4x16x4096x4352, .f32⟩
  | .hbm, ⟨19, _⟩ => ⟨S4x16x4096x4352, .f32⟩
  | .hbm, ⟨20, _⟩ => ⟨S_, .f32⟩
  | .hbm, ⟨21, _⟩ => ⟨S4x16x4096, .f32⟩
  | .hbm, ⟨22, _⟩ => ⟨S4x16x4096x1, .f32⟩
  | .hbm, ⟨23, _⟩ => ⟨S4x16x4096x4352, .f32⟩
  | .hbm, ⟨24, _⟩ => ⟨S4x16x4096x4352, .f32⟩
  | .hbm, ⟨25, _⟩ => ⟨S4x16x128x4096, .f32⟩
  | .hbm, ⟨26, _⟩ => ⟨S4x4096x16x128, .f32⟩
  | .hbm, ⟨27, _⟩ => ⟨S4x4096x2048, .f32⟩
  | .hbm, ⟨28, _⟩ => ⟨S4x4096x2048, .bf16⟩
  | _, _ => ⟨S4x4096x16x192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩

abbrev nD : Nat := 1
abbrev τ : Topo := Topo.v7x

variable {F : FTy → Type} [FloatOps F]
-- ==== InProj.lean ====
abbrev S4x4096x2048 : Shape := ⟨3, ![4, 4096, 2048]⟩
abbrev S2048x6144 : Shape := ⟨2, ![2048, 6144]⟩
abbrev S4x4096x6144 : Shape := ⟨3, ![4, 4096, 6144]⟩
abbrev S1x1024x2048 : Shape := ⟨3, ![1, 1024, 2048]⟩
abbrev S2048x1024 : Shape := ⟨2, ![2048, 1024]⟩
abbrev S1x1024x1024 : Shape := ⟨3, ![1, 1024, 1024]⟩
abbrev S1024x2048 : Shape := ⟨2, ![1024, 2048]⟩
abbrev S1024x1024 : Shape := ⟨2, ![1024, 1024]⟩

abbrev nBuf : Space → Nat
  | .hbm => 5
  | .vmem => 6
  | .smem => 0
  | _ => 0

abbrev bufTy : (tb : Table) → Fin (tcTables nBuf tb) → BufTy
  | .hbm, ⟨0, _⟩ => ⟨S4x4096x2048, .f32⟩
  | .hbm, ⟨1, _⟩ => ⟨S2048x6144, .f32⟩
  | .hbm, ⟨2, _⟩ => ⟨S4x4096x2048, .bf16⟩
  | .hbm, ⟨3, _⟩ => ⟨S2048x6144, .bf16⟩
  | .hbm, ⟨4, _⟩ => ⟨S4x4096x6144, .bf16⟩
  | .local _ .vmem, ⟨0, _⟩ => ⟨S1x1024x2048, .bf16⟩
  | .local _ .vmem, ⟨1, _⟩ => ⟨S1x1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1x1024x1024, .bf16⟩
  | .local _ .vmem, ⟨5, _⟩ => ⟨S1x1024x1024, .bf16⟩
  | _, _ => ⟨S4x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 4, 6], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

abbrev stage0_0 : Fin 2 → Memref sig .tc .vmem S1x1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true]

abbrev stage0_2 : Fin 2 → Memref sig .tc .vmem S1x1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]
-- ==== InProjReferenceIdeal.lean ====
abbrev S4x4096x2048 : Shape := ⟨3, ![4, 4096, 2048]⟩
abbrev S2048x6144 : Shape := ⟨2, ![2048, 6144]⟩
abbrev S4x4096x6144 : Shape := ⟨3, ![4, 4096, 6144]⟩

abbrev nBuf : Space → Nat
  | .hbm => 4
  | .vmem => 0
  | .smem => 0
  | _ => 0

abbrev bufTy : (tb : Table) → Fin (tcTables nBuf tb) → BufTy
  | .hbm, ⟨0, _⟩ => ⟨S4x4096x2048, .f32⟩
  | .hbm, ⟨1, _⟩ => ⟨S2048x6144, .f32⟩
  | .hbm, ⟨2, _⟩ => ⟨S4x4096x6144, .f32⟩
  | .hbm, ⟨3, _⟩ => ⟨S4x4096x6144, .bf16⟩
  | _, _ => ⟨S4x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== OutProj.lean ====
abbrev S4x4096x2048 : Shape := ⟨3, ![4, 4096, 2048]⟩
abbrev S2048x2048 : Shape := ⟨2, ![2048, 2048]⟩
abbrev S4x1x2048 : Shape := ⟨3, ![4, 1, 2048]⟩
abbrev S1x1024x2048 : Shape := ⟨3, ![1, 1024, 2048]⟩
abbrev S2048x1024 : Shape := ⟨2, ![2048, 1024]⟩
abbrev S1x1024x1024 : Shape := ⟨3, ![1, 1024, 1024]⟩
abbrev S1x1x1024 : Shape := ⟨3, ![1, 1, 1024]⟩
abbrev S1024x2048 : Shape := ⟨2, ![1024, 2048]⟩
abbrev S1024x1024 : Shape := ⟨2, ![1024, 1024]⟩
abbrev S1x1024 : Shape := ⟨2, ![1, 1024]⟩

abbrev nBuf : Space → Nat
  | .hbm => 7
  | .vmem => 10
  | .smem => 0
  | _ => 0

abbrev bufTy : (tb : Table) → Fin (tcTables nBuf tb) → BufTy
  | .hbm, ⟨0, _⟩ => ⟨S4x4096x2048, .f32⟩
  | .hbm, ⟨1, _⟩ => ⟨S2048x2048, .f32⟩
  | .hbm, ⟨2, _⟩ => ⟨S4x4096x2048, .f32⟩
  | .hbm, ⟨3, _⟩ => ⟨S4x1x2048, .f32⟩
  | .hbm, ⟨4, _⟩ => ⟨S4x4096x2048, .bf16⟩
  | .hbm, ⟨5, _⟩ => ⟨S2048x2048, .bf16⟩
  | .hbm, ⟨6, _⟩ => ⟨S4x4096x2048, .f32⟩
  | .local _ .vmem, ⟨0, _⟩ => ⟨S1x1024x2048, .bf16⟩
  | .local _ .vmem, ⟨1, _⟩ => ⟨S1x1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1x1024x1024, .f32⟩
  | .local _ .vmem, ⟨5, _⟩ => ⟨S1x1024x1024, .f32⟩
  | .local _ .vmem, ⟨6, _⟩ => ⟨S1x1x1024, .f32⟩
  | .local _ .vmem, ⟨7, _⟩ => ⟨S1x1x1024, .f32⟩
  | .local _ .vmem, ⟨8, _⟩ => ⟨S1x1024x1024, .f32⟩
  | .local _ .vmem, ⟨9, _⟩ => ⟨S1x1024x1024, .f32⟩
  | _, _ => ⟨S4x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![4, 4, 2], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg2.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

abbrev stage0_0 : Fin 2 → Memref sig .tc .vmem S1x1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true]

abbrev stage0_2 : Fin 2 → Memref sig .tc .vmem S1x1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, true]

abbrev stage0_4 : Fin 2 → Memref sig .tc .vmem S1x1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]
-- ==== OutProjReferenceIdeal.lean ====
abbrev S4x4096x2048 : Shape := ⟨3, ![4, 4096, 2048]⟩
abbrev S2048x2048 : Shape := ⟨2, ![2048, 2048]⟩
abbrev S4x1x2048 : Shape := ⟨3, ![4, 1, 2048]⟩

abbrev nBuf : Space → Nat
  | .hbm => 8
  | .vmem => 0
  | .smem => 0
  | _ => 0

abbrev bufTy : (tb : Table) → Fin (tcTables nBuf tb) → BufTy
  | .hbm, ⟨0, _⟩ => ⟨S4x4096x2048, .f32⟩
  | .hbm, ⟨1, _⟩ => ⟨S2048x2048, .f32⟩
  | .hbm, ⟨2, _⟩ => ⟨S4x4096x2048, .f32⟩
  | .hbm, ⟨3, _⟩ => ⟨S4x1x2048, .f32⟩
  | .hbm, ⟨4, _⟩ => ⟨S4x4096x2048, .f32⟩
  | .hbm, ⟨5, _⟩ => ⟨S4x4096x2048, .f32⟩
  | .hbm, ⟨6, _⟩ => ⟨S4x4096x2048, .f32⟩
  | .hbm, ⟨7, _⟩ => ⟨S4x4096x2048, .f32⟩
  | _, _ => ⟨S4x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩

abbrev nD : Nat := 1
abbrev τ : Topo := Topo.v7x

variable {F : FTy → Type} [FloatOps F]
-- ==== Ffn.lean ====
abbrev S4x16x512x1024 : Shape := ⟨4, ![4, 16, 512, 1024]⟩
abbrev S4x16x512x1 : Shape := ⟨4, ![4, 16, 512, 1]⟩
abbrev S4x1x2048 : Shape := ⟨3, ![4, 1, 2048]⟩
abbrev S4x16x32x1024 : Shape := ⟨4, ![4, 16, 32, 1024]⟩
abbrev S4x16x32x1 : Shape := ⟨4, ![4, 16, 32, 1]⟩
abbrev S1x2048 : Shape := ⟨2, ![1, 2048]⟩
abbrev S4x16x2048x1024 : Shape := ⟨4, ![4, 16, 2048, 1024]⟩
abbrev S4x16x1024x2048 : Shape := ⟨4, ![4, 16, 1024, 2048]⟩
abbrev S4x16x512x2048 : Shape := ⟨4, ![4, 16, 512, 2048]⟩
abbrev S4x16x32x2048 : Shape := ⟨4, ![4, 16, 32, 2048]⟩
abbrev S1x1x512x1024 : Shape := ⟨4, ![1, 1, 512, 1024]⟩
abbrev S1x1x512x1 : Shape := ⟨4, ![1, 1, 512, 1]⟩
abbrev S1x1x2048 : Shape := ⟨3, ![1, 1, 2048]⟩
abbrev S4x1x32x1024 : Shape := ⟨4, ![4, 1, 32, 1024]⟩
abbrev S4x1x32x1 : Shape := ⟨4, ![4, 1, 32, 1]⟩
abbrev S1x1x2048x1024 : Shape := ⟨4, ![1, 1, 2048, 1024]⟩
abbrev S1x1x1024x2048 : Shape := ⟨4, ![1, 1, 1024, 2048]⟩
abbrev S1x1x512x2048 : Shape := ⟨4, ![1, 1, 512, 2048]⟩
abbrev S4x1x32x2048 : Shape := ⟨4, ![4, 1, 32, 2048]⟩
abbrev S512x1024 : Shape := ⟨2, ![512, 1024]⟩
abbrev S512x1 : Shape := ⟨2, ![512, 1]⟩
abbrev S512x2048 : Shape := ⟨2, ![512, 2048]⟩
abbrev S2048x1024 : Shape := ⟨2, ![2048, 1024]⟩
abbrev S1024x2048 : Shape := ⟨2, ![1024, 2048]⟩
abbrev S4x32x1024 : Shape := ⟨3, ![4, 32, 1024]⟩
abbrev S128x1024 : Shape := ⟨2, ![128, 1024]⟩
abbrev S4x32x1 : Shape := ⟨3, ![4, 32, 1]⟩
abbrev S128x1 : Shape := ⟨2, ![128, 1]⟩
abbrev S128x2048 : Shape := ⟨2, ![128, 2048]⟩
abbrev S4x32x2048 : Shape := ⟨3, ![4, 32, 2048]⟩

abbrev nBuf : Space → Nat
  | .hbm => 14
  | .vmem => 21
  | .smem => 0
  | _ => 0

abbrev bufTy : (tb : Table) → Fin (tcTables nBuf tb) → BufTy
  | .hbm, ⟨0, _⟩ => ⟨S4x16x512x1024, .i32⟩
  | .hbm, ⟨1, _⟩ => ⟨S4x16x512x1, .f32⟩
  | .hbm, ⟨2, _⟩ => ⟨S4x1x2048, .f32⟩
  | .hbm, ⟨3, _⟩ => ⟨S4x16x32x1024, .i32⟩
  | .hbm, ⟨4, _⟩ => ⟨S4x16x32x1, .f32⟩
  | .hbm, ⟨5, _⟩ => ⟨S1x2048, .f32⟩
  | .hbm, ⟨6, _⟩ => ⟨S4x16x2048x1024, .f32⟩
  | .hbm, ⟨7, _⟩ => ⟨S4x16x2048x1024, .f32⟩
  | .hbm, ⟨8, _⟩ => ⟨S4x16x1024x2048, .f32⟩
  | .hbm, ⟨9, _⟩ => ⟨S4x16x2048x1024, .bf16⟩
  | .hbm, ⟨10, _⟩ => ⟨S4x16x2048x1024, .bf16⟩
  | .hbm, ⟨11, _⟩ => ⟨S4x16x1024x2048, .bf16⟩
  | .hbm, ⟨12, _⟩ => ⟨S4x16x512x2048, .f32⟩
  | .hbm, ⟨13, _⟩ => ⟨S4x16x32x2048, .f32⟩
  | .local _ .vmem, ⟨0, _⟩ => ⟨S1x1x512x1024, .i32⟩
  | .local _ .vmem, ⟨1, _⟩ => ⟨S1x1x512x1024, .i32⟩
  | .local _ .vmem, ⟨2, _⟩ => ⟨S1x1x512x1, .f32⟩
  | .local _ .vmem, ⟨3, _⟩ => ⟨S1x1x512x1, .f32⟩
  | .local _ .vmem, ⟨4, _⟩ => ⟨S1x1x2048, .f32⟩
  | .local _ .vmem, ⟨5, _⟩ => ⟨S1x1x2048, .f32⟩
  | .local _ .vmem, ⟨6, _⟩ => ⟨S4x1x32x1024, .i32⟩
  | .local _ .vmem, ⟨7, _⟩ => ⟨S4x1x32x1024, .i32⟩
  | .local _ .vmem, ⟨8, _⟩ => ⟨S4x1x32x1, .f32⟩
  | .local _ .vmem, ⟨9, _⟩ => ⟨S4x1x32x1, .f32⟩
  | .local _ .vmem, ⟨10, _⟩ => ⟨S1x2048, .f32⟩
  | .local _ .vmem, ⟨11, _⟩ => ⟨S1x1x2048x1024, .bf16⟩
  | .local _ .vmem, ⟨12, _⟩ => ⟨S1x1x2048x1024, .bf16⟩
  | .local _ .vmem, ⟨13, _⟩ => ⟨S1x1x2048x1024, .bf16⟩
  | .local _ .vmem, ⟨14, _⟩ => ⟨S1x1x2048x1024, .bf16⟩
  | .local _ .vmem, ⟨15, _⟩ => ⟨S1x1x1024x2048, .bf16⟩
  | .local _ .vmem, ⟨16, _⟩ => ⟨S1x1x1024x2048, .bf16⟩
  | .local _ .vmem, ⟨17, _⟩ => ⟨S1x1x512x2048, .f32⟩
  | .local _ .vmem, ⟨18, _⟩ => ⟨S1x1x512x2048, .f32⟩
  | .local _ .vmem, ⟨19, _⟩ => ⟨S4x1x32x2048, .f32⟩
  | .local _ .vmem, ⟨20, _⟩ => ⟨S4x1x32x2048, .f32⟩
  | _, _ => ⟨S4x16x512x1024, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3_0 : Ref sig .tc := ⟨.hbm, 12, rfl⟩
abbrev main_v3_1 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_stg10_1 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20

abbrev nD : Nat := 1
abbrev τ : Topo := Topo.v7x

variable {F : FTy → Type} [FloatOps F]

abbrev grid0 : Pipeline.Grid := ⟨2, ![16, 5], ![false, false]⟩

def k0_cond1 (i : grid0.Coords) : BitVec 1 :=
  let arg1 : BitVec 32 := BitVec.ofNat 32 (i 1).val
  let c4_i32 : BitVec 32 := 4#32
  let v0 : BitVec 1 := Scalar.cmpi .slt arg1 c4_i32
  let v1 : BitVec 32 := Scalar.extui v0
  let c0_i32 : BitVec 32 := 0#32
  let v2 : BitVec 1 := Scalar.cmpi .ne v1 c0_i32
  v2

def k0_cond2 (i : grid0.Coords) : BitVec 1 :=
  let arg1 : BitVec 32 := BitVec.ofNat 32 (i 1).val
  let c4_i32_0 : BitVec 32 := 4#32
  let v3 : BitVec 1 := Scalar.cmpi .eq arg1 c4_i32_0
  let v4 : BitVec 32 := Scalar.extui v3
  let c0_i32_1 : BitVec 32 := 0#32
  let v5 : BitVec 1 := Scalar.cmpi .ne v4 c0_i32_1
  v5

def cc0_transform_0 (i : grid0.Coords) : Fin 4 → Nat :=
  let arg0 : BitVec 32 := BitVec.ofNat 32 (i 0).val
  let arg1 : BitVec 32 := BitVec.ofNat 32 (i 1).val
  let c3_i32 : BitVec 32 := 3#32
  let v0 : BitVec 32 := Scalar.minsi arg1 c3_i32
  let c0_i32 : BitVec 32 := 0#32
  let c0_i32_0 : BitVec 32 := 0#32
  let c0_i32_1 : BitVec 32 := 0#32
  ![v0.toNat, arg0.toNat, c0_i32.toNat, c0_i32_0.toNat]

def cc0_transform_1 (i : grid0.Coords) : Fin 4 → Nat :=
  let arg0 : BitVec 32 := BitVec.ofNat 32 (i 0).val
  let arg1 : BitVec 32 := BitVec.ofNat 32 (i 1).val
  let c3_i32 : BitVec 32 := 3#32
  let v0 : BitVec 32 := Scalar.minsi arg1 c3_i32
  let c0_i32 : BitVec 32 := 0#32
  let c0_i32_0 : BitVec 32 := 0#32
  let c0_i32_1 : BitVec 32 := 0#32
  ![v0.toNat, arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c3_i32 : BitVec 32 := 3#32
  let v0 : BitVec 32 := Scalar.minsi arg1 c3_i32
  let c0_i32 : BitVec 32 := 0#32
  let c0_i32_0 : BitVec 32 := 0#32
  let c0_i32_1 : BitVec 32 := 0#32
  ![v0.toNat, c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_7 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_8 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_9 (i : grid0.Coords) : Fin 4 → Nat :=
  let arg0 : BitVec 32 := BitVec.ofNat 32 (i 0).val
  let arg1 : BitVec 32 := BitVec.ofNat 32 (i 1).val
  let c3_i32 : BitVec 32 := 3#32
  let v0 : BitVec 32 := Scalar.minsi arg1 c3_i32
  let c0_i32 : BitVec 32 := 0#32
  let c0_i32_0 : BitVec 32 := 0#32
  let c0_i32_1 : BitVec 32 := 0#32
  ![v0.toNat, arg0.toNat, c0_i32.toNat, c0_i32_0.toNat]

def cc0_transform_10 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

abbrev stage0_0 : Fin 2 → Memref sig .tc .vmem S1x1x512x1024 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x512x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S4x1x32x1024 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S4x1x32x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x1x2048x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x1x2048x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1x1x1024x2048 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S1x1x512x2048 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S4x1x32x2048 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]
-- ==== FfnReferenceIdeal.lean ====
abbrev S4x16x512x1024 : Shape := ⟨4, ![4, 16, 512, 1024]⟩
abbrev S4x16x512x1 : Shape := ⟨4, ![4, 16, 512, 1]⟩
abbrev S4x1x2048 : Shape := ⟨3, ![4, 1, 2048]⟩
abbrev S4x16x32x1024 : Shape := ⟨4, ![4, 16, 32, 1024]⟩
abbrev S4x16x32x1 : Shape := ⟨4, ![4, 16, 32, 1]⟩
abbrev S1x2048 : Shape := ⟨2, ![1, 2048]⟩
abbrev S4x16x2048x1024 : Shape := ⟨4, ![4, 16, 2048, 1024]⟩
abbrev S4x16x1024x2048 : Shape := ⟨4, ![4, 16, 1024, 2048]⟩
abbrev S4x16x512x1024x2 : Shape := ⟨5, ![4, 16, 512, 1024, 2]⟩
abbrev S4x16x512x1024x1 : Shape := ⟨5, ![4, 16, 512, 1024, 1]⟩
abbrev S4x16x512x2048 : Shape := ⟨4, ![4, 16, 512, 2048]⟩
abbrev S4x1x1x2048 : Shape := ⟨4, ![4, 1, 1, 2048]⟩
abbrev S1x16x2048x1024 : Shape := ⟨4, ![1, 16, 2048, 1024]⟩
abbrev S16x2048x1024 : Shape := ⟨3, ![16, 2048, 1024]⟩
abbrev S16x1024x4x512 : Shape := ⟨4, ![16, 1024, 4, 512]⟩
abbrev S_ : Shape := ⟨0, ![]⟩
abbrev S1x16x1024x2048 : Shape := ⟨4, ![1, 16, 1024, 2048]⟩
abbrev S16x1024x2048 : Shape := ⟨3, ![16, 1024, 2048]⟩
abbrev S16x2048x4x512 : Shape := ⟨4, ![16, 2048, 4, 512]⟩
abbrev S4x16x32x1024x2 : Shape := ⟨5, ![4, 16, 32, 1024, 2]⟩
abbrev S4x16x32x1024x1 : Shape := ⟨5, ![4, 16, 32, 1024, 1]⟩
abbrev S4x16x32x2048 : Shape := ⟨4, ![4, 16, 32, 2048]⟩
abbrev S2048 : Shape := ⟨1, ![2048]⟩
abbrev S16x1024x4x32 : Shape := ⟨4, ![16, 1024, 4, 32]⟩
abbrev S16x2048x4x32 : Shape := ⟨4, ![16, 2048, 4, 32]⟩
abbrev S1x1x1x2048 : Shape := ⟨4, ![1, 1, 1, 2048]⟩

abbrev nBuf : Space → Nat
  | .hbm => 78
  | .vmem => 0
  | .smem => 0
  | _ => 0

abbrev bufTy : (tb : Table) → Fin (tcTables nBuf tb) → BufTy
  | .hbm, ⟨0, _⟩ => ⟨S4x16x512x1024, .i32⟩
  | .hbm, ⟨1, _⟩ => ⟨S4x16x512x1, .f32⟩
  | .hbm, ⟨2, _⟩ => ⟨S4x1x2048, .f32⟩
  | .hbm, ⟨3, _⟩ => ⟨S4x16x32x1024, .i32⟩
  | .hbm, ⟨4, _⟩ => ⟨S4x16x32x1, .f32⟩
  | .hbm, ⟨5, _⟩ => ⟨S1x2048, .f32⟩
  | .hbm, ⟨6, _⟩ => ⟨S4x16x2048x1024, .f32⟩
  | .hbm, ⟨7, _⟩ => ⟨S4x16x2048x1024, .f32⟩
  | .hbm, ⟨8, _⟩ => ⟨S4x16x1024x2048, .f32⟩
  | .hbm, ⟨9, _⟩ => ⟨S4x16x512x1024x2, .bf16⟩
  | .hbm, ⟨10, _⟩ => ⟨S4x16x512x1024x1, .bf16⟩
  | .hbm, ⟨11, _⟩ => ⟨S4x16x512x1024, .bf16⟩
  | .hbm, ⟨12, _⟩ => ⟨S4x16x512x1024x1, .bf16⟩
  | .hbm, ⟨13, _⟩ => ⟨S4x16x512x1024, .bf16⟩
  | .hbm, ⟨14, _⟩ => ⟨S4x16x512x2048, .bf16⟩
  | .hbm, ⟨15, _⟩ => ⟨S4x16x512x2048, .f32⟩
  | .hbm, ⟨16, _⟩ => ⟨S4x1x1x2048, .f32⟩
  | .hbm, ⟨17, _⟩ => ⟨S1x16x2048x1024, .f32⟩
  | .hbm, ⟨18, _⟩ => ⟨S16x2048x1024, .f32⟩
  | .hbm, ⟨19, _⟩ => ⟨S16x1024x4x512, .f32⟩
  | .hbm, ⟨20, _⟩ => ⟨S4x16x512x1024, .f32⟩
  | .hbm, ⟨21, _⟩ => ⟨S1x16x2048x1024, .f32⟩
  | .hbm, ⟨22, _⟩ => ⟨S16x2048x1024, .f32⟩
  | .hbm, ⟨23, _⟩ => ⟨S16x1024x4x512, .f32⟩
  | .hbm, ⟨24, _⟩ => ⟨S4x16x512x1024, .f32⟩
  | .hbm, ⟨25, _⟩ => ⟨S4x16x512x1024, .f32⟩
  | .hbm, ⟨26, _⟩ => ⟨S4x16x512x1024, .f32⟩
  | .hbm, ⟨27, _⟩ => ⟨S_, .f32⟩
  | .hbm, ⟨28, _⟩ => ⟨S4x16x512x1024, .f32⟩
  | .hbm, ⟨29, _⟩ => ⟨S4x16x512x1024, .f32⟩
  | .hbm, ⟨30, _⟩ => ⟨S_, .f32⟩
  | .hbm, ⟨31, _⟩ => ⟨S4x16x512x1024, .f32⟩
  | .hbm, ⟨32, _⟩ => ⟨S4x16x512x1024, .f32⟩
  | .hbm, ⟨33, _⟩ => ⟨S4x16x512x1024, .f32⟩
  | .hbm, ⟨34, _⟩ => ⟨S4x16x512x1024, .f32⟩
  | .hbm, ⟨35, _⟩ => ⟨S1x16x1024x2048, .f32⟩
  | .hbm, ⟨36, _⟩ => ⟨S16x1024x2048, .f32⟩
  | .hbm, ⟨37, _⟩ => ⟨S16x2048x4x512, .f32⟩
  | .hbm, ⟨38, _⟩ => ⟨S4x16x512x2048, .f32⟩
  | .hbm, ⟨39, _⟩ => ⟨S4x16x512x2048, .f32⟩
  | .hbm, ⟨40, _⟩ => ⟨S4x16x512x2048, .f32⟩
  | .hbm, ⟨41, _⟩ => ⟨S4x16x512x2048, .f32⟩
  | .hbm, ⟨42, _⟩ => ⟨S4x16x512x2048, .f32⟩
  | .hbm, ⟨43, _⟩ => ⟨S4x16x32x1024x2, .bf16⟩
  | .hbm, ⟨44, _⟩ => ⟨S4x16x32x1024x1, .bf16⟩
  | .hbm, ⟨45, _⟩ => ⟨S4x16x32x1024, .bf16⟩
  | .hbm, ⟨46, _⟩ => ⟨S4x16x32x1024x1, .bf16⟩
  | .hbm, ⟨47, _⟩ => ⟨S4x16x32x1024, .bf16⟩
  | .hbm, ⟨48, _⟩ => ⟨S4x16x32x2048, .bf16⟩
  | .hbm, ⟨49, _⟩ => ⟨S4x16x32x2048, .f32⟩
  | .hbm, ⟨50, _⟩ => ⟨S2048, .f32⟩
  | .hbm, ⟨51, _⟩ => ⟨S1x16x2048x1024, .f32⟩
  | .hbm, ⟨52, _⟩ => ⟨S16x2048x1024, .f32⟩
  | .hbm, ⟨53, _⟩ => ⟨S16x1024x4x32, .f32⟩
  | .hbm, ⟨54, _⟩ => ⟨S4x16x32x1024, .f32⟩
  | .hbm, ⟨55, _⟩ => ⟨S1x16x2048x1024, .f32⟩
  | .hbm, ⟨56, _⟩ => ⟨S16x2048x1024, .f32⟩
  | .hbm, ⟨57, _⟩ => ⟨S16x1024x4x32, .f32⟩
  | .hbm, ⟨58, _⟩ => ⟨S4x16x32x1024, .f32⟩
  | .hbm, ⟨59, _⟩ => ⟨S4x16x32x1024, .f32⟩
  | .hbm, ⟨60, _⟩ => ⟨S4x16x32x1024, .f32⟩
  | .hbm, ⟨61, _⟩ => ⟨S_, .f32⟩
  | .hbm, ⟨62, _⟩ => ⟨S4x16x32x1024, .f32⟩
  | .hbm, ⟨63, _⟩ => ⟨S4x16x32x1024, .f32⟩
  | .hbm, ⟨64, _⟩ => ⟨S_, .f32⟩
  | .hbm, ⟨65, _⟩ => ⟨S4x16x32x1024, .f32⟩
  | .hbm, ⟨66, _⟩ => ⟨S4x16x32x1024, .f32⟩
  | .hbm, ⟨67, _⟩ => ⟨S4x16x32x1024, .f32⟩
  | .hbm, ⟨68, _⟩ => ⟨S4x16x32x1024, .f32⟩
  | .hbm, ⟨69, _⟩ => ⟨S1x16x1024x2048, .f32⟩
  | .hbm, ⟨70, _⟩ => ⟨S16x1024x2048, .f32⟩
  | .hbm, ⟨71, _⟩ => ⟨S16x2048x4x32, .f32⟩
  | .hbm, ⟨72, _⟩ => ⟨S4x16x32x2048, .f32⟩
  | .hbm, ⟨73, _⟩ => ⟨S4x16x32x2048, .f32⟩
  | .hbm, ⟨74, _⟩ => ⟨S4x16x32x2048, .f32⟩
  | .hbm, ⟨75, _⟩ => ⟨S1x1x1x2048, .f32⟩
  | .hbm, ⟨76, _⟩ => ⟨S4x16x32x2048, .f32⟩
  | .hbm, ⟨77, _⟩ => ⟨S4x16x32x2048, .f32⟩
  | _, _ => ⟨S4x16x512x1024, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_call0_v0 : Ref sig .tc := ⟨.hbm, 25, rfl⟩
abbrev main_call0_v1 : Ref sig .tc := ⟨.hbm, 26, rfl⟩
abbrev main_call0_cst : Ref sig .tc := ⟨.hbm, 27, rfl⟩
abbrev main_call0_v2 : Ref sig .tc := ⟨.hbm, 28, rfl⟩
abbrev main_call0_v3 : Ref sig .tc := ⟨.hbm, 29, rfl⟩
abbrev main_call0_cst_0 : Ref sig .tc := ⟨.hbm, 30, rfl⟩
abbrev main_call0_v4 : Ref sig .tc := ⟨.hbm, 31, rfl⟩
abbrev main_call0_v5 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_call1_v0 : Ref sig .tc := ⟨.hbm, 59, rfl⟩
abbrev main_call1_v1 : Ref sig .tc := ⟨.hbm, 60, rfl⟩
abbrev main_call1_cst : Ref sig .tc := ⟨.hbm, 61, rfl⟩
abbrev main_call1_v2 : Ref sig .tc := ⟨.hbm, 62, rfl⟩
abbrev main_call1_v3 : Ref sig .tc := ⟨.hbm, 63, rfl⟩
abbrev main_call1_cst_0 : Ref sig .tc := ⟨.hbm, 64, rfl⟩
abbrev main_call1_v4 : Ref sig .tc := ⟨.hbm, 65, rfl⟩
abbrev main_call1_v5 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩

abbrev nD : Nat := 1
abbrev τ : Topo := Topo.v7x

variable {F : FTy → Type} [FloatOps F]
-- ==== FfnLast.lean ====
abbrev S4x16x512x1024 : Shape := ⟨4, ![4, 16, 512, 1024]⟩
abbrev S4x16x512x1 : Shape := ⟨4, ![4, 16, 512, 1]⟩
abbrev S4x1x2048 : Shape := ⟨3, ![4, 1, 2048]⟩
abbrev S4x16x2048x1024 : Shape := ⟨4, ![4, 16, 2048, 1024]⟩
abbrev S4x16x1024x2048 : Shape := ⟨4, ![4, 16, 1024, 2048]⟩
abbrev S4x16x512x2048 : Shape := ⟨4, ![4, 16, 512, 2048]⟩
abbrev S1x1x512x1024 : Shape := ⟨4, ![1, 1, 512, 1024]⟩
abbrev S1x1x512x1 : Shape := ⟨4, ![1, 1, 512, 1]⟩
abbrev S1x1x2048 : Shape := ⟨3, ![1, 1, 2048]⟩
abbrev S1x1x2048x1024 : Shape := ⟨4, ![1, 1, 2048, 1024]⟩
abbrev S1x1x1024x2048 : Shape := ⟨4, ![1, 1, 1024, 2048]⟩
abbrev S1x1x512x2048 : Shape := ⟨4, ![1, 1, 512, 2048]⟩
abbrev S512x1024 : Shape := ⟨2, ![512, 1024]⟩
abbrev S512x1 : Shape := ⟨2, ![512, 1]⟩
abbrev S1x2048 : Shape := ⟨2, ![1, 2048]⟩
abbrev S512x2048 : Shape := ⟨2, ![512, 2048]⟩
abbrev S2048x1024 : Shape := ⟨2, ![2048, 1024]⟩
abbrev S1024x2048 : Shape := ⟨2, ![1024, 2048]⟩

abbrev nBuf : Space → Nat
  | .hbm => 10
  | .vmem => 14
  | .smem => 0
  | _ => 0

abbrev bufTy : (tb : Table) → Fin (tcTables nBuf tb) → BufTy
  | .hbm, ⟨0, _⟩ => ⟨S4x16x512x1024, .i32⟩
  | .hbm, ⟨1, _⟩ => ⟨S4x16x512x1, .f32⟩
  | .hbm, ⟨2, _⟩ => ⟨S4x1x2048, .f32⟩
  | .hbm, ⟨3, _⟩ => ⟨S4x16x2048x1024, .f32⟩
  | .hbm, ⟨4, _⟩ => ⟨S4x16x2048x1024, .f32⟩
  | .hbm, ⟨5, _⟩ => ⟨S4x16x1024x2048, .f32⟩
  | .hbm, ⟨6, _⟩ => ⟨S4x16x2048x1024, .bf16⟩
  | .hbm, ⟨7, _⟩ => ⟨S4x16x2048x1024, .bf16⟩
  | .hbm, ⟨8, _⟩ => ⟨S4x16x1024x2048, .bf16⟩
  | .hbm, ⟨9, _⟩ => ⟨S4x16x512x2048, .f32⟩
  | .local _ .vmem, ⟨0, _⟩ => ⟨S1x1x512x1024, .i32⟩
  | .local _ .vmem, ⟨1, _⟩ => ⟨S1x1x512x1024, .i32⟩
  | .local _ .vmem, ⟨2, _⟩ => ⟨S1x1x512x1, .f32⟩
  | .local _ .vmem, ⟨3, _⟩ => ⟨S1x1x512x1, .f32⟩
  | .local _ .vmem, ⟨4, _⟩ => ⟨S1x1x2048, .f32⟩
  | .local _ .vmem, ⟨5, _⟩ => ⟨S1x1x2048, .f32⟩
  | .local _ .vmem, ⟨6, _⟩ => ⟨S1x1x2048x1024, .bf16⟩
  | .local _ .vmem, ⟨7, _⟩ => ⟨S1x1x2048x1024, .bf16⟩
  | .local _ .vmem, ⟨8, _⟩ => ⟨S1x1x2048x1024, .bf16⟩
  | .local _ .vmem, ⟨9, _⟩ => ⟨S1x1x2048x1024, .bf16⟩
  | .local _ .vmem, ⟨10, _⟩ => ⟨S1x1x1024x2048, .bf16⟩
  | .local _ .vmem, ⟨11, _⟩ => ⟨S1x1x1024x2048, .bf16⟩
  | .local _ .vmem, ⟨12, _⟩ => ⟨S1x1x512x2048, .f32⟩
  | .local _ .vmem, ⟨13, _⟩ => ⟨S1x1x512x2048, .f32⟩
  | _, _ => ⟨S4x16x512x1024, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![16, 4], ![false, false]⟩

def k0_cond1 (i : grid0.Coords) : BitVec 1 :=
  let arg1 : BitVec 32 := BitVec.ofNat 32 (i 1).val
  let c4_i32 : BitVec 32 := 4#32
  let v0 : BitVec 1 := Scalar.cmpi .slt arg1 c4_i32
  let v1 : BitVec 32 := Scalar.extui v0
  let c0_i32 : BitVec 32 := 0#32
  let v2 : BitVec 1 := Scalar.cmpi .ne v1 c0_i32
  v2

def cc0_transform_0 (i : grid0.Coords) : Fin 4 → Nat :=
  let arg0 : BitVec 32 := BitVec.ofNat 32 (i 0).val
  let arg1 : BitVec 32 := BitVec.ofNat 32 (i 1).val
  let c3_i32 : BitVec 32 := 3#32
  let v0 : BitVec 32 := Scalar.minsi arg1 c3_i32
  let c0_i32 : BitVec 32 := 0#32
  let c0_i32_0 : BitVec 32 := 0#32
  let c0_i32_1 : BitVec 32 := 0#32
  ![v0.toNat, arg0.toNat, c0_i32.toNat, c0_i32_0.toNat]

def cc0_transform_1 (i : grid0.Coords) : Fin 4 → Nat :=
  let arg0 : BitVec 32 := BitVec.ofNat 32 (i 0).val
  let arg1 : BitVec 32 := BitVec.ofNat 32 (i 1).val
  let c3_i32 : BitVec 32 := 3#32
  let v0 : BitVec 32 := Scalar.minsi arg1 c3_i32
  let c0_i32 : BitVec 32 := 0#32
  let c0_i32_0 : BitVec 32 := 0#32
  let c0_i32_1 : BitVec 32 := 0#32
  ![v0.toNat, arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c3_i32 : BitVec 32 := 3#32
  let v0 : BitVec 32 := Scalar.minsi arg1 c3_i32
  let c0_i32 : BitVec 32 := 0#32
  let c0_i32_0 : BitVec 32 := 0#32
  let c0_i32_1 : BitVec 32 := 0#32
  ![v0.toNat, c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let c3_i32 : BitVec 32 := 3#32
  let c0_i32 : BitVec 32 := 0#32
  let c0_i32_0 : BitVec 32 := 0#32
  let c0_i32_1 : BitVec 32 := 0#32
  ![c3_i32.toNat, arg0.toNat, c0_i32.toNat, c0_i32_0.toNat]

def cc0_transform_4 (i : grid0.Coords) : Fin 4 → Nat :=
  let arg0 : BitVec 32 := BitVec.ofNat 32 (i 0).val
  let arg1 : BitVec 32 := BitVec.ofNat 32 (i 1).val
  let c3_i32 : BitVec 32 := 3#32
  let c0_i32 : BitVec 32 := 0#32
  let c0_i32_0 : BitVec 32 := 0#32
  let c0_i32_1 : BitVec 32 := 0#32
  ![c3_i32.toNat, arg0.toNat, c0_i32.toNat, c0_i32_0.toNat]

def cc0_transform_5 (i : grid0.Coords) : Fin 4 → Nat :=
  let arg0 : BitVec 32 := BitVec.ofNat 32 (i 0).val
  let arg1 : BitVec 32 := BitVec.ofNat 32 (i 1).val
  let c3_i32 : BitVec 32 := 3#32
  let c0_i32 : BitVec 32 := 0#32
  let c0_i32_0 : BitVec 32 := 0#32
  let c0_i32_1 : BitVec 32 := 0#32
  ![c3_i32.toNat, arg0.toNat, c0_i32.toNat, c0_i32_0.toNat]

def cc0_transform_6 (i : grid0.Coords) : Fin 4 → Nat :=
  let arg0 : BitVec 32 := BitVec.ofNat 32 (i 0).val
  let arg1 : BitVec 32 := BitVec.ofNat 32 (i 1).val
  let c3_i32 : BitVec 32 := 3#32
  let v0 : BitVec 32 := Scalar.minsi arg1 c3_i32
  let c0_i32 : BitVec 32 := 0#32
  let c0_i32_0 : BitVec 32 := 0#32
  let c0_i32_1 : BitVec 32 := 0#32
  ![v0.toNat, arg0.toNat, c0_i32.toNat, c0_i32_0.toNat]

abbrev stage0_0 : Fin 2 → Memref sig .tc .vmem S1x1x512x1024 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x512x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x1x2048x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x1x2048x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x1x1024x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x1x512x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== FfnLastReferenceIdeal.lean ====
abbrev S4x16x512x1024 : Shape := ⟨4, ![4, 16, 512, 1024]⟩
abbrev S4x16x512x1 : Shape := ⟨4, ![4, 16, 512, 1]⟩
abbrev S4x1x2048 : Shape := ⟨3, ![4, 1, 2048]⟩
abbrev S4x16x2048x1024 : Shape := ⟨4, ![4, 16, 2048, 1024]⟩
abbrev S4x16x1024x2048 : Shape := ⟨4, ![4, 16, 1024, 2048]⟩
abbrev S4x16x512x1024x2 : Shape := ⟨5, ![4, 16, 512, 1024, 2]⟩
abbrev S4x16x512x1024x1 : Shape := ⟨5, ![4, 16, 512, 1024, 1]⟩
abbrev S4x16x512x2048 : Shape := ⟨4, ![4, 16, 512, 2048]⟩
abbrev S4x1x1x2048 : Shape := ⟨4, ![4, 1, 1, 2048]⟩
abbrev S1x16x2048x1024 : Shape := ⟨4, ![1, 16, 2048, 1024]⟩
abbrev S16x2048x1024 : Shape := ⟨3, ![16, 2048, 1024]⟩
abbrev S16x1024x4x512 : Shape := ⟨4, ![16, 1024, 4, 512]⟩
abbrev S_ : Shape := ⟨0, ![]⟩
abbrev S1x16x1024x2048 : Shape := ⟨4, ![1, 16, 1024, 2048]⟩
abbrev S16x1024x2048 : Shape := ⟨3, ![16, 1024, 2048]⟩
abbrev S16x2048x4x512 : Shape := ⟨4, ![16, 2048, 4, 512]⟩

abbrev nBuf : Space → Nat
  | .hbm => 40
  | .vmem => 0
  | .smem => 0
  | _ => 0

abbrev bufTy : (tb : Table) → Fin (tcTables nBuf tb) → BufTy
  | .hbm, ⟨0, _⟩ => ⟨S4x16x512x1024, .i32⟩
  | .hbm, ⟨1, _⟩ => ⟨S4x16x512x1, .f32⟩
  | .hbm, ⟨2, _⟩ => ⟨S4x1x2048, .f32⟩
  | .hbm, ⟨3, _⟩ => ⟨S4x16x2048x1024, .f32⟩
  | .hbm, ⟨4, _⟩ => ⟨S4x16x2048x1024, .f32⟩
  | .hbm, ⟨5, _⟩ => ⟨S4x16x1024x2048, .f32⟩
  | .hbm, ⟨6, _⟩ => ⟨S4x16x512x1024x2, .bf16⟩
  | .hbm, ⟨7, _⟩ => ⟨S4x16x512x1024x1, .bf16⟩
  | .hbm, ⟨8, _⟩ => ⟨S4x16x512x1024, .bf16⟩
  | .hbm, ⟨9, _⟩ => ⟨S4x16x512x1024x1, .bf16⟩
  | .hbm, ⟨10, _⟩ => ⟨S4x16x512x1024, .bf16⟩
  | .hbm, ⟨11, _⟩ => ⟨S4x16x512x2048, .bf16⟩
  | .hbm, ⟨12, _⟩ => ⟨S4x16x512x2048, .f32⟩
  | .hbm, ⟨13, _⟩ => ⟨S4x1x1x2048, .f32⟩
  | .hbm, ⟨14, _⟩ => ⟨S1x16x2048x1024, .f32⟩
  | .hbm, ⟨15, _⟩ => ⟨S16x2048x1024, .f32⟩
  | .hbm, ⟨16, _⟩ => ⟨S16x1024x4x512, .f32⟩
  | .hbm, ⟨17, _⟩ => ⟨S4x16x512x1024, .f32⟩
  | .hbm, ⟨18, _⟩ => ⟨S1x16x2048x1024, .f32⟩
  | .hbm, ⟨19, _⟩ => ⟨S16x2048x1024, .f32⟩
  | .hbm, ⟨20, _⟩ => ⟨S16x1024x4x512, .f32⟩
  | .hbm, ⟨21, _⟩ => ⟨S4x16x512x1024, .f32⟩
  | .hbm, ⟨22, _⟩ => ⟨S4x16x512x1024, .f32⟩
  | .hbm, ⟨23, _⟩ => ⟨S4x16x512x1024, .f32⟩
  | .hbm, ⟨24, _⟩ => ⟨S_, .f32⟩
  | .hbm, ⟨25, _⟩ => ⟨S4x16x512x1024, .f32⟩
  | .hbm, ⟨26, _⟩ => ⟨S4x16x512x1024, .f32⟩
  | .hbm, ⟨27, _⟩ => ⟨S_, .f32⟩
  | .hbm, ⟨28, _⟩ => ⟨S4x16x512x1024, .f32⟩
  | .hbm, ⟨29, _⟩ => ⟨S4x16x512x1024, .f32⟩
  | .hbm, ⟨30, _⟩ => ⟨S4x16x512x1024, .f32⟩
  | .hbm, ⟨31, _⟩ => ⟨S4x16x512x1024, .f32⟩
  | .hbm, ⟨32, _⟩ => ⟨S1x16x1024x2048, .f32⟩
  | .hbm, ⟨33, _⟩ => ⟨S16x1024x2048, .f32⟩
  | .hbm, ⟨34, _⟩ => ⟨S16x2048x4x512, .f32⟩
  | .hbm, ⟨35, _⟩ => ⟨S4x16x512x2048, .f32⟩
  | .hbm, ⟨36, _⟩ => ⟨S4x16x512x2048, .f32⟩
  | .hbm, ⟨37, _⟩ => ⟨S4x16x512x2048, .f32⟩
  | .hbm, ⟨38, _⟩ => ⟨S4x16x512x2048, .f32⟩
  | .hbm, ⟨39, _⟩ => ⟨S4x16x512x2048, .f32⟩
  | _, _ => ⟨S4x16x512x1024, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_call0_v0 : Ref sig .tc := ⟨.hbm, 22, rfl⟩
abbrev main_call0_v1 : Ref sig .tc := ⟨.hbm, 23, rfl⟩
abbrev main_call0_cst : Ref sig .tc := ⟨.hbm, 24, rfl⟩
abbrev main_call0_v2 : Ref sig .tc := ⟨.hbm, 25, rfl⟩
abbrev main_call0_v3 : Ref sig .tc := ⟨.hbm, 26, rfl⟩
abbrev main_call0_cst_0 : Ref sig .tc := ⟨.hbm, 27, rfl⟩
abbrev main_call0_v4 : Ref sig .tc := ⟨.hbm, 28, rfl⟩
abbrev main_call0_v5 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== DownQ.lean ====
abbrev S4x4096x2048 : Shape := ⟨3, ![4, 4096, 2048]⟩
abbrev S2048x768 : Shape := ⟨2, ![2048, 768]⟩
abbrev S768 : Shape := ⟨1, ![768]⟩
abbrev S1x768 : Shape := ⟨2, ![1, 768]⟩
abbrev S4x4096x768 : Shape := ⟨3, ![4, 4096, 768]⟩
abbrev S1x1024x2048 : Shape := ⟨3, ![1, 1024, 2048]⟩
abbrev S1x1024x768 : Shape := ⟨3, ![1, 1024, 768]⟩
abbrev S1024x2048 : Shape := ⟨2, ![1024, 2048]⟩
abbrev S1024x768 : Shape := ⟨2, ![1024, 768]⟩
abbrev S1024 : Shape := ⟨1, ![1024]⟩
abbrev S1024x1 : Shape := ⟨2, ![1024, 1]⟩

abbrev nBuf : Space → Nat
  | .hbm => 7
  | .vmem => 6
  | .smem => 0
  | _ => 0

abbrev bufTy : (tb : Table) → Fin (tcTables nBuf tb) → BufTy
  | .hbm, ⟨0, _⟩ => ⟨S4x4096x2048, .f32⟩
  | .hbm, ⟨1, _⟩ => ⟨S2048x768, .f32⟩
  | .hbm, ⟨2, _⟩ => ⟨S768, .f32⟩
  | .hbm, ⟨3, _⟩ => ⟨S4x4096x2048, .bf16⟩
  | .hbm, ⟨4, _⟩ => ⟨S2048x768, .bf16⟩
  | .hbm, ⟨5, _⟩ => ⟨S1x768, .f32⟩
  | .hbm, ⟨6, _⟩ => ⟨S4x4096x768, .bf16⟩
  | .local _ .vmem, ⟨0, _⟩ => ⟨S1x1024x2048, .bf16⟩
  | .local _ .vmem, ⟨1, _⟩ => ⟨S1x1024x2048, .bf16⟩
  | .local _ .vmem, ⟨2, _⟩ => ⟨S2048x768, .bf16⟩
  | .local _ .vmem, ⟨3, _⟩ => ⟨S1x768, .f32⟩
  | .local _ .vmem, ⟨4, _⟩ => ⟨S1x1024x768, .bf16⟩
  | .local _ .vmem, ⟨5, _⟩ => ⟨S1x1024x768, .bf16⟩
  | _, _ => ⟨S4x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨3, ![4, 4, 1], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

abbrev stage0_0 : Fin 2 → Memref sig .tc .vmem S1x1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 1 → Memref sig .tc .vmem S2048x768 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, true]

abbrev stage0_2 : Fin 1 → Memref sig .tc .vmem S1x768 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false, false]

abbrev stage0_3 : Fin 2 → Memref sig .tc .vmem S1x1024x768 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]
-- ==== DownQReferenceIdeal.lean ====
abbrev S4x4096x2048 : Shape := ⟨3, ![4, 4096, 2048]⟩
abbrev S2048x768 : Shape := ⟨2, ![2048, 768]⟩
abbrev S768 : Shape := ⟨1, ![768]⟩
abbrev S4x4096x768 : Shape := ⟨3, ![4, 4096, 768]⟩
abbrev S_ : Shape := ⟨0, ![]⟩
abbrev S4x4096 : Shape := ⟨2, ![4, 4096]⟩
abbrev S4x4096x1 : Shape := ⟨3, ![4, 4096, 1]⟩
abbrev S1x1x768 : Shape := ⟨3, ![1, 1, 768]⟩

abbrev nBuf : Space → Nat
  | .hbm => 21
  | .vmem => 0
  | .smem => 0
  | _ => 0

abbrev bufTy : (tb : Table) → Fin (tcTables nBuf tb) → BufTy
  | .hbm, ⟨0, _⟩ => ⟨S4x4096x2048, .f32⟩
  | .hbm, ⟨1, _⟩ => ⟨S2048x768, .f32⟩
  | .hbm, ⟨2, _⟩ => ⟨S768, .f32⟩
  | .hbm, ⟨3, _⟩ => ⟨S4x4096x768, .f32⟩
  | .hbm, ⟨4, _⟩ => ⟨S4x4096x768, .f32⟩
  | .hbm, ⟨5, _⟩ => ⟨S_, .f32⟩
  | .hbm, ⟨6, _⟩ => ⟨S4x4096, .f32⟩
  | .hbm, ⟨7, _⟩ => ⟨S4x4096x1, .f32⟩
  | .hbm, ⟨8, _⟩ => ⟨S_, .f32⟩
  | .hbm, ⟨9, _⟩ => ⟨S4x4096x1, .f32⟩
  | .hbm, ⟨10, _⟩ => ⟨S4x4096x1, .f32⟩
  | .hbm, ⟨11, _⟩ => ⟨S_, .f32⟩
  | .hbm, ⟨12, _⟩ => ⟨S4x4096x1, .f32⟩
  | .hbm, ⟨13, _⟩ => ⟨S4x4096x1, .f32⟩
  | .hbm, ⟨14, _⟩ => ⟨S4x4096x1, .f32⟩
  | .hbm, ⟨15, _⟩ => ⟨S4x4096x768, .f32⟩
  | .hbm, ⟨16, _⟩ => ⟨S4x4096x768, .f32⟩
  | .hbm, ⟨17, _⟩ => ⟨S1x1x768, .f32⟩
  | .hbm, ⟨18, _⟩ => ⟨S4x4096x768, .f32⟩
  | .hbm, ⟨19, _⟩ => ⟨S4x4096x768, .f32⟩
  | .hbm, ⟨20, _⟩ => ⟨S4x4096x768, .bf16⟩
  | _, _ => ⟨S4x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩

abbrev nD : Nat := 1
abbrev τ : Topo := Topo.v7x

variable {F : FTy → Type} [FloatOps F]
-- ==== DownKv.lean ====
abbrev S4x4096x2048 : Shape := ⟨3, ![4, 4096, 2048]⟩
abbrev S2048x576 : Shape := ⟨2, ![2048, 576]⟩
abbrev S512 : Shape := ⟨1, ![512]⟩
abbrev S_ : Shape := ⟨0, ![]⟩
abbrev S2048x640 : Shape := ⟨2, ![2048, 640]⟩
abbrev S1x512 : Shape := ⟨2, ![1, 512]⟩
abbrev S4x4096x640 : Shape := ⟨3, ![4, 4096, 640]⟩
abbrev S1x1024x2048 : Shape := ⟨3, ![1, 1024, 2048]⟩
abbrev S1x1024x640 : Shape := ⟨3, ![1, 1024, 640]⟩
abbrev S1024x2048 : Shape := ⟨2, ![1024, 2048]⟩
abbrev S1024x640 : Shape := ⟨2, ![1024, 640]⟩
abbrev S1024x512 : Shape := ⟨2, ![1024, 512]⟩
abbrev S1024 : Shape := ⟨1, ![1024]⟩
abbrev S1024x1 : Shape := ⟨2, ![1024, 1]⟩
abbrev S1024x128 : Shape := ⟨2, ![1024, 128]⟩

abbrev nBuf : Space → Nat
  | .hbm => 10
  | .vmem => 6
  | .smem => 0
  | _ => 0

abbrev bufTy : (tb : Table) → Fin (tcTables nBuf tb) → BufTy
  | .hbm, ⟨0, _⟩ => ⟨S4x4096x2048, .f32⟩
  | .hbm, ⟨1, _⟩ => ⟨S2048x576, .f32⟩
  | .hbm, ⟨2, _⟩ => ⟨S512, .f32⟩
  | .hbm, ⟨3, _⟩ => ⟨S_, .i32⟩
  | .hbm, ⟨4, _⟩ => ⟨S_, .f32⟩
  | .hbm, ⟨5, _⟩ => ⟨S2048x640, .f32⟩
  | .hbm, ⟨6, _⟩ => ⟨S2048x640, .bf16⟩
  | .hbm, ⟨7, _⟩ => ⟨S4x4096x2048, .bf16⟩
  | .hbm, ⟨8, _⟩ => ⟨S1x512, .f32⟩
  | .hbm, ⟨9, _⟩ => ⟨S4x4096x640, .bf16⟩
  | .local _ .vmem, ⟨0, _⟩ => ⟨S1x1024x2048, .bf16⟩
  | .local _ .vmem, ⟨1, _⟩ => ⟨S1x1024x2048, .bf16⟩
  | .local _ .vmem, ⟨2, _⟩ => ⟨S2048x640, .bf16⟩
  | .local _ .vmem, ⟨3, _⟩ => ⟨S1x512, .f32⟩
  | .local _ .vmem, ⟨4, _⟩ => ⟨S1x1024x640, .bf16⟩
  | .local _ .vmem, ⟨5, _⟩ => ⟨S1x1024x640, .bf16⟩
  | _, _ => ⟨S4x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_call0_v0 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨3, ![4, 4, 1], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

abbrev stage0_0 : Fin 2 → Memref sig .tc .vmem S1x1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 1 → Memref sig .tc .vmem S2048x640 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, true]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false, false]

abbrev stage0_3 : Fin 2 → Memref sig .tc .vmem S1x1024x640 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]
-- ==== DownKvReferenceIdeal.lean ====
abbrev S4x4096x2048 : Shape := ⟨3, ![4, 4096, 2048]⟩
abbrev S2048x576 : Shape := ⟨2, ![2048, 576]⟩
abbrev S512 : Shape := ⟨1, ![512]⟩
abbrev S4x4096x576 : Shape := ⟨3, ![4, 4096, 576]⟩
abbrev S4x4096x512 : Shape := ⟨3, ![4, 4096, 512]⟩
abbrev S4x4096x64 : Shape := ⟨3, ![4, 4096, 64]⟩
abbrev S_ : Shape := ⟨0, ![]⟩
abbrev S4x4096 : Shape := ⟨2, ![4, 4096]⟩
abbrev S4x4096x1 : Shape := ⟨3, ![4, 4096, 1]⟩
abbrev S1x1x512 : Shape := ⟨3, ![1, 1, 512]⟩
abbrev S4x4096x640 : Shape := ⟨3, ![4, 4096, 640]⟩

abbrev nBuf : Space → Nat
  | .hbm => 26
  | .vmem => 0
  | .smem => 0
  | _ => 0

abbrev bufTy : (tb : Table) → Fin (tcTables nBuf tb) → BufTy
  | .hbm, ⟨0, _⟩ => ⟨S4x4096x2048, .f32⟩
  | .hbm, ⟨1, _⟩ => ⟨S2048x576, .f32⟩
  | .hbm, ⟨2, _⟩ => ⟨S512, .f32⟩
  | .hbm, ⟨3, _⟩ => ⟨S4x4096x576, .f32⟩
  | .hbm, ⟨4, _⟩ => ⟨S4x4096x512, .f32⟩
  | .hbm, ⟨5, _⟩ => ⟨S4x4096x64, .f32⟩
  | .hbm, ⟨6, _⟩ => ⟨S_, .f32⟩
  | .hbm, ⟨7, _⟩ => ⟨S4x4096x64, .f32⟩
  | .hbm, ⟨8, _⟩ => ⟨S4x4096x512, .f32⟩
  | .hbm, ⟨9, _⟩ => ⟨S_, .f32⟩
  | .hbm, ⟨10, _⟩ => ⟨S4x4096, .f32⟩
  | .hbm, ⟨11, _⟩ => ⟨S4x4096x1, .f32⟩
  | .hbm, ⟨12, _⟩ => ⟨S_, .f32⟩
  | .hbm, ⟨13, _⟩ => ⟨S4x4096x1, .f32⟩
  | .hbm, ⟨14, _⟩ => ⟨S4x4096x1, .f32⟩
  | .hbm, ⟨15, _⟩ => ⟨S_, .f32⟩
  | .hbm, ⟨16, _⟩ => ⟨S4x4096x1, .f32⟩
  | .hbm, ⟨17, _⟩ => ⟨S4x4096x1, .f32⟩
  | .hbm, ⟨18, _⟩ => ⟨S4x4096x1, .f32⟩
  | .hbm, ⟨19, _⟩ => ⟨S4x4096x512, .f32⟩
  | .hbm, ⟨20, _⟩ => ⟨S4x4096x512, .f32⟩
  | .hbm, ⟨21, _⟩ => ⟨S1x1x512, .f32⟩
  | .hbm, ⟨22, _⟩ => ⟨S4x4096x512, .f32⟩
  | .hbm, ⟨23, _⟩ => ⟨S4x4096x512, .f32⟩
  | .hbm, ⟨24, _⟩ => ⟨S4x4096x640, .f32⟩
  | .hbm, ⟨25, _⟩ => ⟨S4x4096x640, .bf16⟩
  | _, _ => ⟨S4x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩

abbrev nD : Nat := 1
abbrev τ : Topo := Topo.v7x

variable {F : FTy → Type} [FloatOps F]
-- ==== UpQ.lean ====
abbrev S4x4096x768 : Shape := ⟨3, ![4, 4096, 768]⟩
abbrev S768x3072 : Shape := ⟨2, ![768, 3072]⟩
abbrev S192 : Shape := ⟨1, ![192]⟩
abbrev S4096x64 : Shape := ⟨2, ![4096, 64]⟩
abbrev S768x16x192 : Shape := ⟨3, ![768, 16, 192]⟩
abbrev S_ : Shape := ⟨0, ![]⟩
abbrev S768x16x256 : Shape := ⟨3, ![768, 16, 256]⟩
abbrev S768x4096 : Shape := ⟨2, ![768, 4096]⟩
abbrev S4096x128 : Shape := ⟨2, ![4096, 128]⟩
abbrev S256 : Shape := ⟨1, ![256]⟩
abbrev S1x256 : Shape := ⟨2, ![1, 256]⟩
abbrev S4x4096x4096 : Shape := ⟨3, ![4, 4096, 4096]⟩
abbrev S1x1024x768 : Shape := ⟨3, ![1, 1024, 768]⟩
abbrev S768x1024 : Shape := ⟨2, ![768, 1024]⟩
abbrev S1024x128 : Shape := ⟨2, ![1024, 128]⟩
abbrev S1x1024x1024 : Shape := ⟨3, ![1, 1024, 1024]⟩
abbrev S1024x768 : Shape := ⟨2, ![1024, 768]⟩
abbrev S1024x1024 : Shape := ⟨2, ![1024, 1024]⟩
abbrev S1024 : Shape := ⟨1, ![1024]⟩
abbrev S1024x1 : Shape := ⟨2, ![1024, 1]⟩
abbrev S1x128 : Shape := ⟨2, ![1, 128]⟩

abbrev nBuf : Space → Nat
  | .hbm => 23
  | .vmem => 11
  | .smem => 0
  | _ => 0

abbrev bufTy : (tb : Table) → Fin (tcTables nBuf tb) → BufTy
  | .hbm, ⟨0, _⟩ => ⟨S4x4096x768, .f32⟩
  | .hbm, ⟨1, _⟩ => ⟨S768x3072, .f32⟩
  | .hbm, ⟨2, _⟩ => ⟨S192, .f32⟩
  | .hbm, ⟨3, _⟩ => ⟨S4096x64, .f32⟩
  | .hbm, ⟨4, _⟩ => ⟨S4096x64, .f32⟩
  | .hbm, ⟨5, _⟩ => ⟨S768x16x192, .f32⟩
  | .hbm, ⟨6, _⟩ => ⟨S_, .i32⟩
  | .hbm, ⟨7, _⟩ => ⟨S_, .f32⟩
  | .hbm, ⟨8, _⟩ => ⟨S768x16x256, .f32⟩
  | .hbm, ⟨9, _⟩ => ⟨S768x4096, .f32⟩
  | .hbm, ⟨10, _⟩ => ⟨S_, .f32⟩
  | .hbm, ⟨11, _⟩ => ⟨S_, .f32⟩
  | .hbm, ⟨12, _⟩ => ⟨S4096x128, .f32⟩
  | .hbm, ⟨13, _⟩ => ⟨S_, .i32⟩
  | .hbm, ⟨14, _⟩ => ⟨S_, .f32⟩
  | .hbm, ⟨15, _⟩ => ⟨S4096x128, .f32⟩
  | .hbm, ⟨16, _⟩ => ⟨S4x4096x768, .bf16⟩
  | .hbm, ⟨17, _⟩ => ⟨S768x4096, .bf16⟩
  | .hbm, ⟨18, _⟩ => ⟨S_, .i32⟩
  | .hbm, ⟨19, _⟩ => ⟨S_, .f32⟩
  | .hbm, ⟨20, _⟩ => ⟨S256, .f32⟩
  | .hbm, ⟨21, _⟩ => ⟨S1x256, .f32⟩
  | .hbm, ⟨22, _⟩ => ⟨S4x4096x4096, .bf16⟩
  | .local _ .vmem, ⟨0, _⟩ => ⟨S1x1024x768, .bf16⟩
  | .local _ .vmem, ⟨1, _⟩ => ⟨S1x1024x768, .bf16⟩
  | .local _ .vmem, ⟨2, _⟩ => ⟨S768x1024, .bf16⟩
  | .local _ .vmem, ⟨3, _⟩ => ⟨S768x1024, .bf16⟩
  | .local _ .vmem, ⟨4, _⟩ => ⟨S1x256, .f32⟩
  | .local _ .vmem, ⟨5, _⟩ => ⟨S1024x128, .f32⟩
  | .local _ .vmem, ⟨6, _⟩ => ⟨S1024x128, .f32⟩
  | .local _ .vmem, ⟨7, _⟩ => ⟨S1024x128, .f32⟩
  | .local _ .vmem, ⟨8, _⟩ => ⟨S1024x128, .f32⟩
  | .local _ .vmem, ⟨9, _⟩ => ⟨S1x1024x1024, .bf16⟩
  | .local _ .vmem, ⟨10, _⟩ => ⟨S1x1024x1024, .bf16⟩
  | _, _ => ⟨S4x4096x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_c : Ref sig .tc := ⟨.hbm, 6, rfl⟩
abbrev main_call0_v0 : Ref sig .tc := ⟨.hbm, 7, rfl⟩
abbrev main_v1 : Ref sig .tc := ⟨.hbm, 8, rfl⟩
abbrev main_v2 : Ref sig .tc := ⟨.hbm, 9, rfl⟩
abbrev main_cst : Ref sig .tc := ⟨.hbm, 10, rfl⟩
abbrev main_call1_v0 : Ref sig .tc := ⟨.hbm, 11, rfl⟩
abbrev main_v3 : Ref sig .tc := ⟨.hbm, 12, rfl⟩
abbrev main_c_0 : Ref sig .tc := ⟨.hbm, 13, rfl⟩
abbrev main_call2_v0 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_c_1 : Ref sig .tc := ⟨.hbm, 18, rfl⟩
abbrev main_call3_v0 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨3, ![4, 4, 4], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

abbrev stage0_0 : Fin 2 → Memref sig .tc .vmem S1x1024x768 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S768x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false, false]

abbrev stage0_3 : Fin 2 → Memref sig .tc .vmem S1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, false]

abbrev stage0_4 : Fin 2 → Memref sig .tc .vmem S1024x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true, false]

abbrev stage0_5 : Fin 2 → Memref sig .tc .vmem S1x1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]
-- ==== UpQIdeal.lean ====
variable {F : FTy → Type} [FloatOps F] [Named F]
def κ : String → Option EReal := fun
  | "per_entry" => some ((1 / 192 : ℝ) : EReal)
  | _ => none
-- ==== UpQReferenceIdeal.lean ====
abbrev S4x4096x768 : Shape := ⟨3, ![4, 4096, 768]⟩
abbrev S768x3072 : Shape := ⟨2, ![768, 3072]⟩
abbrev S192 : Shape := ⟨1, ![192]⟩
abbrev S4096x64 : Shape := ⟨2, ![4096, 64]⟩
abbrev S4x4096x3072 : Shape := ⟨3, ![4, 4096, 3072]⟩
abbrev S4x4096x16x192 : Shape := ⟨4, ![4, 4096, 16, 192]⟩
abbrev S_ : Shape := ⟨0, ![]⟩
abbrev S4x4096x16 : Shape := ⟨3, ![4, 4096, 16]⟩
abbrev S4x4096x16x1 : Shape := ⟨4, ![4, 4096, 16, 1]⟩
abbrev S1x1x1x192 : Shape := ⟨4, ![1, 1, 1, 192]⟩
abbrev S4x4096x16x128 : Shape := ⟨4, ![4, 4096, 16, 128]⟩
abbrev S4x4096x16x64 : Shape := ⟨4, ![4, 4096, 16, 64]⟩
abbrev S4x4096x16x32 : Shape := ⟨4, ![4, 4096, 16, 32]⟩
abbrev S4096x32 : Shape := ⟨2, ![4096, 32]⟩
abbrev S4x4096x16x16 : Shape := ⟨4, ![4, 4096, 16, 16]⟩
abbrev S1x4096x1x32 : Shape := ⟨4, ![1, 4096, 1, 32]⟩
abbrev S4x4096x16x256 : Shape := ⟨4, ![4, 4096, 16, 256]⟩
abbrev S4x4096x4096 : Shape := ⟨3, ![4, 4096, 4096]⟩

abbrev nBuf : Space → Nat
  | .hbm => 63
  | .vmem => 0
  | .smem => 0
  | _ => 0

abbrev bufTy : (tb : Table) → Fin (tcTables nBuf tb) → BufTy
  | .hbm, ⟨0, _⟩ => ⟨S4x4096x768, .f32⟩
  | .hbm, ⟨1, _⟩ => ⟨S768x3072, .f32⟩
  | .hbm, ⟨2, _⟩ => ⟨S192, .f32⟩
  | .hbm, ⟨3, _⟩ => ⟨S4096x64, .f32⟩
  | .hbm, ⟨4, _⟩ => ⟨S4096x64, .f32⟩
  | .hbm, ⟨5, _⟩ => ⟨S4x4096x3072, .f32⟩
  | .hbm, ⟨6, _⟩ => ⟨S4x4096x16x192, .f32⟩
  | .hbm, ⟨7, _⟩ => ⟨S4x4096x16x192, .f32⟩
  | .hbm, ⟨8, _⟩ => ⟨S_, .f32⟩
  | .hbm, ⟨9, _⟩ => ⟨S4x4096x16, .f32⟩
  | .hbm, ⟨10, _⟩ => ⟨S4x4096x16x1, .f32⟩
  | .hbm, ⟨11, _⟩ => ⟨S_, .f32⟩
  | .hbm, ⟨12, _⟩ => ⟨S4x4096x16x1, .f32⟩
  | .hbm, ⟨13, _⟩ => ⟨S4x4096x16x1, .f32⟩
  | .hbm, ⟨14, _⟩ => ⟨S_, .f32⟩
  | .hbm, ⟨15, _⟩ => ⟨S4x4096x16x1, .f32⟩
  | .hbm, ⟨16, _⟩ => ⟨S4x4096x16x1, .f32⟩
  | .hbm, ⟨17, _⟩ => ⟨S4x4096x16x1, .f32⟩
  | .hbm, ⟨18, _⟩ => ⟨S4x4096x16x192, .f32⟩
  | .hbm, ⟨19, _⟩ => ⟨S4x4096x16x192, .f32⟩
  | .hbm, ⟨20, _⟩ => ⟨S1x1x1x192, .f32⟩
  | .hbm, ⟨21, _⟩ => ⟨S4x4096x16x192, .f32⟩
  | .hbm, ⟨22, _⟩ => ⟨S4x4096x16x192, .f32⟩
  | .hbm, ⟨23, _⟩ => ⟨S4x4096x16x128, .f32⟩
  | .hbm, ⟨24, _⟩ => ⟨S4x4096x16x64, .f32⟩
  | .hbm, ⟨25, _⟩ => ⟨S4x4096x16x32, .f32⟩
  | .hbm, ⟨26, _⟩ => ⟨S4x4096x16x32, .f32⟩
  | .hbm, ⟨27, _⟩ => ⟨S4096x32, .f32⟩
  | .hbm, ⟨28, _⟩ => ⟨S4096x32, .f32⟩
  | .hbm, ⟨29, _⟩ => ⟨S4x4096x16x16, .f32⟩
  | .hbm, ⟨30, _⟩ => ⟨S4x4096x16x16, .f32⟩
  | .hbm, ⟨31, _⟩ => ⟨S4x4096x16x16, .f32⟩
  | .hbm, ⟨32, _⟩ => ⟨S4x4096x16x32, .f32⟩
  | .hbm, ⟨33, _⟩ => ⟨S1x4096x1x32, .f32⟩
  | .hbm, ⟨34, _⟩ => ⟨S4x4096x16x32, .f32⟩
  | .hbm, ⟨35, _⟩ => ⟨S4x4096x16x32, .f32⟩
  | .hbm, ⟨36, _⟩ => ⟨S1x4096x1x32, .f32⟩
  | .hbm, ⟨37, _⟩ => ⟨S4x4096x16x32, .f32⟩
  | .hbm, ⟨38, _⟩ => ⟨S4x4096x16x32, .f32⟩
  | .hbm, ⟨39, _⟩ => ⟨S4x4096x16x32, .f32⟩
  | .hbm, ⟨40, _⟩ => ⟨S4096x32, .f32⟩
  | .hbm, ⟨41, _⟩ => ⟨S4096x32, .f32⟩
  | .hbm, ⟨42, _⟩ => ⟨S4x4096x16x16, .f32⟩
  | .hbm, ⟨43, _⟩ => ⟨S4x4096x16x16, .f32⟩
  | .hbm, ⟨44, _⟩ => ⟨S4x4096x16x16, .f32⟩
  | .hbm, ⟨45, _⟩ => ⟨S4x4096x16x32, .f32⟩
  | .hbm, ⟨46, _⟩ => ⟨S1x4096x1x32, .f32⟩
  | .hbm, ⟨47, _⟩ => ⟨S4x4096x16x32, .f32⟩
  | .hbm, ⟨48, _⟩ => ⟨S4x4096x16x32, .f32⟩
  | .hbm, ⟨49, _⟩ => ⟨S1x4096x1x32, .f32⟩
  | .hbm, ⟨50, _⟩ => ⟨S4x4096x16x32, .f32⟩
  | .hbm, ⟨51, _⟩ => ⟨S4x4096x16x32, .f32⟩
  | .hbm, ⟨52, _⟩ => ⟨S4x4096x16x32, .f32⟩
  | .hbm, ⟨53, _⟩ => ⟨S4x4096x16x64, .f32⟩
  | .hbm, ⟨54, _⟩ => ⟨S4x4096x16x192, .f32⟩
  | .hbm, ⟨55, _⟩ => ⟨S_, .f32⟩
  | .hbm, ⟨56, _⟩ => ⟨S4x4096x16x192, .f32⟩
  | .hbm, ⟨57, _⟩ => ⟨S4x4096x16x192, .f32⟩
  | .hbm, ⟨58, _⟩ => ⟨S_, .f32⟩
  | .hbm, ⟨59, _⟩ => ⟨S4x4096x16x64, .f32⟩
  | .hbm, ⟨60, _⟩ => ⟨S4x4096x16x256, .f32⟩
  | .hbm, ⟨61, _⟩ => ⟨S4x4096x4096, .f32⟩
  | .hbm, ⟨62, _⟩ => ⟨S4x4096x4096, .bf16⟩
  | _, _ => ⟨S4x4096x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_v44 : Ref sig .tc := ⟨.hbm, 52, rfl⟩
abbrev main_v45 : Ref sig .tc := ⟨.hbm, 53, rfl⟩
abbrev main_v46 : Ref sig .tc := ⟨.hbm, 54, rfl⟩
abbrev main_cst_2 : Ref sig .tc := ⟨.hbm, 55, rfl⟩
abbrev main_v47 : Ref sig .tc := ⟨.hbm, 56, rfl⟩
abbrev main_v48 : Ref sig .tc := ⟨.hbm, 57, rfl⟩
abbrev main_cst_3 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_v52 : Ref sig .tc := ⟨.hbm, 62, rfl⟩

abbrev nD : Nat := 1
abbrev τ : Topo := Topo.v7x

variable {F : FTy → Type} [FloatOps F]
-- ==== Proof.Softmax.lean ====
/- The mathematics of a softmax taken over the keys chunk by chunk, on extended reals: the running
   maximum and the running weighted sum of one row, and their quotient. No program is named here. -/
module

public import Idealize.ShloMosaic.PureOps
public import Idealize.ShloMosaic.Lib.Pointwise

@[expose] public section

noncomputable section

namespace Cert.Softmax

open Idealize.ShloMosaic Finset

/-- A real factor that is not negative goes under a finite sum of extended reals. -/
theorem coe_mul_sum {ι : Type*} (s : Finset ι) (a : ℝ) (ha : 0 ≤ a) (f : ι → EReal) :
    (a : EReal) * ∑ i ∈ s, f i = ∑ i ∈ s, (a : EReal) * f i := by
  classical
  induction s using Finset.induction_on with
  | empty => simp
  | insert i s hi ih =>
    rw [sum_insert hi, sum_insert hi, EReal.left_distrib_of_nonneg_of_ne_top (by exact_mod_cast ha) (EReal.coe_ne_top _), ih]

/-- The sum of real numbers is the same number among the extended reals. -/
theorem coe_sum {ι : Type*} (s : Finset ι) (f : ι → ℝ) : ((∑ i ∈ s, f i : ℝ) : EReal) = ∑ i ∈ s, (f i : EReal) := by
  classical
  induction s using Finset.induction_on with
  | empty => simp
  | insert i s hi ih => rw [sum_insert hi, sum_insert hi, EReal.coe_add, ih]

/-- The greatest of finitely many reals is a real, or minus infinity where there are none. -/
theorem fold_max_cases {ι : Type*} (s : Finset ι) (f : ι → EReal) (h : ∀ i, ∃ r : ℝ, f i = r) :
    s.fold max ⊥ f = ⊥ ∨ ∃ r : ℝ, s.fold max ⊥ f = r := by
  classical
  induction s using Finset.induction_on with
  | empty => left; simp
  | insert i s hi ih =>
    obtain ⟨x, hx⟩ := h i
    right
    rw [fold_insert hi]
    rcases ih with ih | ⟨r, ih⟩
    · exact ⟨x, by rw [ih, hx]; simp⟩
    · exact ⟨max x r, by rw [ih, hx]; exact (EReal.coe_strictMono.monotone.map_max).symm⟩

/-- The greatest of finitely many reals, of one at least, is a real. -/
theorem fold_max_real {ι : Type*} (s : Finset ι) (f : ι → EReal) (h : ∀ i, ∃ r : ℝ, f i = r) (i : ι) (hi : i ∈ s) :
    ∃ r : ℝ, s.fold max ⊥ f = r := by
  rcases fold_max_cases s f h with hb | hr
  · obtain ⟨x, hx⟩ := h i
    have : f i ≤ s.fold max ⊥ f := Finset.le_fold_max _ |>.2 (Or.inr ⟨i, hi, le_rfl⟩)
    rw [hb, hx] at this
    simp at this
  · exact hr

/-- Two to a difference of reals. -/
theorem exp2_sub (a b : ℝ) : Ideal.exp2 ((a : EReal) - (b : EReal)) = (((2 : ℝ) ^ (a - b) : ℝ) : EReal) := by
  rw [← EReal.coe_sub]; rfl

/-- The state of one row of the chunkwise softmax after its first `n` keys, whose scores are `σ` and whose
    values are `V`: the running maximum is a real and the running sum weighs each value by two to the distance
    of its score from that maximum. -/
def Row (σ : ℕ → ℝ) (V : ℕ → EReal) (n : ℕ) (M A : EReal) : Prop :=
  ∃ μ : ℝ, M = μ ∧ A = ∑ k ∈ range n, (((2 : ℝ) ^ (σ k - μ) : ℝ) : EReal) * V k

/-- The first chunk: its own maximum and its own weighted sum. -/
theorem row_first (σ : ℕ → ℝ) (V : ℕ → EReal) (n : ℕ) (hn : 0 < n) (s v : Fin n → EReal)
    (hs : ∀ c : Fin n, s c = (σ c : ℝ)) (hv : ∀ c : Fin n, v c = V c) :
    Row σ V n (univ.fold max ⊥ s) (∑ c, Ideal.exp2 (s c - univ.fold max ⊥ s) * v c) := by
  obtain ⟨μ, hμ⟩ := fold_max_real univ s (fun i => ⟨_, hs i⟩) ⟨0, hn⟩ (mem_univ _)
  refine ⟨μ, hμ, ?_⟩
  rw [sum_range]
  refine sum_congr rfl fun c _ => ?_
  rw [hμ, hs, hv, exp2_sub]

/-- A further chunk: the running sum is scaled to the new maximum and the chunk's weighted values are added. -/
theorem row_next {σ : ℕ → ℝ} {V : ℕ → EReal} {n : ℕ} {M A : EReal} (h : Row σ V n M A) (t : ℕ) (s v : Fin t → EReal)
    (hs : ∀ c : Fin t, s c = (σ (n + c) : ℝ)) (hv : ∀ c : Fin t, v c = V (n + c)) :
    Row σ V (n + t) (max M (univ.fold max ⊥ s))
      (Ideal.exp2 (M - max M (univ.fold max ⊥ s)) * A + ∑ c, Ideal.exp2 (s c - max M (univ.fold max ⊥ s)) * v c) := by
  obtain ⟨μ, hM, hA⟩ := h
  obtain ⟨μ', hμ'⟩ : ∃ r : ℝ, max M (univ.fold max ⊥ s) = r := by
    rcases fold_max_cases univ s (fun i => ⟨_, hs i⟩) with hb | ⟨r, hr⟩
    · exact ⟨μ, by rw [hb, hM]; simp⟩
    · exact ⟨max μ r, by rw [hr, hM]; exact (EReal.coe_strictMono.monotone.map_max).symm⟩
  refine ⟨μ', hμ', ?_⟩
  rw [hμ', hA, hM, exp2_sub, coe_mul_sum _ _ (Real.rpow_nonneg (by norm_num) _), sum_range_add]
  refine congrArg₂ (· + ·) (sum_congr rfl fun k _ => ?_) ?_
  · rw [← mul_assoc, ← EReal.coe_mul, ← Real.rpow_add (by norm_num)]
    congr 3; ring
  · rw [sum_range]
    refine sum_congr rfl fun c _ => ?_
    rw [hs, hv, exp2_sub]

/-- The weights of a row sum to a positive real. -/
theorem weights_pos {n : ℕ} (hn : 0 < n) (w : Fin n → ℝ) (hw : ∀ k, 0 < w k) : 0 < ∑ k, w k :=
  sum_pos (fun k _ => hw k) ⟨⟨0, hn⟩, mem_univ _⟩

/-- A weighted sum divided by the sum of its weights. -/
theorem div_weights {n : ℕ} (hn : 0 < n) (w : Fin n → ℝ) (hw : ∀ k, 0 < w k) (v : Fin n → EReal) :
    Ideal.div (∑ k, (w k : EReal) * v k) (∑ k, (w k : EReal) * 1) = ∑ k, ((w k / ∑ l, w l : ℝ) : EReal) * v k := by
  have hp := weights_pos hn w hw
  simp only [mul_one]
  rw [← coe_sum, Ideal.div_coe hp.ne', mul_comm, coe_mul_sum _ _ (by positivity)]
  refine sum_congr rfl fun k _ => ?_
  rw [← mul_assoc, ← EReal.coe_mul]
  congr 2; ring

/-- THE QUOTIENT: the chunkwise row over all its keys, divided by the same row over ones, is the softmax in base e
    of the scores times the logarithm of two, applied to the values. -/
theorem row_quotient {σ : ℕ → ℝ} {V O : ℕ → EReal} {n : ℕ} (hn : 0 < n) {M A L : EReal} (hA : Row σ V n M A) (hL : Row σ O n M L)
    (hO : ∀ k : Fin n, O k = 1) (τ : Fin n → ℝ) (hτ : ∀ k : Fin n, τ k = σ k * Real.log 2) (ν : ℝ) :
    Ideal.div A L = ∑ k : Fin n, V k * Ideal.div (Ideal.exp ((τ k : EReal) - (ν : EReal))) (∑ l : Fin n, Ideal.exp ((τ l : EReal) - (ν : EReal))) := by
  obtain ⟨μ, hM, hA⟩ := hA
  obtain ⟨μ', hM', hL⟩ := hL
  obtain rfl : μ = μ' := by rw [hM] at hM'; exact_mod_cast hM'
  rw [hA, hL, sum_range, sum_range]
  simp only [hO]
  rw [div_weights hn (fun k : Fin n => (2 : ℝ) ^ (σ k - μ)) (fun k => Real.rpow_pos_of_pos (by norm_num) _)]
  have hexp : ∀ k : Fin n, Ideal.exp ((τ k : EReal) - (ν : EReal)) = ((Real.exp (τ k - ν) : ℝ) : EReal) := fun k => by
    rw [← EReal.coe_sub]; rfl
  simp only [hexp]
  rw [← coe_sum]
  have hp := weights_pos hn (fun k : Fin n => Real.exp (τ k - ν)) (fun k => Real.exp_pos _)
  refine sum_congr rfl fun k _ => ?_
  rw [Ideal.div_coe hp.ne', ← EReal.coe_mul, mul_comm]
  congr 2
  have key : ∀ k : Fin n, (2 : ℝ) ^ (σ k - μ) = Real.exp (τ k - ν) * Real.exp (ν - μ * Real.log 2) := fun k => by
    rw [Real.rpow_def_of_pos (by norm_num), ← Real.exp_add, hτ]; congr 1; ring
  simp only [key]
  rw [← sum_mul, mul_div_mul_right _ _ (Real.exp_pos _).ne']
  ring

/-- An extended real that is neither infinity. -/
def IsReal (x : EReal) : Prop := ∃ r : ℝ, x = r

theorem IsReal.coe {x : EReal} (h : IsReal x) : x = (x.toReal : EReal) := by
  obtain ⟨r, rfl⟩ := h; rfl

/-- The entry of key number `k` where the context's 256 keys come first and 4096 further keys after them. -/
def pick (a : Fin 256 → EReal) (b : Fin 4096 → EReal) (k : ℕ) : EReal :=
  if h : k < 256 then a ⟨k, h⟩ else if h' : k - 256 < 4096 then b ⟨k - 256, h'⟩ else 0

theorem pick_fin {a : Fin 256 → EReal} {b : Fin 4096 → EReal} (ha : ∀ k, IsReal (a k)) (hb : ∀ k, IsReal (b k)) (k : ℕ) : IsReal (pick a b k) := by
  unfold pick
  split_ifs
  · exact ha _
  · exact hb _
  · exact ⟨0, rfl⟩

/-- The product of a query and a key, both of real entries. -/
def dot {n : ℕ} (q k : Fin n → EReal) : ℝ := ∑ d, (q d).toReal * (k d).toReal

theorem dot_eq {n : ℕ} (q k : Fin n → EReal) (hq : ∀ d, IsReal (q d)) (hk : ∀ d, IsReal (k d)) : ∑ d, q d * k d = (dot q k : EReal) := by
  rw [dot, coe_sum]
  refine sum_congr rfl fun d _ => ?_
  rw [EReal.coe_mul, ← (hq d).coe, ← (hk d).coe]

/-- The reference's scale as a real number. -/
def scale : ℝ := (Ideal.ofBits .f32 1033096506#32).toReal

theorem scale_eq : Ideal.ofBits .f32 1033096506#32 = (scale : EReal) := by
  refine IsReal.coe ?_
  simp only [Ideal.ofBits, Ideal.ieee]
  simp
  exact ⟨_, rfl⟩

/-- A row of `n` entries on 256 lanes, a fixed filling on the lanes past them. -/
def lanes {n : ℕ} (z : EReal) (f : Fin n → EReal) (d : Fin 256) : EReal := if hd : d.val < n then f ⟨d, hd⟩ else z

/-- The product of two rows of 192 on 256 lanes, zero past the entries, is the product of the rows. -/
theorem sum_lanes (f g : Fin 192 → EReal) : ∑ d, lanes 0 f d * lanes 0 g d = ∑ d, f d * g d := by
  rw [Fin.sum_univ_add (a := 192) (b := 64) (fun d => lanes 0 f d * lanes 0 g d)]
  have h1 : ∀ i : Fin 192, lanes 0 f (Fin.castAdd 64 i) * lanes 0 g (Fin.castAdd 64 i) = f i * g i := fun i => by
    simp [lanes]
  have h2 : ∀ i : Fin 64, lanes 0 f (Fin.natAdd 192 i) * lanes 0 g (Fin.natAdd 192 i) = 0 := fun i => by
    simp [lanes]
  rw [Finset.sum_congr rfl fun i _ => h1 i, Finset.sum_congr rfl fun i _ => h2 i]
  simp

/-- Two, as the kernel's program writes it. -/
theorem two_eq : Ideal.ofBits .f32 1073741824#32 = ((2 : ℝ) : EReal) := by
  simp [Ideal.ofBits, Ideal.ieee]
  rw [← EReal.coe_mul]
  norm_num

/-- The scale of the queries: the reference's scale over the logarithm of two. -/
theorem scale_div : Ideal.div (Ideal.ofBits .f32 1033096506#32) (Ideal.log (Ideal.ofBits .f32 1073741824#32)) = ((scale / Real.log 2 : ℝ) : EReal) := by
  have hl : Ideal.log ((2 : ℝ) : EReal) = ((Real.log 2 : ℝ) : EReal) := by
    show (if (2 : ℝ) ≤ 0 then (⊥ : EReal) else ((Real.log 2 : ℝ) : EReal)) = _
    rw [if_neg (by norm_num)]
  rw [scale_eq, two_eq, hl, Ideal.div_coe (Real.log_pos (by norm_num)).ne', ← EReal.coe_mul]
  congr 1; ring

/-- The score of a query whose entries carry the scale over the logarithm of two. -/
theorem dot_scaled {n : ℕ} (q k : Fin n → EReal) (hq : ∀ d, IsReal (q d)) (hk : ∀ d, IsReal (k d)) (w : ℝ) :
    ∑ d, (q d * (w : EReal)) * k d = ((dot q k * w : ℝ) : EReal) := by
  rw [dot, Finset.sum_mul, coe_sum]
  refine sum_congr rfl fun d _ => ?_
  rw [EReal.coe_mul, EReal.coe_mul, ← (hq d).coe, ← (hk d).coe]
  ac_rfl

end Cert.Softmax
-- ==== Proof.Steps.lean ====
/- One grid point of the attention kernel, as a chain of steps: the scores of a chunk of keys, the running
   maximum and the running weighted sum after it; the stored block is the quotient of the last sum's halves. -/
module

public import proofs.«01_k».proof.Proof.Softmax
public import proofs.«01_k».proof.Proof.Gen.KernelIdeal.Frame
public import Idealize.ShloMosaic.Lib.Pipeline.ValueKit

@[expose] public section

set_option maxRecDepth 16384

noncomputable section

namespace Cert.KernelIdeal.Steps

open Cert.KernelIdeal Cert.KernelIdeal.Gen Idealize.ShloMosaic Idealize.ShloMosaic.TcCoe Idealize.SL.Sem Cert.Softmax

/-- The scores of the context's keys. -/
def scores0 (q : FVec Ideal S1024x256 .bf16) (k : FVec Ideal S1x256x256 .bf16) : FVec Ideal S1024x256 .f32 :=
  matmul dot_S1024x256_S256x256_S1024x256_1_1_0_0_n_n none q (shapeCast S256x256 k shapeCasts_S1x256x256_S256x256) (constant S1024x256 .f32 0x00000000#32)

/-- The greatest score of each row among the context's keys. -/
def max0 (s : FVec Ideal S1024x256 .f32) : FVec Ideal S1024x1 .f32 :=
  shapeCast S1024x1 (multiReduction .maximumf [1] S1024 s 0xFF800000#32 reduces_S1024x256_S1024 (.inl rfl) rfl) shapeCasts_S1024_S1024x1

/-- The weighted sum over the context's keys. -/
def acc0 (m : FVec Ideal S1024x1 .f32) (s : FVec Ideal S1024x256 .f32) (v : FVec Ideal S1x256x256 .bf16) : FVec Ideal S1024x256 .f32 :=
  matmul dot_S1024x256_S256x256_S1024x256_1_0_0_1_n_n none (exp2 (truncf .bf16 (subf s (broadcastTo S1024x256 m broadcasts_S1024x1_S1024x256)) bitsLt_bf16_f32))
    (shapeCast S256x256 v shapeCasts_S1x256x256_S256x256) (constant S1024x256 .f32 0x00000000#32)

/-- The scores of a chunk of 512 keys. -/
def scores (q : FVec Ideal S1024x256 .bf16) (k : FVec Ideal S1x512x256 .bf16) : FVec Ideal S1024x512 .f32 :=
  matmul dot_S1024x256_S512x256_S1024x512_1_1_0_0_n_n none q (shapeCast S512x256 k shapeCasts_S1x512x256_S512x256) (constant S1024x512 .f32 0x00000000#32)

/-- The running maximum after a chunk. -/
def newMax (m : FVec Ideal S1024x1 .f32) (s : FVec Ideal S1024x512 .f32) : FVec Ideal S1024x1 .f32 :=
  maximumf m (shapeCast S1024x1 (multiReduction .maximumf [1] S1024 s 0xFF800000#32 reduces_S1024x512_S1024 (.inl rfl) rfl) shapeCasts_S1024_S1024x1)

/-- The running weighted sum after a chunk, from the maximum before it and the maximum after it. -/
def newAcc (m m' : FVec Ideal S1024x1 .f32) (a : FVec Ideal S1024x256 .f32) (s : FVec Ideal S1024x512 .f32) (v : FVec Ideal S1x512x256 .bf16) : FVec Ideal S1024x256 .f32 :=
  addf (mulf (broadcastTo S1024x256 (exp2 (subf m m')) broadcasts_S1024x1_S1024x256) a)
    (matmul dot_S1024x512_S512x256_S1024x256_1_0_0_1_n_n none (exp2 (truncf .bf16 (subf s (broadcastTo S1024x512 m' broadcasts_S1024x1_S1024x512)) bitsLt_bf16_f32))
      (shapeCast S512x256 v shapeCasts_S1x512x256_S512x256) (constant S1024x256 .f32 0x00000000#32))

/-- The stored block: the first half of the sum's lanes over the second half. -/
def quot (a : FVec Ideal S1024x256 .f32) : FVec Ideal S1x1024x128 .bf16 :=
  shapeCast S1x1024x128 (truncf .bf16 (divf (extractStridedSlice S1024x128 ![0, 0] a slices_S1024x256_o0_0_S1024x128)
    (extractStridedSlice S1024x128 ![0, 128] a slices_S1024x256_o0_128_S1024x128)) bitsLt_bf16_f32) shapeCasts_S1024x128_S1x1024x128

/-- The maximum and the sum after the context's keys. -/
def st0 (q : FVec Ideal S1024x256 .bf16) (k v : FVec Ideal S1x256x256 .bf16) : FVec Ideal S1024x1 .f32 × FVec Ideal S1024x256 .f32 :=
  (max0 (scores0 q k), acc0 (max0 (scores0 q k)) (scores0 q k) v)

/-- The maximum and the sum after a further chunk. -/
def st (q : FVec Ideal S1024x256 .bf16) (p : FVec Ideal S1024x1 .f32 × FVec Ideal S1024x256 .f32) (k v : FVec Ideal S1x512x256 .bf16) : FVec Ideal S1024x1 .f32 × FVec Ideal S1024x256 .f32 :=
  (newMax p.1 (scores q k), newAcc p.1 (newMax p.1 (scores q k)) p.2 (scores q k) v)

/-- The block a grid point stores, from its query block, the context's keys and values and the eight chunks of
    keys and values: the quotient after the chain of steps. -/
def block (q : FVec Ideal S1024x256 .bf16) (kc vc : FVec Ideal S1x256x256 .bf16) (k0 v0 k1 v1 k2 v2 k3 v3 k4 v4 k5 v5 k6 v6 k7 v7 : FVec Ideal S1x512x256 .bf16) : FVec Ideal S1x1024x128 .bf16 :=
  quot (st q (st q (st q (st q (st q (st q (st q (st q (st0 q kc vc) k0 v0) k1 v1) k2 v2) k3 v3) k4 v4) k5 v5) k6 v6) k7 v7).2

/-- The maximum after the context and the first chunk. -/
theorem max1_eq (x : FVec Ideal S1x1024x256 .bf16) (kc vc : FVec Ideal S1x256x256 .bf16) (k0 v0 : FVec Ideal S1x512x256 .bf16) :
    k0_pay6 (F := Ideal) x kc k0 = (st (k0_pay2 (F := Ideal) x) (st0 (k0_pay2 (F := Ideal) x) kc vc) k0 v0).1 := by
  simp only [k0_pay6, k0_pay4, k0_pay3, k0_pay5, st, st0, newMax, max0, scores0, scores]

/-- The sum after the context and the first chunk. -/
theorem acc1_eq (x : FVec Ideal S1x1024x256 .bf16) (kc vc : FVec Ideal S1x256x256 .bf16) (k0 v0 : FVec Ideal S1x512x256 .bf16) :
    k0_pay7 (F := Ideal) x kc vc k0 v0 = (st (k0_pay2 (F := Ideal) x) (st0 (k0_pay2 (F := Ideal) x) kc vc) k0 v0).2 := by
  simp only [k0_pay7, k0_pay6, k0_pay4, k0_pay3, k0_pay5, st, st0, newMax, newAcc, acc0, max0, scores0, scores]

/-- The maximum two chunks on. -/
theorem max3_eq (q : FVec Ideal S1024x256 .bf16) (m : FVec Ideal S1024x1 .f32) (a : FVec Ideal S1024x256 .f32) (k1 v1 k2 v2 : FVec Ideal S1x512x256 .bf16) :
    k0_pay11 (F := Ideal) q m k1 k2 = (st q (st q (m, a) k1 v1) k2 v2).1 := rfl

/-- The sum two chunks on. -/
theorem acc3_eq (q : FVec Ideal S1024x256 .bf16) (m : FVec Ideal S1024x1 .f32) (a : FVec Ideal S1024x256 .f32) (k1 v1 k2 v2 : FVec Ideal S1x512x256 .bf16) :
    k0_pay12 (F := Ideal) q m a k1 v1 k2 v2 = (st q (st q (m, a) k1 v1) k2 v2).2 := rfl

/-- The maximum three chunks on. -/
theorem max6_eq (q : FVec Ideal S1024x256 .bf16) (m : FVec Ideal S1024x1 .f32) (a : FVec Ideal S1024x256 .f32) (k3 v3 k4 v4 k5 v5 : FVec Ideal S1x512x256 .bf16) :
    k0_pay19 (F := Ideal) q m (k0_pay14 q k3) k4 k5 = (st q (st q (st q (m, a) k3 v3) k4 v4) k5 v5).1 := rfl

/-- The sum two chunks on, scaled to the maximum three chunks on. -/
theorem acc5_eq (q : FVec Ideal S1024x256 .bf16) (m : FVec Ideal S1024x1 .f32) (a : FVec Ideal S1024x256 .f32) (k3 v3 k4 v4 k5 v5 : FVec Ideal S1x512x256 .bf16) :
    k0_pay20 (F := Ideal) q m a (k0_pay13 q k3) (k0_pay14 q k3) v3 k4 v4 k5
      = mulf (broadcastTo S1024x256 (exp2 (subf (st q (st q (m, a) k3 v3) k4 v4).1 (k0_pay19 (F := Ideal) q m (k0_pay14 q k3) k4 k5))) broadcasts_S1024x1_S1024x256)
          (st q (st q (m, a) k3 v3) k4 v4).2 := rfl

/-- The last three chunks: the stored block from the maximum and the sum five chunks before. -/
theorem tail_eq (q : FVec Ideal S1024x256 .bf16) (m m' : FVec Ideal S1024x1 .f32) (a : FVec Ideal S1024x256 .f32) (k5 v5 k6 v6 k7 v7 : FVec Ideal S1x512x256 .bf16)
    (hm : m' = newMax m (scores q k5)) :
    k0_pay1 (F := Ideal)
      (k0_pay26 q (k0_pay18 q k5) m' (mulf (broadcastTo S1024x256 (exp2 (subf m m')) broadcasts_S1024x1_S1024x256) a)
        (broadcastTo S1024x512 m' broadcasts_S1024x1_S1024x512) v5 k6 v6 k7) (k0_pay27 q m' k6 k7) v7
      = quot (st q (st q (st q (m, a) k5 v5) k6 v6) k7 v7).2 := by
  subst hm; rfl

/-- The broadcast maximum. -/
theorem wide_eq (q : FVec Ideal S1024x256 .bf16) (m m' : FVec Ideal S1024x1 .f32) (k4 k5 : FVec Ideal S1x512x256 .bf16) :
    k0_pay21 (F := Ideal) q m m' k4 k5 = broadcastTo S1024x512 (k0_pay19 q m m' k4 k5) broadcasts_S1024x1_S1024x512 := rfl

/-- The kernel's stored payload is the chain of steps. -/
theorem payload_eq (x : FVec Ideal S1x1024x256 .bf16) (kc vc : FVec Ideal S1x256x256 .bf16) (k0 v0 k1 v1 k2 v2 k3 v3 k4 v4 k5 v5 k6 v6 k7 v7 : FVec Ideal S1x512x256 .bf16) :
    k0_pay1 (F := Ideal)
      (k0_pay26 (k0_pay2 x) (k0_pay18 (k0_pay2 x) k5)
        (k0_pay19 (k0_pay2 x) (k0_pay11 (k0_pay2 x) (k0_pay6 x kc k0) k1 k2) (k0_pay14 (k0_pay2 x) k3) k4 k5)
        (k0_pay20 (k0_pay2 x) (k0_pay11 (k0_pay2 x) (k0_pay6 x kc k0) k1 k2)
          (k0_pay12 (k0_pay2 x) (k0_pay6 x kc k0) (k0_pay7 x kc vc k0 v0) k1 v1 k2 v2) (k0_pay13 (k0_pay2 x) k3) (k0_pay14 (k0_pay2 x) k3) v3 k4 v4 k5)
        (k0_pay21 (k0_pay2 x) (k0_pay11 (k0_pay2 x) (k0_pay6 x kc k0) k1 k2) (k0_pay14 (k0_pay2 x) k3) k4 k5)
        v5 k6 v6 k7)
      (k0_pay27 (k0_pay2 x) (k0_pay19 (k0_pay2 x) (k0_pay11 (k0_pay2 x) (k0_pay6 x kc k0) k1 k2) (k0_pay14 (k0_pay2 x) k3) k4 k5) k6 k7)
      v7
    = block (k0_pay2 (F := Ideal) x) kc vc k0 v0 k1 v1 k2 v2 k3 v3 k4 v4 k5 v5 k6 v6 k7 v7 := by
  rw [acc5_eq _ _ _ _ _ _ _ _ v5, wide_eq, acc1_eq, max1_eq x kc vc k0 v0]
  unfold block
  generalize k0_pay2 (F := Ideal) x = q
  generalize st q (st0 q kc vc) k0 v0 = p1
  obtain ⟨m1, a1⟩ := p1
  rw [acc3_eq, max3_eq q m1 a1 k1 v1 k2 v2]
  generalize st q (st q (m1, a1) k1 v1) k2 v2 = p3
  obtain ⟨m3, a3⟩ := p3
  rw [tail_eq _ _ _ _ k5 v5 k6 v6 k7 v7 (by rw [max6_eq q m3 a3 k3 v3 k4 v4 k5 v5]; rfl)]

/-- Minus infinity as the kernel writes it. -/
theorem minus_inf : Ideal.ofBits .f32 0xFF800000#32 = (⊥ : EReal) := by simp [Ideal.ofBits, Ideal.ieee]

/-- The query block without its unit axis. -/
theorem query_row (x : FVec Ideal S1x1024x256 .bf16) (r : Fin 1024) (d : Fin 256) : k0_pay2 (F := Ideal) x (ix2 r d) = x (ix3 0 r d) := by
  pointwise [k0_pay2]

theorem scores0_at (q : FVec Ideal S1024x256 .bf16) (k : FVec Ideal S1x256x256 .bf16) (r : Fin 1024) (c : Fin 256) :
    scores0 q k (ix2 r c) = ∑ d : Fin 256, q (ix2 r d) * k (ix3 0 c d) := by
  pointwise [scores0]

theorem scores_at (q : FVec Ideal S1024x256 .bf16) (k : FVec Ideal S1x512x256 .bf16) (r : Fin 1024) (c : Fin 512) :
    scores q k (ix2 r c) = ∑ d : Fin 256, q (ix2 r d) * k (ix3 0 c d) := by
  pointwise [scores]

theorem max0_at (s : FVec Ideal S1024x256 .f32) (r : Fin 1024) :
    max0 s (ix2 r 0) = Finset.univ.fold max ⊥ fun c : Fin 256 => s (ix2 r c) := by
  pointwise [max0, minus_inf]

theorem acc0_at (m : FVec Ideal S1024x1 .f32) (s : FVec Ideal S1024x256 .f32) (v : FVec Ideal S1x256x256 .bf16) (r : Fin 1024) (d : Fin 256) :
    acc0 m s v (ix2 r d) = ∑ c : Fin 256, Ideal.exp2 (s (ix2 r c) - m (ix2 r 0)) * v (ix3 0 c d) := by
  pointwise [acc0]
  rfl

theorem newMax_at (m : FVec Ideal S1024x1 .f32) (s : FVec Ideal S1024x512 .f32) (r : Fin 1024) :
    newMax m s (ix2 r 0) = max (m (ix2 r 0)) (Finset.univ.fold max ⊥ fun c : Fin 512 => s (ix2 r c)) := by
  pointwise [newMax, minus_inf]

theorem newAcc_at (m m' : FVec Ideal S1024x1 .f32) (a : FVec Ideal S1024x256 .f32) (s : FVec Ideal S1024x512 .f32) (v : FVec Ideal S1x512x256 .bf16) (r : Fin 1024) (d : Fin 256) :
    newAcc m m' a s v (ix2 r d) = Ideal.exp2 (m (ix2 r 0) - m' (ix2 r 0)) * a (ix2 r d)
      + ∑ c : Fin 512, Ideal.exp2 (s (ix2 r c) - m' (ix2 r 0)) * v (ix3 0 c d) := by
  pointwise [newAcc]
  rfl

theorem quot_at (a : FVec Ideal S1024x256 .f32) (r : Fin 1024) (d : Fin 128) :
    quot a (ix3 0 r d) = Ideal.div (a (ix2 r ⟨d, by omega⟩)) (a (ix2 r ⟨128 + d, by omega⟩)) := by
  pointwise [quot]

/-- A chunk of keys and values, seen from row `r` of the queries: its scores and its values are those of the
    keys from number `n` on. -/
def Chunk (q : FVec Ideal S1024x256 .bf16) (r : Fin 1024) (σ : ℕ → ℝ) (U : Fin 256 → ℕ → EReal) (n : ℕ) (k v : FVec Ideal S1x512x256 .bf16) : Prop :=
  (∀ c : Fin 512, ∑ d : Fin 256, q (ix2 r d) * k (ix3 0 c d) = (σ (n + c) : EReal)) ∧ ∀ (c : Fin 512) (d : Fin 256), v (ix3 0 c d) = U d (n + c)

/-- The state of row `r` after `n` keys, on every lane. -/
def State (r : Fin 1024) (σ : ℕ → ℝ) (U : Fin 256 → ℕ → EReal) (n : ℕ) (p : FVec Ideal S1024x1 .f32 × FVec Ideal S1024x256 .f32) : Prop :=
  ∀ d : Fin 256, Row σ (U d) n (p.1 (ix2 r 0)) (p.2 (ix2 r d))

theorem state_first (q : FVec Ideal S1024x256 .bf16) (r : Fin 1024) (σ : ℕ → ℝ) (U : Fin 256 → ℕ → EReal) (k v : FVec Ideal S1x256x256 .bf16)
    (hk : ∀ c : Fin 256, ∑ d : Fin 256, q (ix2 r d) * k (ix3 0 c d) = (σ c : EReal)) (hv : ∀ (c : Fin 256) (d : Fin 256), v (ix3 0 c d) = U d c) :
    State r σ U 256 (st0 q k v) := by
  intro d
  simp only [st0]
  rw [acc0_at, max0_at]
  exact row_first σ (U d) 256 (by omega) (fun c => scores0 q k (ix2 r c)) (fun c => v (ix3 0 c d)) (fun c => (scores0_at q k r c).trans (hk c)) (fun c => hv c d)

theorem state_next (q : FVec Ideal S1024x256 .bf16) (r : Fin 1024) (σ : ℕ → ℝ) (U : Fin 256 → ℕ → EReal) (n : ℕ) (k v : FVec Ideal S1x512x256 .bf16)
    (p : FVec Ideal S1024x1 .f32 × FVec Ideal S1024x256 .f32) (hp : State r σ U n p) (hc : Chunk q r σ U n k v) :
    State r σ U (n + 512) (st q p k v) := by
  intro d
  simp only [st]
  rw [newAcc_at, newMax_at]
  exact row_next (hp d) 512 (fun c => scores q k (ix2 r c)) (fun c => v (ix3 0 c d)) (fun c => (scores_at q k r c).trans (hc.1 c)) (fun c => hc.2 c d)

/-- THE BLOCK: where the upper lanes of the values are ones, entry `(r, d)` of the stored block is the softmax of
    the scores in base e (each the kernel's score times the logarithm of two) applied to lane `d` of the values. -/
theorem block_at (q : FVec Ideal S1024x256 .bf16) (kc vc : FVec Ideal S1x256x256 .bf16) (k0 v0 k1 v1 k2 v2 k3 v3 k4 v4 k5 v5 k6 v6 k7 v7 : FVec Ideal S1x512x256 .bf16)
    (r : Fin 1024) (d : Fin 128) (σ : ℕ → ℝ) (U : Fin 256 → ℕ → EReal)
    (hk : ∀ c : Fin 256, ∑ d : Fin 256, q (ix2 r d) * kc (ix3 0 c d) = (σ c : EReal)) (hv : ∀ (c : Fin 256) (d : Fin 256), vc (ix3 0 c d) = U d c)
    (h0 : Chunk q r σ U 256 k0 v0) (h1 : Chunk q r σ U 768 k1 v1) (h2 : Chunk q r σ U 1280 k2 v2) (h3 : Chunk q r σ U 1792 k3 v3)
    (h4 : Chunk q r σ U 2304 k4 v4) (h5 : Chunk q r σ U 2816 k5 v5) (h6 : Chunk q r σ U 3328 k6 v6) (h7 : Chunk q r σ U 3840 k7 v7)
    (hO : ∀ k : Fin 4352, U ⟨128 + d, by omega⟩ k = 1) (τ : Fin 4352 → ℝ) (hτ : ∀ k : Fin 4352, τ k = σ k * Real.log 2) (ν : ℝ) :
    block q kc vc k0 v0 k1 v1 k2 v2 k3 v3 k4 v4 k5 v5 k6 v6 k7 v7 (ix3 0 r d)
      = ∑ k : Fin 4352, U ⟨d, by omega⟩ k * Ideal.div (Ideal.exp ((τ k : EReal) - (ν : EReal))) (∑ l : Fin 4352, Ideal.exp ((τ l : EReal) - (ν : EReal))) := by
  have e := state_first q r σ U kc vc hk hv
  have e := state_next q r σ U _ k0 v0 _ e h0
  have e := state_next q r σ U _ k1 v1 _ e h1
  have e := state_next q r σ U _ k2 v2 _ e h2
  have e := state_next q r σ U _ k3 v3 _ e h3
  have e := state_next q r σ U _ k4 v4 _ e h4
  have e := state_next q r σ U _ k5 v5 _ e h5
  have e := state_next q r σ U _ k6 v6 _ e h6
  have e := state_next q r σ U _ k7 v7 _ e h7
  rw [block, quot_at]
  exact row_quotient (n := 4352) (by omega) (e ⟨d, by omega⟩) (e ⟨128 + d, by omega⟩) hO τ hτ ν

/-- A chunk from its lanes: the query's entries carry a factor `w`, queries and keys are zero past their 192 entries. -/
theorem chunk_of (q : FVec Ideal S1024x256 .bf16) (r : Fin 1024) (Q : Fin 192 → EReal) (w : ℝ) (K : ℕ → Fin 192 → EReal) (U : Fin 256 → ℕ → EReal)
    (hQ : ∀ e, IsReal (Q e)) (hK : ∀ k e, IsReal (K k e)) (hq : ∀ d, q (ix2 r d) = lanes 0 (fun e => Q e * (w : EReal)) d) (n : ℕ)
    (k v : FVec Ideal S1x512x256 .bf16) (hk : ∀ (c : Fin 512) (d : Fin 256), k (ix3 0 c d) = lanes 0 (K (n + c)) d)
    (hv : ∀ (c : Fin 512) (d : Fin 256), v (ix3 0 c d) = U d (n + c)) : Chunk q r (fun k => dot Q (K k) * w) U n k v := by
  refine ⟨fun c => ?_, hv⟩
  simp only [hq, hk]
  exact (sum_lanes _ _).trans (dot_scaled Q (K (n + c)) hQ (hK _) w)

/-- The same of the context's keys. -/
theorem first_of (q : FVec Ideal S1024x256 .bf16) (r : Fin 1024) (Q : Fin 192 → EReal) (w : ℝ) (K : ℕ → Fin 192 → EReal)
    (hQ : ∀ e, IsReal (Q e)) (hK : ∀ k e, IsReal (K k e)) (hq : ∀ d, q (ix2 r d) = lanes 0 (fun e => Q e * (w : EReal)) d)
    (k : FVec Ideal S1x256x256 .bf16) (hk : ∀ (c : Fin 256) (d : Fin 256), k (ix3 0 c d) = lanes 0 (K c) d) (c : Fin 256) :
    ∑ d : Fin 256, q (ix2 r d) * k (ix3 0 c d) = ((dot Q (K c) * w : ℝ) : EReal) := by
  simp only [hq, hk]
  exact (sum_lanes _ _).trans (dot_scaled Q (K c) hQ (hK _) w)

end Cert.KernelIdeal.Steps
-- ==== Proof.Entries.lean ====
/- The arrays the kernel's windows stage, entry by entry in the program's arguments. -/
module

public import proofs.«01_k».proof.Proof.Softmax
public import proofs.«01_k».proof.Proof.Gen.KernelIdeal.Frame
public import Idealize.ShloMosaic.Lib.Pipeline.ValueKit

@[expose] public section

set_option maxRecDepth 16384

noncomputable section

namespace Cert.KernelIdeal.Entries

open Cert.KernelIdeal Cert.KernelIdeal.Gen Idealize.ShloMosaic Idealize.ShloMosaic.TcCoe Idealize.SL.Sem Cert.Softmax

variable (m : (ℓ : Loc nD τ sig) → Buf (Elt Ideal) ℓ)

/-- The queries as launched. -/
abbrev queries (c : Dev nD) : FVec Ideal S4x4096x16x192 .f32 := m ((c : Thread nD τ).loc main_arg0)
/-- The context's keys as launched. -/
abbrev ctxKeys (c : Dev nD) : FVec Ideal S4x256x16x192 .f32 := m ((c : Thread nD τ).loc main_arg1)
/-- The context's values as launched. -/
abbrev ctxValues (c : Dev nD) : FVec Ideal S4x256x16x128 .f32 := m ((c : Thread nD τ).loc main_arg2)
/-- The further keys as launched. -/
abbrev latKeys (c : Dev nD) : FVec Ideal S4x4096x16x192 .f32 := m ((c : Thread nD τ).loc main_arg3)
/-- The further values as launched. -/
abbrev latValues (c : Dev nD) : FVec Ideal S4x4096x16x128 .f32 := m ((c : Thread nD τ).loc main_arg4)

/-- The integer zero as a float. -/
theorem int_zero : FloatOps.sitofp (F := Ideal) .f32 (0#32) = (0 : EReal) := by
  simp [FloatOps.sitofp]

/-- A lane of a query: the scaled entry, or zero past the 192 entries. -/
theorem query_at (c : Dev nD) (b : Fin 4) (s : Fin 4096) (h : Fin 16) (d : Fin 256) :
    V m c main_v7 (ix3 b s ⟨h * 256 + d, by omega⟩) = lanes 0 (fun e : Fin 192 => queries m c (ix4 b s h e) * Ideal.div (Ideal.ofBits .f32 1033096506#32) (Ideal.log (Ideal.ofBits .f32 1073741824#32))) d := by
  have e1 : (h.val * 256 + d.val) / 256 = h.val := by omega
  have e2 : (h.val * 256 + d.val) % 256 = d.val := by omega
  simp only [V, hostOps0, hostOps0_1, hostOps0_2, hostOps0_3, hostOps0_4, hostOps0_5, hostOps0_6, List.flatten_cons, List.flatten_nil, List.append_nil, List.cons_append, List.nil_append]
  entry_read
  simp -implicitDefEqProofs only [StableHlo.TRef.toBuf, StableHlo.TRef.ofBuf, cast_cast, cast_eq]
  pointwise
  simp only [e1, e2, lanes, h.isLt, true_and, int_zero]

/-- A lane of a context key: its entry, or zero. -/
theorem ctxKey_at (c : Dev nD) (b : Fin 4) (s : Fin 256) (h : Fin 16) (d : Fin 256) :
    V m c main_v10 (ix3 b s ⟨h * 256 + d, by omega⟩) = lanes 0 (fun e : Fin 192 => ctxKeys m c (ix4 b s h e)) d := by
  have e1 : (h.val * 256 + d.val) / 256 = h.val := by omega
  have e2 : (h.val * 256 + d.val) % 256 = d.val := by omega
  simp only [V, hostOps0, hostOps0_1, hostOps0_2, hostOps0_3, hostOps0_4, hostOps0_5, hostOps0_6, List.flatten_cons, List.flatten_nil, List.append_nil, List.cons_append, List.nil_append]
  entry_read
  simp -implicitDefEqProofs only [StableHlo.TRef.toBuf, StableHlo.TRef.ofBuf, cast_cast, cast_eq]
  pointwise
  simp only [e1, e2, lanes, h.isLt, true_and, int_zero]

/-- A lane of a context value: its entry, or one. -/
theorem ctxValue_at (c : Dev nD) (b : Fin 4) (s : Fin 256) (h : Fin 16) (d : Fin 256) :
    V m c main_v14 (ix3 b s ⟨h * 256 + d, by omega⟩) = lanes 1 (fun e : Fin 128 => ctxValues m c (ix4 b s h e)) d := by
  have e1 : (h.val * 256 + d.val) / 256 = h.val := by omega
  have e2 : (h.val * 256 + d.val) % 256 = d.val := by omega
  simp only [V, hostOps0, hostOps0_1, hostOps0_2, hostOps0_3, hostOps0_4, hostOps0_5, hostOps0_6, List.flatten_cons, List.flatten_nil, List.append_nil, List.cons_append, List.nil_append]
  entry_read
  pointwise
  simp only [e1, e2, lanes]

/-- A lane of a further key: its entry, or zero. -/
theorem latKey_at (c : Dev nD) (b : Fin 4) (s : Fin 4096) (h : Fin 16) (d : Fin 256) :
    V m c main_v17 (ix3 b s ⟨h * 256 + d, by omega⟩) = lanes 0 (fun e : Fin 192 => latKeys m c (ix4 b s h e)) d := by
  have e1 : (h.val * 256 + d.val) / 256 = h.val := by omega
  have e2 : (h.val * 256 + d.val) % 256 = d.val := by omega
  simp only [V, hostOps0, hostOps0_1, hostOps0_2, hostOps0_3, hostOps0_4, hostOps0_5, hostOps0_6, List.flatten_cons, List.flatten_nil, List.append_nil, List.cons_append, List.nil_append]
  entry_read
  simp -implicitDefEqProofs only [StableHlo.TRef.toBuf, StableHlo.TRef.ofBuf, cast_cast, cast_eq]
  pointwise
  simp only [e1, e2, lanes, h.isLt, true_and, int_zero]

/-- A lane of a further value: its entry, or one. -/
theorem latValue_at (c : Dev nD) (b : Fin 4) (s : Fin 4096) (h : Fin 16) (d : Fin 256) :
    V m c main_v21 (ix3 b s ⟨h * 256 + d, by omega⟩) = lanes 1 (fun e : Fin 128 => latValues m c (ix4 b s h e)) d := by
  have e1 : (h.val * 256 + d.val) / 256 = h.val := by omega
  have e2 : (h.val * 256 + d.val) % 256 = d.val := by omega
  simp only [V, hostOps0, hostOps0_1, hostOps0_2, hostOps0_3, hostOps0_4, hostOps0_5, hostOps0_6, List.flatten_cons, List.flatten_nil, List.append_nil, List.cons_append, List.nil_append]
  entry_read
  pointwise
  simp only [e1, e2, lanes]

end Cert.KernelIdeal.Entries
-- ==== Proof.Rows.lean ====
/- The reference's result, entry by entry. -/
module

public import proofs.«01_k».proof.Proof.Softmax
public import proofs.«01_k».proof.Proof.Gen.ReferenceIdeal.Read
public import Idealize.ShloMosaic.Lib.Pipeline.ValueKit

@[expose] public section

set_option maxRecDepth 16384

noncomputable section

namespace Cert.ReferenceIdeal.Rows

open Cert.ReferenceIdeal Cert.ReferenceIdeal.Gen Cert.ReferenceIdeal.Read Idealize.ShloMosaic Idealize.ShloMosaic.TcCoe Idealize.SL.Sem Cert.Softmax

/-- The greatest entry along the last axis. -/
theorem greatest_at (y : FVec Ideal S4x16x4096x4352 .f32) (z : FVec Ideal S_ .f32) (b : Fin 4) (h : Fin 16) (s : Fin 4096) :
    Host.reduce (FloatOps.maximumf (F := Ideal) (φ := .f32)) y z reducesTo_S4x16x4096x4352_S4x16x4096_d3 h_S_ (ix3 b h s)
      = Finset.univ.fold max (z (Shape.Idx.first h_S_)) fun k : Fin 4352 => y (ix4 b h s k) := by
  pointwise []

section
variable (x0 : FVec Ideal S4x4096x16x192 .f32) (x1 : FVec Ideal S4x256x16x192 .f32) (x2 : FVec Ideal S4x256x16x128 .f32)
  (x3 : FVec Ideal S4x4096x16x192 .f32) (x4 : FVec Ideal S4x4096x16x128 .f32)

/-- Minus infinity as the program writes it. -/
theorem minus_inf : Ideal.ofBits .f32 0xFF800000#32 = (⊥ : EReal) := by simp [Ideal.ofBits, Ideal.ieee]

/-- Entry `d` of the key number `k` of head `h`. -/
def key (b : Fin 4) (h : Fin 16) (k : ℕ) (d : Fin 192) : EReal := pick (fun k => x1 (ix4 b k h d)) (fun k => x3 (ix4 b k h d)) k

/-- Entry `d` of the value number `k` of head `h`. -/
def val (b : Fin 4) (h : Fin 16) (k : ℕ) (d : Fin 128) : EReal := pick (fun k => x2 (ix4 b k h d)) (fun k => x4 (ix4 b k h d)) k

/-- A scaled score. -/
def score (b : Fin 4) (h : Fin 16) (s : Fin 4096) (k : ℕ) : ℝ := dot (fun d => x0 (ix4 b s h d)) (fun d => key x1 x3 b h k d) * scale

theorem pick_of_lt (a : Fin 256 → EReal) (b : Fin 4096 → EReal) (k : Fin 4352) :
    (if h : k.val < 256 then a ⟨k, h⟩ else b ⟨k - 256, by omega⟩) = pick a b k := by
  unfold pick
  split_ifs
  · rfl
  · rfl
  · omega

theorem score_at (h0 : ∀ i, IsReal (x0 i)) (h1 : ∀ i, IsReal (x1 i)) (h3 : ∀ i, IsReal (x3 i)) (b : Fin 4) (s : Fin 4096) (h : Fin 16) (k : Fin 4352) :
    val_main_v4 (F := Ideal) x0 x1 x3 (ix4 b h s k) = (score x0 x1 x3 b h s k : EReal) := by
  rw [score, EReal.coe_mul, ← dot_eq (fun d => x0 (ix4 b s h d)) (fun d => key x1 x3 b h k d) (fun _ => h0 _) (fun d => pick_fin (fun _ => h1 _) (fun _ => h3 _) _), ← scale_eq]
  unfold key
  simp only [← pick_of_lt]
  pointwise [val_main_v4, val_main_v3, val_main_v2, val_main_v1,val_main_v0,val_main_cst]

theorem value_at (b : Fin 4) (h : Fin 16) (k : Fin 4352) (d : Fin 128) :
    val_main_v1 (F := Ideal) x2 x4 (ix4 b k h d) = val x2 x4 b h k d := by
  unfold val
  simp only [← pick_of_lt]
  pointwise [val_main_v1]

theorem max_real (h0 : ∀ i, IsReal (x0 i)) (h1 : ∀ i, IsReal (x1 i)) (h3 : ∀ i, IsReal (x3 i)) (b : Fin 4) (s : Fin 4096) (h : Fin 16) :
    ∃ ν : ℝ, val_main_v7 (F := Ideal) x0 x1 x3 (ix3 b h s) = (ν : EReal) := by
  have h5 : ∃ ν : ℝ, val_main_v5 (F := Ideal) x0 x1 x3 (ix3 b h s) = (ν : EReal) := by
    rw [val_main_v5, greatest_at, val_main_cst_0_apply]
    have hb : FloatOps.ofBits (F := Ideal) .f32 0xFF800000#32 = (⊥ : EReal) := minus_inf
    rw [hb]
    exact fold_max_real _ _ (fun k => ⟨_, score_at x0 x1 x3 h0 h1 h3 b s h k⟩) 0 (Finset.mem_univ _)
  obtain ⟨ν, hν⟩ := h5
  refine ⟨ν, ?_⟩
  rw [val_main_v7_apply, hν, val_main_v6_apply, val_main_cst_1_apply]
  have hb : FloatOps.ofBits (F := Ideal) .f32 0xFF800000#32 = (⊥ : EReal) := minus_inf
  rw [hb]
  exact max_eq_right bot_le

theorem weight_at (b : Fin 4) (s : Fin 4096) (h : Fin 16) (k : Fin 4352) :
    val_main_v11 (F := Ideal) x0 x1 x3 (ix4 b h s k)
      = Ideal.exp (val_main_v4 (F := Ideal) x0 x1 x3 (ix4 b h s k) - val_main_v7 (F := Ideal) x0 x1 x3 (ix3 b h s)) := by
  rw [val_main_v11_apply, val_main_v10_apply, val_main_v9_apply, val_main_v8_apply]
  have : idx_main_v8 (idx_main_v9 (ix4 b h s k)) = ix3 b h s := by
    funext a; match a with | ⟨0, _⟩ => rfl | ⟨1, _⟩ => rfl | ⟨2, _⟩ => rfl
  rw [this]
  rfl

theorem total_at (b : Fin 4) (s : Fin 4096) (h : Fin 16) :
    val_main_v12 (F := Ideal) x0 x1 x3 (ix3 b h s) = ∑ k : Fin 4352, val_main_v11 (F := Ideal) x0 x1 x3 (ix4 b h s k) := by
  rw [val_main_v12_apply, val_main_cst_2_apply]
  have hb : FloatOps.ofBits (F := Ideal) .f32 0x00000000#32 = (0 : EReal) := by simp [FloatOps.ofBits, Ideal.ofBits, Ideal.ieee]
  rw [hb, zero_add]
  refine Finset.sum_congr rfl fun k _ => congrArg _ ?_
  funext a; match a with | ⟨0, _⟩ => rfl | ⟨1, _⟩ => rfl | ⟨2, _⟩ => rfl | ⟨3, _⟩ => rfl

theorem result_at (b : Fin 4) (s : Fin 4096) (l : Fin 2048) :
    val_main_v19 (F := Ideal) x0 x1 x2 x3 x4 (ix3 b s l)
      = ∑ k : Fin 4352, val x2 x4 b ⟨l / 128, by omega⟩ k ⟨l % 128, by omega⟩
          * Ideal.div (val_main_v11 (F := Ideal) x0 x1 x3 (ix4 b ⟨l / 128, by omega⟩ s k)) (val_main_v12 (F := Ideal) x0 x1 x3 (ix3 b ⟨l / 128, by omega⟩ s)) := by
  simp only [← value_at]
  pointwise [val_main_v19, val_main_v18, val_main_v17, val_main_v16, val_main_v15, val_main_v14, val_main_v13]

/-- The reference's result, entry by entry: the values weighed by the softmax of the scores, the scores taken
    from some real number (the greatest score of the row). -/
theorem row_at (h0 : ∀ i, IsReal (x0 i)) (h1 : ∀ i, IsReal (x1 i)) (h3 : ∀ i, IsReal (x3 i)) (b : Fin 4) (s : Fin 4096) (l : Fin 2048) :
    ∃ ν : ℝ, val_main_v19 (F := Ideal) x0 x1 x2 x3 x4 (ix3 b s l)
      = ∑ k : Fin 4352, val x2 x4 b ⟨l / 128, by omega⟩ k ⟨l % 128, by omega⟩
          * Ideal.div (Ideal.exp ((score x0 x1 x3 b ⟨l / 128, by omega⟩ s k : EReal) - (ν : EReal)))
              (∑ k' : Fin 4352, Ideal.exp ((score x0 x1 x3 b ⟨l / 128, by omega⟩ s k' : EReal) - (ν : EReal))) := by
  obtain ⟨ν, hν⟩ := max_real x0 x1 x3 h0 h1 h3 b s ⟨l / 128, by omega⟩
  refine ⟨ν, ?_⟩
  rw [result_at, total_at]
  simp only [weight_at, hν, score_at x0 x1 x3 h0 h1 h3]

/-- The same at head `h` and value entry `d`. -/
theorem head_at (h0 : ∀ i, IsReal (x0 i)) (h1 : ∀ i, IsReal (x1 i)) (h3 : ∀ i, IsReal (x3 i)) (b : Fin 4) (s : Fin 4096) (h : Fin 16) (d : Fin 128) :
    ∃ ν : ℝ, val_main_v19 (F := Ideal) x0 x1 x2 x3 x4 (ix3 b s ⟨h * 128 + d, by omega⟩)
      = ∑ k : Fin 4352, val x2 x4 b h k d
          * Ideal.div (Ideal.exp ((score x0 x1 x3 b h s k : EReal) - (ν : EReal)))
              (∑ k' : Fin 4352, Ideal.exp ((score x0 x1 x3 b h s k' : EReal) - (ν : EReal))) := by
  obtain ⟨ν, hν⟩ := row_at x0 x1 x2 x3 x4 h0 h1 h3 b s ⟨h * 128 + d, by omega⟩
  have e1 : (h.val * 128 + d.val) / 128 = h.val := by omega
  have e2 : (h.val * 128 + d.val) % 128 = d.val := by omega
  refine ⟨ν, hν.trans ?_⟩
  simp only [e1, e2]

end

end Cert.ReferenceIdeal.Rows
-- ==== Proof.Blocks.lean ====
/- The blocks a grid point of the attention kernel reads, in the program's arguments. -/
module

public import proofs.«01_k».proof.Proof.Steps
public import proofs.«01_k».proof.Proof.Entries
public import proofs.«01_k».proof.Proof.Rows

@[expose] public section

set_option maxRecDepth 16384

noncomputable section

namespace Cert.KernelIdeal.Blocks

open Cert.KernelIdeal Cert.KernelIdeal.Gen Idealize.ShloMosaic Idealize.ShloMosaic.TcCoe Idealize.SL.Sem Cert.Softmax
open Cert.KernelIdeal.Steps Cert.KernelIdeal.Entries
open Idealize.ShloMosaic.Pipeline (Dat)

variable (m : (ℓ : Loc nD τ sig) → Buf (Elt Ideal) ℓ)

/-- The windows' block indices at a grid point: batch, query tile, head. -/
theorem idx : ∀ t : Fin cfg0.N, win0_0.index t = ![(grid0.coords t 0).val, (grid0.coords t 2).val, (grid0.coords t 1).val]
    ∧ win0_1.index t = ![(grid0.coords t 0).val, 0, (grid0.coords t 1).val] ∧ win0_2.index t = ![(grid0.coords t 0).val, 0, (grid0.coords t 1).val]
    ∧ win0_3.index t = ![(grid0.coords t 0).val, 0, (grid0.coords t 1).val] ∧ win0_4.index t = ![(grid0.coords t 0).val, 0, (grid0.coords t 1).val]
    ∧ win0_5.index t = ![(grid0.coords t 0).val, (grid0.coords t 2).val, (grid0.coords t 1).val] :=
  (by decide +kernel : ∀ t : Fin grid0.N, _)

/-- The key number `k` of the head and batch of a grid point. -/
abbrev K (c : Dev nD) (b : Fin 4) (h : Fin 16) (k : ℕ) (e : Fin 192) : EReal := Cert.ReferenceIdeal.Rows.key (ctxKeys m c) (latKeys m c) b h k e

/-- Lane `d` of the value number `k`. -/
abbrev U (c : Dev nD) (b : Fin 4) (h : Fin 16) (d : Fin 256) (k : ℕ) : EReal := lanes 1 (Cert.ReferenceIdeal.Rows.val (ctxValues m c) (latValues m c) b h k) d

theorem ctxKey_eq (c : Dev nD) (b : Fin 4) (s : Fin 256) (h : Fin 16) (d : Fin 256) :
    V m c main_v10 (ix3 b s ⟨h * 256 + d, by omega⟩) = lanes 0 (K m c b h s) d := by
  rw [ctxKey_at]
  congr 1; funext e
  simp [K, Cert.ReferenceIdeal.Rows.key, pick]

theorem ctxValue_eq (c : Dev nD) (b : Fin 4) (s : Fin 256) (h : Fin 16) (d : Fin 256) :
    V m c main_v14 (ix3 b s ⟨h * 256 + d, by omega⟩) = U m c b h d s := by
  rw [ctxValue_at]
  unfold U; congr 1; funext e
  simp [Cert.ReferenceIdeal.Rows.val, pick]

theorem latKey_eq (c : Dev nD) (b : Fin 4) (s : Fin 4096) (h : Fin 16) (d : Fin 256) (k : ℕ) (hk : k = 256 + s) :
    V m c main_v17 (ix3 b s ⟨h * 256 + d, by omega⟩) = lanes 0 (K m c b h k) d := by
  subst hk
  rw [latKey_at]
  congr 1; funext e
  simp [K, Cert.ReferenceIdeal.Rows.key, pick]

theorem latValue_eq (c : Dev nD) (b : Fin 4) (s : Fin 4096) (h : Fin 16) (d : Fin 256) (k : ℕ) (hk : k = 256 + s) :
    V m c main_v21 (ix3 b s ⟨h * 256 + d, by omega⟩) = U m c b h d k := by
  subst hk
  rw [latValue_at]
  unfold U; congr 1; funext e
  simp [Cert.ReferenceIdeal.Rows.val, pick]

/-- Chunk 0 of a block of 4096 rows. -/
theorem chunk0 (x : FVec Ideal S1x4096x256 .bf16) (k : Fin 512) (d : Fin 256) :
    View.ld (Val := Elt Ideal) (e' := .bf16) x r0_2 (ix3 (n0 := 1) (n1 := 512) (n2 := 256) 0 k d) = x (ix3 0 ⟨0 + k, by omega⟩ d) := by
  refine congrArg (β := EReal) x ?_
  blk_ext <;> (rw [Rect.idx_unit_val]; simp)

/-- Chunk 1 of a block of 4096 rows. -/
theorem chunk1 (x : FVec Ideal S1x4096x256 .bf16) (k : Fin 512) (d : Fin 256) :
    View.ld (Val := Elt Ideal) (e' := .bf16) x r0_3 (ix3 (n0 := 1) (n1 := 512) (n2 := 256) 0 k d) = x (ix3 0 ⟨512 + k, by omega⟩ d) := by
  refine congrArg (β := EReal) x ?_
  blk_ext <;> (rw [Rect.idx_unit_val]; simp)

/-- Chunk 2 of a block of 4096 rows. -/
theorem chunk2 (x : FVec Ideal S1x4096x256 .bf16) (k : Fin 512) (d : Fin 256) :
    View.ld (Val := Elt Ideal) (e' := .bf16) x r0_4 (ix3 (n0 := 1) (n1 := 512) (n2 := 256) 0 k d) = x (ix3 0 ⟨1024 + k, by omega⟩ d) := by
  refine congrArg (β := EReal) x ?_
  blk_ext <;> (rw [Rect.idx_unit_val]; simp)

/-- Chunk 3 of a block of 4096 rows. -/
theorem chunk3 (x : FVec Ideal S1x4096x256 .bf16) (k : Fin 512) (d : Fin 256) :
    View.ld (Val := Elt Ideal) (e' := .bf16) x r0_5 (ix3 (n0 := 1) (n1 := 512) (n2 := 256) 0 k d) = x (ix3 0 ⟨1536 + k, by omega⟩ d) := by
  refine congrArg (β := EReal) x ?_
  blk_ext <;> (rw [Rect.idx_unit_val]; simp)

/-- Chunk 4 of a block of 4096 rows. -/
theorem chunk4 (x : FVec Ideal S1x4096x256 .bf16) (k : Fin 512) (d : Fin 256) :
    View.ld (Val := Elt Ideal) (e' := .bf16) x r0_6 (ix3 (n0 := 1) (n1 := 512) (n2 := 256) 0 k d) = x (ix3 0 ⟨2048 + k, by omega⟩ d) := by
  refine congrArg (β := EReal) x ?_
  blk_ext <;> (rw [Rect.idx_unit_val]; simp)

/-- Chunk 5 of a block of 4096 rows. -/
theorem chunk5 (x : FVec Ideal S1x4096x256 .bf16) (k : Fin 512) (d : Fin 256) :
    View.ld (Val := Elt Ideal) (e' := .bf16) x r0_7 (ix3 (n0 := 1) (n1 := 512) (n2 := 256) 0 k d) = x (ix3 0 ⟨2560 + k, by omega⟩ d) := by
  refine congrArg (β := EReal) x ?_
  blk_ext <;> (rw [Rect.idx_unit_val]; simp)

/-- Chunk 6 of a block of 4096 rows. -/
theorem chunk6 (x : FVec Ideal S1x4096x256 .bf16) (k : Fin 512) (d : Fin 256) :
    View.ld (Val := Elt Ideal) (e' := .bf16) x r0_8 (ix3 (n0 := 1) (n1 := 512) (n2 := 256) 0 k d) = x (ix3 0 ⟨3072 + k, by omega⟩ d) := by
  refine congrArg (β := EReal) x ?_
  blk_ext <;> (rw [Rect.idx_unit_val]; simp)

/-- Chunk 7 of a block of 4096 rows. -/
theorem chunk7 (x : FVec Ideal S1x4096x256 .bf16) (k : Fin 512) (d : Fin 256) :
    View.ld (Val := Elt Ideal) (e' := .bf16) x r0_9 (ix3 (n0 := 1) (n1 := 512) (n2 := 256) 0 k d) = x (ix3 0 ⟨3584 + k, by omega⟩ d) := by
  refine congrArg (β := EReal) x ?_
  blk_ext <;> (rw [Rect.idx_unit_val]; simp)

section
variable (c : Dev nD) (t : Fin cfg0.N) (b : Fin 4) (h : Fin 16) (hb : b.val = (grid0.coords t 0).val) (hh : h.val = (grid0.coords t 1).val)
include hb hh

/-- Where an entry of the query block sits in its array. -/
theorem place0 (r : Fin 1024) (s : Fin 4096) (hs : s.val = (grid0.coords t 2).val * 1024 + r.val) (d : Fin 256) :
    ((cfg0.win 0).blk t).view.emb (ix3 (n0 := 1) (n1 := 1024) (n2 := 256) 0 r d) = (ix3 b s ⟨h * 256 + d, by omega⟩) := by
  blk_ext [idx t] <;> omega

/-- Where an entry of the context keys' block sits in its array. -/
theorem place1 (k : Fin 256) (d : Fin 256) : ((cfg0.win 1).blk t).view.emb (ix3 (n0 := 1) (n1 := 256) (n2 := 256) 0 k d) = (ix3 b k ⟨h * 256 + d, by omega⟩) := by
  blk_ext [idx t] <;> omega

/-- Where an entry of the context values' block sits in its array. -/
theorem place2 (k : Fin 256) (d : Fin 256) : ((cfg0.win 2).blk t).view.emb (ix3 (n0 := 1) (n1 := 256) (n2 := 256) 0 k d) = (ix3 b k ⟨h * 256 + d, by omega⟩) := by
  blk_ext [idx t] <;> omega

/-- Where an entry of the further keys' block sits in its array. -/
theorem place3 (k : Fin 4096) (d : Fin 256) : ((cfg0.win 3).blk t).view.emb (ix3 (n0 := 1) (n1 := 4096) (n2 := 256) 0 k d) = (ix3 b k ⟨h * 256 + d, by omega⟩) := by
  blk_ext [idx t] <;> omega

/-- Where an entry of the further values' block sits in its array. -/
theorem place4 (k : Fin 4096) (d : Fin 256) : ((cfg0.win 4).blk t).view.emb (ix3 (n0 := 1) (n1 := 4096) (n2 := 256) 0 k d) = (ix3 b k ⟨h * 256 + d, by omega⟩) := by
  blk_ext [idx t] <;> omega

/-- Where an entry of the stored block goes. -/
theorem place5 (r : Fin 1024) (s : Fin 4096) (hs : s.val = (grid0.coords t 2).val * 1024 + r.val) (d : Fin 128) :
    ((cfg0.win 5).blk t).view.emb (ix3 (n0 := 1) (n1 := 1024) (n2 := 128) 0 r d) = (ix3 b s ⟨h * 128 + d, by omega⟩) := by
  blk_ext [idx t] <;> omega

/-- The query block read off its array, over any contents of the buffers. -/
theorem read0 (W : (b : Ref sig .tc) → Buf (Elt Ideal) ((c : Thread nD τ).loc b)) (r : Fin 1024) (s : Fin 4096) (hs : s.val = (grid0.coords t 2).val * 1024 + r.val) (d : Fin 256) :
    ((cfg0.win 0).blk t).view.read (Elt Ideal) (W (Pipeline.arrRef spec0 0)) (ix3 (n0 := 1) (n1 := 1024) (n2 := 256) 0 r d) = W main_v7 (ix3 b s ⟨h * 256 + d, by omega⟩) :=
  congrArg (W main_v7) (place0 t b h hb hh r s hs d)

/-- The context keys' block read off its array, over any contents of the buffers. -/
theorem read1 (W : (b : Ref sig .tc) → Buf (Elt Ideal) ((c : Thread nD τ).loc b)) (k : Fin 256) (d : Fin 256) :
    ((cfg0.win 1).blk t).view.read (Elt Ideal) (W (Pipeline.arrRef spec0 1)) (ix3 (n0 := 1) (n1 := 256) (n2 := 256) 0 k d) = W main_v10 (ix3 b k ⟨h * 256 + d, by omega⟩) :=
  congrArg (W main_v10) (place1 t b h hb hh k d)

/-- The context values' block read off its array, over any contents of the buffers. -/
theorem read2 (W : (b : Ref sig .tc) → Buf (Elt Ideal) ((c : Thread nD τ).loc b)) (k : Fin 256) (d : Fin 256) :
    ((cfg0.win 2).blk t).view.read (Elt Ideal) (W (Pipeline.arrRef spec0 2)) (ix3 (n0 := 1) (n1 := 256) (n2 := 256) 0 k d) = W main_v14 (ix3 b k ⟨h * 256 + d, by omega⟩) :=
  congrArg (W main_v14) (place2 t b h hb hh k d)

/-- The further keys' block read off its array, over any contents of the buffers. -/
theorem read3 (W : (b : Ref sig .tc) → Buf (Elt Ideal) ((c : Thread nD τ).loc b)) (k : Fin 4096) (d : Fin 256) :
    ((cfg0.win 3).blk t).view.read (Elt Ideal) (W (Pipeline.arrRef spec0 3)) (ix3 (n0 := 1) (n1 := 4096) (n2 := 256) 0 k d) = W main_v17 (ix3 b k ⟨h * 256 + d, by omega⟩) :=
  congrArg (W main_v17) (place3 t b h hb hh k d)

/-- The further values' block read off its array, over any contents of the buffers. -/
theorem read4 (W : (b : Ref sig .tc) → Buf (Elt Ideal) ((c : Thread nD τ).loc b)) (k : Fin 4096) (d : Fin 256) :
    ((cfg0.win 4).blk t).view.read (Elt Ideal) (W (Pipeline.arrRef spec0 4)) (ix3 (n0 := 1) (n1 := 4096) (n2 := 256) 0 k d) = W main_v21 (ix3 b k ⟨h * 256 + d, by omega⟩) :=
  congrArg (W main_v21) (place4 t b h hb hh k d)

/-- The query block at a grid point. -/
theorem queryBlock (r : Fin 1024) (s : Fin 4096) (hs : s.val = (grid0.coords t 2).val * 1024 + r.val) (d : Fin 256) :
    (iblk m c 0 t : FVec Ideal S1x1024x256 .bf16) (ix3 0 r d) = lanes 0 (fun e => queries m c (ix4 b s h e) * ((scale / Real.log 2 : ℝ) : EReal)) d := by
  rw [← scale_div]
  unfold iblk
  exact (read0 c t b h hb hh (V m c) r s hs d).trans (query_at m c b s h d)

/-- The context keys' block at a grid point. -/
theorem ctxKeyBlock (k : Fin 256) (d : Fin 256) : (iblk m c 1 t : FVec Ideal S1x256x256 .bf16) (ix3 0 k d) = lanes 0 (K m c b h k) d := by
  unfold iblk
  exact (read1 c t b h hb hh (V m c) k d).trans (ctxKey_eq m c b k h d)

/-- The context values' block at a grid point. -/
theorem ctxValueBlock (k : Fin 256) (d : Fin 256) : (iblk m c 2 t : FVec Ideal S1x256x256 .bf16) (ix3 0 k d) = U m c b h d k := by
  unfold iblk
  exact (read2 c t b h hb hh (V m c) k d).trans (ctxValue_eq m c b k h d)

/-- The further keys' block at a grid point. -/
theorem latKeyBlock (k : Fin 4096) (d : Fin 256) : (iblk m c 3 t : FVec Ideal S1x4096x256 .bf16) (ix3 0 k d) = lanes 0 (K m c b h (256 + k)) d := by
  unfold iblk
  exact (read3 c t b h hb hh (V m c) k d).trans (latKey_eq m c b k h d _ rfl)

/-- The further values' block at a grid point. -/
theorem latValueBlock (k : Fin 4096) (d : Fin 256) : (iblk m c 4 t : FVec Ideal S1x4096x256 .bf16) (ix3 0 k d) = U m c b h d (256 + k) := by
  unfold iblk
  exact (read4 c t b h hb hh (V m c) k d).trans (latValue_eq m c b k h d _ rfl)

end

end Cert.KernelIdeal.Blocks
-- ==== Proof.Final.lean ====
/- The attention kernel's result array is the reference's result. -/
module

public import proofs.«01_k».proof.Proof.Blocks

@[expose] public section

set_option maxRecDepth 16384

noncomputable section

namespace Cert.KernelIdeal.Final

open Cert.KernelIdeal Cert.KernelIdeal.Gen Idealize.ShloMosaic Idealize.ShloMosaic.TcCoe Idealize.SL.Sem Cert.Softmax
open Cert.KernelIdeal.Steps Cert.KernelIdeal.Entries Cert.KernelIdeal.Blocks
open Idealize.ShloMosaic.Pipeline (Dat)

variable (m : (ℓ : Loc nD τ sig) → Buf (Elt Ideal) ℓ)

/-- An entry of a result tile from the lanes of the blocks it is computed from: queries carry the factor `w`, queries and keys are zero and the further value lanes one. -/
theorem tile_at (q : FVec Ideal S1024x256 .bf16) (x1 x2 : FVec Ideal S1x256x256 .bf16) (x3 x4 : FVec Ideal S1x4096x256 .bf16) (r : Fin 1024) (d : Fin 128)
    (Q : Fin 192 → EReal) (w : ℝ) (K : ℕ → Fin 192 → EReal) (U : Fin 256 → ℕ → EReal) (hQ : ∀ e, IsReal (Q e)) (hK : ∀ k e, IsReal (K k e))
    (hq : ∀ d, q (ix2 r d) = lanes 0 (fun e => Q e * (w : EReal)) d)
    (h1 : ∀ (c : Fin 256) (d : Fin 256), x1 (ix3 0 c d) = lanes 0 (K c) d) (h2 : ∀ (c : Fin 256) (d : Fin 256), x2 (ix3 0 c d) = U d c)
    (h3 : ∀ (c : Fin 4096) (d : Fin 256), x3 (ix3 0 c d) = lanes 0 (K (256 + c)) d) (h4 : ∀ (c : Fin 4096) (d : Fin 256), x4 (ix3 0 c d) = U d (256 + c))
    (hO : ∀ k : Fin 4352, U ⟨128 + d, by omega⟩ k = 1) (τ : Fin 4352 → ℝ) (hτ : ∀ k : Fin 4352, τ k = dot Q (K k) * w * Real.log 2) (ν : ℝ) :
    block q x1 x2 (View.ld (Val := Elt Ideal) (e' := .bf16) x3 r0_2) (View.ld (Val := Elt Ideal) (e' := .bf16) x4 r0_2) (View.ld (Val := Elt Ideal) (e' := .bf16) x3 r0_3) (View.ld (Val := Elt Ideal) (e' := .bf16) x4 r0_3) (View.ld (Val := Elt Ideal) (e' := .bf16) x3 r0_4) (View.ld (Val := Elt Ideal) (e' := .bf16) x4 r0_4) (View.ld (Val := Elt Ideal) (e' := .bf16) x3 r0_5) (View.ld (Val := Elt Ideal) (e' := .bf16) x4 r0_5) (View.ld (Val := Elt Ideal) (e' := .bf16) x3 r0_6) (View.ld (Val := Elt Ideal) (e' := .bf16) x4 r0_6) (View.ld (Val := Elt Ideal) (e' := .bf16) x3 r0_7) (View.ld (Val := Elt Ideal) (e' := .bf16) x4 r0_7) (View.ld (Val := Elt Ideal) (e' := .bf16) x3 r0_8) (View.ld (Val := Elt Ideal) (e' := .bf16) x4 r0_8) (View.ld (Val := Elt Ideal) (e' := .bf16) x3 r0_9) (View.ld (Val := Elt Ideal) (e' := .bf16) x4 r0_9) (ix3 0 r d)
      = ∑ k : Fin 4352, U ⟨d, by omega⟩ k * Ideal.div (Ideal.exp ((τ k : EReal) - (ν : EReal))) (∑ l : Fin 4352, Ideal.exp ((τ l : EReal) - (ν : EReal))) := by
  have e0 := chunk_of q r Q w K U hQ hK hq 256 _ _
    (fun c d => (chunk0 x3 c d).trans ((h3 ⟨0 + c, by omega⟩ d).trans (congrArg (fun n => lanes 0 (K n) d) (show 256 + (0 + c.val) = 256 + c.val by omega))))
    (fun c d => (chunk0 x4 c d).trans ((h4 ⟨0 + c, by omega⟩ d).trans (congrArg (U d) (show 256 + (0 + c.val) = 256 + c.val by omega))))
  have e1 := chunk_of q r Q w K U hQ hK hq 768 _ _
    (fun c d => (chunk1 x3 c d).trans ((h3 ⟨512 + c, by omega⟩ d).trans (congrArg (fun n => lanes 0 (K n) d) (show 256 + (512 + c.val) = 768 + c.val by omega))))
    (fun c d => (chunk1 x4 c d).trans ((h4 ⟨512 + c, by omega⟩ d).trans (congrArg (U d) (show 256 + (512 + c.val) = 768 + c.val by omega))))
  have e2 := chunk_of q r Q w K U hQ hK hq 1280 _ _
    (fun c d => (chunk2 x3 c d).trans ((h3 ⟨1024 + c, by omega⟩ d).trans (congrArg (fun n => lanes 0 (K n) d) (show 256 + (1024 + c.val) = 1280 + c.val by omega))))
    (fun c d => (chunk2 x4 c d).trans ((h4 ⟨1024 + c, by omega⟩ d).trans (congrArg (U d) (show 256 + (1024 + c.val) = 1280 + c.val by omega))))
  have e3 := chunk_of q r Q w K U hQ hK hq 1792 _ _
    (fun c d => (chunk3 x3 c d).trans ((h3 ⟨1536 + c, by omega⟩ d).trans (congrArg (fun n => lanes 0 (K n) d) (show 256 + (1536 + c.val) = 1792 + c.val by omega))))
    (fun c d => (chunk3 x4 c d).trans ((h4 ⟨1536 + c, by omega⟩ d).trans (congrArg (U d) (show 256 + (1536 + c.val) = 1792 + c.val by omega))))
  have e4 := chunk_of q r Q w K U hQ hK hq 2304 _ _
    (fun c d => (chunk4 x3 c d).trans ((h3 ⟨2048 + c, by omega⟩ d).trans (congrArg (fun n => lanes 0 (K n) d) (show 256 + (2048 + c.val) = 2304 + c.val by omega))))
    (fun c d => (chunk4 x4 c d).trans ((h4 ⟨2048 + c, by omega⟩ d).trans (congrArg (U d) (show 256 + (2048 + c.val) = 2304 + c.val by omega))))
  have e5 := chunk_of q r Q w K U hQ hK hq 2816 _ _
    (fun c d => (chunk5 x3 c d).trans ((h3 ⟨2560 + c, by omega⟩ d).trans (congrArg (fun n => lanes 0 (K n) d) (show 256 + (2560 + c.val) = 2816 + c.val by omega))))
    (fun c d => (chunk5 x4 c d).trans ((h4 ⟨2560 + c, by omega⟩ d).trans (congrArg (U d) (show 256 + (2560 + c.val) = 2816 + c.val by omega))))
  have e6 := chunk_of q r Q w K U hQ hK hq 3328 _ _
    (fun c d => (chunk6 x3 c d).trans ((h3 ⟨3072 + c, by omega⟩ d).trans (congrArg (fun n => lanes 0 (K n) d) (show 256 + (3072 + c.val) = 3328 + c.val by omega))))
    (fun c d => (chunk6 x4 c d).trans ((h4 ⟨3072 + c, by omega⟩ d).trans (congrArg (U d) (show 256 + (3072 + c.val) = 3328 + c.val by omega))))
  have e7 := chunk_of q r Q w K U hQ hK hq 3840 _ _
    (fun c d => (chunk7 x3 c d).trans ((h3 ⟨3584 + c, by omega⟩ d).trans (congrArg (fun n => lanes 0 (K n) d) (show 256 + (3584 + c.val) = 3840 + c.val by omega))))
    (fun c d => (chunk7 x4 c d).trans ((h4 ⟨3584 + c, by omega⟩ d).trans (congrArg (U d) (show 256 + (3584 + c.val) = 3840 + c.val by omega))))
  exact block_at q x1 x2 _ _ _ _ _ _ _ _ _ _ _ _ _ _ _ _ r d _ U (first_of q r Q w K hQ hK hq x1 h1) h2 e0 e1 e2 e3 e4 e5 e6 e7 hO τ hτ ν

theorem final (c : Dev nD) (h0 : ∀ i, IsReal (queries m c i)) (h1 : ∀ i, IsReal (ctxKeys m c i)) (h3 : ∀ i, IsReal (latKeys m c i)) :
    (dats m 0 c).arrAt 5 cfg0.N = Cert.ReferenceIdeal.Read.val_main_v19 (F := Ideal) (queries m c) (ctxKeys m c) (ctxValues m c) (latKeys m c) (latValues m c) := by
  refine (dats m 0 c).arrAt_eq_of_covers 5 _ (by decide +kernel) fun t _ y => ?_
  blk_simp
  rw [after0_5]; frame_out
  idx_vars y
  obtain rfl : y0 = 0 := Subsingleton.elim _ _
  simp only [k0_pay28, k0_pay29, k0_pay30, k0_pay31, k0_pay32]
  simp (disch := decide) only [View.ld_unit_lit']
  refine (congrFun (payload_eq _ _ _ _ _ _ _ _ _ _ _ _ _ _ _ _ _ _ _) _).trans ?_
  have hT : (grid0.coords t 2).val < 4 := (grid0.coords t 2).isLt
  obtain ⟨b, hb⟩ : ∃ b : Fin 4, b.val = (grid0.coords t 0).val := ⟨⟨_, (grid0.coords t 0).isLt⟩, rfl⟩
  obtain ⟨h, hh⟩ : ∃ h : Fin 16, h.val = (grid0.coords t 1).val := ⟨⟨_, (grid0.coords t 1).isLt⟩, rfl⟩
  obtain ⟨s, hs⟩ : ∃ s : Fin 4096, s.val = (grid0.coords t 2).val * 1024 + y1.val := ⟨⟨_, by omega⟩, rfl⟩
  obtain ⟨ν, hν⟩ := Cert.ReferenceIdeal.Rows.head_at (queries m c) (ctxKeys m c) (ctxValues m c) (latKeys m c) (latValues m c) h0 h1 h3 b s h y2
  refine Eq.trans ?_ (hν.symm.trans ?_)
  swap
  · exact congrArg _ (place5 t b h hb hh y1 s hs y2).symm
  have hQ := fun d => (query_row _ y1 d).trans (queryBlock m c t b h hb hh y1 s hs d)
  have hkc := ctxKeyBlock m c t b h hb hh
  have hvc := ctxValueBlock m c t b h hb hh
  have hkl := latKeyBlock m c t b h hb hh
  have hvl := latValueBlock m c t b h hb hh
  have rQ : ∀ e, IsReal (queries m c (ix4 b s h e)) := fun e => h0 _
  have rK : ∀ k e, IsReal (K m c b h k e) := fun k e => pick_fin (fun _ => h1 _) (fun _ => h3 _) k
  generalize (iblk m c 0 t : FVec Ideal S1x1024x256 .bf16) = x0 at hQ ⊢
  generalize (iblk m c 1 t : FVec Ideal S1x256x256 .bf16) = x1 at hkc ⊢
  generalize (iblk m c 2 t : FVec Ideal S1x256x256 .bf16) = x2 at hvc ⊢
  generalize (iblk m c 3 t : FVec Ideal S1x4096x256 .bf16) = x3 at hkl ⊢
  generalize (iblk m c 4 t : FVec Ideal S1x4096x256 .bf16) = x4 at hvl ⊢
  have e := tile_at (k0_pay2 x0) x1 x2 x3 x4 y1 y2 _ _ (K m c b h) (U m c b h) rQ rK hQ hkc hvc hkl hvl (fun k => by simp [U, lanes])
    (fun k => Cert.ReferenceIdeal.Rows.score (queries m c) (ctxKeys m c) (latKeys m c) b h s k) (fun k => by
      simp only [Cert.ReferenceIdeal.Rows.score, K]
      rw [mul_assoc, div_mul_cancel₀ _ (Real.log_pos (by norm_num)).ne']) ν
  refine Eq.trans ?_ (e.trans ?_)
  · rfl
  · exact Finset.sum_congr rfl fun k _ => by simp [U, lanes]

end Cert.KernelIdeal.Final
-- ==== Proof.Finite.lean ====
/- What the precondition says of the entries: they are real numbers. -/
module

public import proofs.«01_k».proof.Proof.Final
public import proofs.«01_k».proof.Pre_finite_scores

@[expose] public section

noncomputable section

namespace Cert.Finite

open Idealize.ShloMosaic Cert.Softmax

/-- The shape relations the precondition's operations take. -/
theorem facts : Cert.Pre_finite_scores.Facts := ⟨by decide, by decide⟩

/-- A number whose absolute value is below infinity is real. -/
theorem real_of_abs (x : EReal) (h : Ideal.cmp .olt (max x (-x)) (Ideal.ofBits .f32 0x7F800000#32) = 1#1) : IsReal x := by
  have ht : Ideal.ofBits .f32 0x7F800000#32 = ⊤ := by simp [Ideal.ofBits, Ideal.ieee]
  rw [ht] at h
  induction x using EReal.rec with
  | bot => simp [Ideal.cmp] at h
  | top => simp [Ideal.cmp] at h
  | coe r => exact ⟨r, rfl⟩

/-- The same of every entry of an array, from the comparison of the whole array. -/
theorem entries_real {s : Shape} (hb : (⟨0, ![]⟩ : Shape).BroadcastsInDim s (![] : Fin 0 → Fin s.rank)) (x : FVec Ideal s .f32)
    (h : cmpf .olt (Host.absf x) (broadcastInDim s ![] hb (constant (⟨0, ![]⟩ : Shape) .f32 0x7F800000#32)) = fun _ => 1#1) (i : s.Idx) : IsReal (x i) :=
  real_of_abs (x i) (congrFun h i)

/-- The precondition's three comparisons, each as a statement of its array's entries. -/
theorem of_pre (x0 : FVec Ideal Cert.Pre_finite_scores.S4x4096x16x192 .f32) (x1 : FVec Ideal Cert.Pre_finite_scores.S4x256x16x192 .f32)
    (x2 : FVec Ideal Cert.Pre_finite_scores.S4x256x16x128 .f32) (x3 : FVec Ideal Cert.Pre_finite_scores.S4x4096x16x192 .f32)
    (x4 : FVec Ideal Cert.Pre_finite_scores.S4x4096x16x128 .f32)
    (h : letI := facts
      (Cert.Pre_finite_scores.fn (F := Ideal) x0 x1 x2 x3 x4).1 = (fun _ => 1#1) ∧ (Cert.Pre_finite_scores.fn (F := Ideal) x0 x1 x2 x3 x4).2.1 = (fun _ => 1#1)
      ∧ (Cert.Pre_finite_scores.fn (F := Ideal) x0 x1 x2 x3 x4).2.2 = (fun _ => 1#1)) :
    (∀ i, IsReal (x0 i)) ∧ (∀ i, IsReal (x1 i)) ∧ (∀ i, IsReal (x3 i)) :=
  ⟨entries_real _ x0 h.1, entries_real _ x1 h.2.1, entries_real _ x3 h.2.2⟩

end Cert.Finite

end
-- ==== Proof.Words.lean ====
/- A word holds two bf16 numbers: each half, put at the top of an empty word, is an f32 number of the same value. -/
module

public import Idealize.ShloMosaic.Lib.Pointwise

@[expose] public section

noncomputable section

namespace Cert.Words

open Idealize.ShloMosaic

/-- A word that is sixteen bits followed by sixteen zeros reads, as an f32, as those bits do as a bf16. -/
theorem top (w : BitVec 32) (h : BitVec 16) (e : w.toNat = h.toNat * 65536) : Ideal.ofBits .f32 w = Ideal.ofBits .bf16 h := by
  have hh := h.isLt
  have hs : w.extractLsb' 31 1 = h.extractLsb' 15 1 := by
    apply BitVec.eq_of_toNat_eq
    simp only [BitVec.extractLsb'_toNat, Nat.shiftRight_eq_div_pow, e]
    omega
  have he : (w.extractLsb' 23 8).toNat = (h.extractLsb' 7 8).toNat := by
    simp only [BitVec.extractLsb'_toNat, Nat.shiftRight_eq_div_pow, e]
    omega
  have hf : (w.extractLsb' 0 23).toNat = (h.extractLsb' 0 7).toNat * 65536 := by
    simp only [BitVec.extractLsb'_toNat, Nat.shiftRight_eq_div_pow, e]
    omega
  have hp : ∀ (a b : ℤ), a = b - 16 → (65536 : ℝ) * (2 : ℝ) ^ a = (2 : ℝ) ^ b := by
    intro a b hab
    subst hab
    rw [zpow_sub₀ (by norm_num : (2 : ℝ) ≠ 0)]
    norm_num
    ring
  show Ideal.ieee 8 23 w = Ideal.ieee 8 7 h
  unfold Ideal.ieee
  simp only [show 8 + 23 = 31 from rfl, show 8 + 7 = 15 from rfl, hs, he, hf]
  generalize (h.extractLsb' 7 8).toNat = ex
  generalize (h.extractLsb' 0 7).toNat = fr
  generalize (if (h.extractLsb' 15 1 == 1#1) = true then (-1 : ℝ) else 1) = s
  split
  · rcases Nat.eq_zero_or_pos fr with rfl | hfr
    · simp
    · rw [if_neg (by omega), if_neg (by omega)]
  · split
    · congr 1
      rw [← hp _ _ (show (1 - (2 ^ (8 - 1) - 1) - ((23 : Nat) : ℤ) : ℤ) = (1 - (2 ^ (8 - 1) - 1) - ((7 : Nat) : ℤ)) - 16 by norm_num)]
      push_cast
      ring
    · congr 1
      rw [← hp _ _ (show ((ex : ℤ) - (2 ^ (8 - 1) - 1) - ((23 : Nat) : ℤ) : ℤ) = ((ex : ℤ) - (2 ^ (8 - 1) - 1) - ((7 : Nat) : ℤ)) - 16 by push_cast; ring)]
      push_cast
      ring

/-- The low half, shifted to the top. -/
theorem low (w : BitVec 32) : Ideal.ofBits .f32 (w <<< 16) = Ideal.ofBits .bf16 (w.extractLsb' 0 16) := by
  refine top _ _ ?_
  have := w.isLt
  simp only [BitVec.extractLsb'_toNat, BitVec.toNat_shiftLeft, Nat.shiftRight_eq_div_pow, Nat.shiftLeft_eq]
  omega

/-- The high half, with the low half masked out. -/
theorem high (w : BitVec 32) : Ideal.ofBits .f32 (w &&& 4294901760#32) = Ideal.ofBits .bf16 (w.extractLsb' 16 16) := by
  refine top _ _ ?_
  have hw := w.isLt
  have e : w &&& 4294901760#32 = (w >>> 16) <<< 16 := by
    refine BitVec.eq_of_getLsbD_eq fun i hi => ?_
    have hm : (4294901760#32 : BitVec 32).getLsbD i = decide (16 ≤ i) := by
      interval_cases i <;> rfl
    rw [BitVec.getLsbD_and, hm, BitVec.getLsbD_shiftLeft, BitVec.getLsbD_ushiftRight]
    by_cases h : 16 ≤ i
    · simp [h, hi, show ¬ i < 16 by omega, show 16 + (i - 16) = i by omega]
    · simp [h, show i < 16 by omega]
  rw [e]
  simp only [BitVec.extractLsb'_toNat, BitVec.toNat_shiftLeft, BitVec.toNat_ushiftRight, Nat.shiftRight_eq_div_pow, Nat.shiftLeft_eq]
  omega

/-- The kernel's shift of a word by sixteen, read as a number, is the word's low half. -/
theorem shifted (w : BitVec 32) : Ideal.ofBits .f32 (IntOp.shli .vector w 16#32) = Ideal.ofBits .bf16 (w.extractLsb' 0 16) :=
  low w

/-- The kernel's mask of a word, read as a number, is the word's high half. -/
theorem masked (w : BitVec 32) : Ideal.ofBits .f32 (IntOp.andi w 4294901760#32) = Ideal.ofBits .bf16 (w.extractLsb' 16 16) :=
  high w

end Cert.Words

end
-- ==== Proof.FfnIdealBody.lean ====
/- The frame of the expert feed-forward call (FfnIdeal): its grid runs five points per expert. The first four store a block of
   latent rows, the fifth stores the block of context rows. One output block is idle at each point, so the two kinds of
   point are proved apart. -/
module

public import proofs.«01_k».proof.Proof.Gen.FfnIdeal.Frame
public import proofs.«01_k».proof.Proof.Gen.FfnIdeal.Skeleton
public import Idealize.ShloMosaic.Lib.Claim

@[expose] public section

set_option maxRecDepth 16384

noncomputable section

namespace Cert.FfnIdeal.Body

open Cert.FfnIdeal Cert.FfnIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The rectangles the body reads and writes: each a whole block -/

abbrev r_xl : Rect S1x1x512x1024 := Rect.unit (s := S1x1x512x1024) ![0, 0, 0, 0] S1x1x512x1024.size inb_S1x1x512x1024_S1x1x512x1024_0_0_0_0
abbrev r_gl : Rect S1x1x512x1 := Rect.unit (s := S1x1x512x1) ![0, 0, 0, 0] S1x1x512x1.size inb_S1x1x512x1_S1x1x512x1_0_0_0_0
abbrev r_fl : Rect S1x1x2048 := Rect.unit (s := S1x1x2048) ![0, 0, 0] S1x1x2048.size inb_S1x1x2048_S1x1x2048_0_0_0
abbrev r_xc : Rect S4x1x32x1024 := Rect.unit (s := S4x1x32x1024) ![0, 0, 0, 0] S4x1x32x1024.size inb_S4x1x32x1024_S4x1x32x1024_0_0_0_0
abbrev r_gc : Rect S4x1x32x1 := Rect.unit (s := S4x1x32x1) ![0, 0, 0, 0] S4x1x32x1.size inb_S4x1x32x1_S4x1x32x1_0_0_0_0
abbrev r_fc : Rect S1x2048 := Rect.unit (s := S1x2048) ![0, 0] S1x2048.size inb_S1x2048_S1x2048_0_0
abbrev r_up : Rect S1x1x2048x1024 := Rect.unit (s := S1x1x2048x1024) ![0, 0, 0, 0] S1x1x2048x1024.size inb_S1x1x2048x1024_S1x1x2048x1024_0_0_0_0
abbrev r_down : Rect S1x1x1024x2048 := Rect.unit (s := S1x1x1024x2048) ![0, 0, 0, 0] S1x1x1024x2048.size inb_S1x1x1024x2048_S1x1x1024x2048_0_0_0_0
abbrev r_yl : Rect S1x1x512x2048 := Rect.unit (s := S1x1x512x2048) ![0, 0, 0, 0] S1x1x512x2048.size inb_S1x1x512x2048_S1x1x512x2048_0_0_0_0
abbrev r_yc : Rect S4x1x32x2048 := Rect.unit (s := S4x1x32x2048) ![0, 0, 0, 0] S4x1x32x2048.size inb_S4x1x32x2048_S4x1x32x2048_0_0_0_0

/-! ## What is stored -/

/-- The block of latent rows stored at the first four points of an expert. -/
def latent (x0 : Vec F S1x1x512x1024 .i32) (x1 : Vec F S1x1x512x1 .f32) (x2 : Vec F S1x1x2048 .f32) (x6 : Vec F S1x1x2048x1024 .bf16) (x7 : Vec F S1x1x2048x1024 .bf16) (x8 : Vec F S1x1x1024x2048 .bf16) : Vec F S1x1x512x2048 .f32 :=
  View.canon [⟨r_yl, k0_pay1 (k0_pay3 (View.ld x0 r_xl) (View.ld x1 r_gl) (View.ld x2 r_fl) (View.ld x6 r_up) (View.ld x7 r_up) (View.ld x8 r_down))⟩]

/-- The block of context rows stored at the fifth point. -/
def context (x3 : Vec F S4x1x32x1024 .i32) (x4 : Vec F S4x1x32x1 .f32) (x5 : Vec F S1x2048 .f32) (x6 : Vec F S1x1x2048x1024 .bf16) (x7 : Vec F S1x1x2048x1024 .bf16) (x8 : Vec F S1x1x1024x2048 .bf16) : Vec F S4x1x32x2048 .f32 :=
  View.canon [⟨r_yc, k0_pay2 (k0_pay4 (View.ld x3 r_xc) (View.ld x4 r_gc) (View.ld x5 r_fc) (View.ld x6 r_up) (View.ld x7 r_up) (View.ld x8 r_down))⟩]

/-- The one store of latent rows fills the block. -/
theorem latent_filled (p : Vec F S1x1x512x2048 .f32) (y : S1x1x512x2048.Idx) :
    ∃ pc ∈ ([⟨r_yl, p⟩] : List (View.Piece (Elt F) S1x1x512x2048 .f32)), y ∈ pc.1.set :=
  View.cover_of_tiled [⟨r_yl, p⟩] S1x1x512x2048.size (by rfl) y

/-- The one store of context rows fills the block. -/
theorem context_filled (p : Vec F S4x1x32x2048 .f32) (y : S4x1x32x2048.Idx) :
    ∃ pc ∈ ([⟨r_yc, p⟩] : List (View.Piece (Elt F) S4x1x32x2048 .f32)), y ∈ pc.1.set :=
  View.cover_of_tiled [⟨r_yc, p⟩] S4x1x32x2048.size (by rfl) y

/-! ## The body at the two kinds of point -/

set_option maxHeartbeats 2000000 in
/-- Where the latent branch is taken and the other is not, the body stores the latent rows and touches no context row. -/
theorem body_latent (c : Dev nD) (E : Set ℕ) (i : grid0.Coords) (k1 : k0_cond1 i = 1#1) (k2 : ¬ k0_cond2 i = 1#1) (a0 : Memref sig .tc .vmem S1x1x512x1024 .i32) (h0 : a0.IsWhole) (a1 : Memref sig .tc .vmem S1x1x512x1 .f32) (h1 : a1.IsWhole) (a2 : Memref sig .tc .vmem S1x1x2048 .f32) (h2 : a2.IsWhole) (a3 : Memref sig .tc .vmem S4x1x32x1024 .i32) (h3 : a3.IsWhole) (a4 : Memref sig .tc .vmem S4x1x32x1 .f32) (h4 : a4.IsWhole) (a5 : Memref sig .tc .vmem S1x2048 .f32) (h5 : a5.IsWhole) (a6 : Memref sig .tc .vmem S1x1x2048x1024 .bf16) (h6 : a6.IsWhole) (a7 : Memref sig .tc .vmem S1x1x2048x1024 .bf16) (h7 : a7.IsWhole) (a8 : Memref sig .tc .vmem S1x1x1024x2048 .bf16) (h8 : a8.IsWhole) (a9 : Memref sig .tc .vmem S1x1x512x2048 .f32) (h9 : a9.IsWhole) (a10 : Memref sig .tc .vmem S4x1x32x2048 .f32) (h10 : a10.IsWhole)
    (x0 : Vec F S1x1x512x1024 .i32) (x1 : Vec F S1x1x512x1 .f32) (x2 : Vec F S1x1x2048 .f32) (x3 : Vec F S4x1x32x1024 .i32) (x4 : Vec F S4x1x32x1 .f32) (x5 : Vec F S1x2048 .f32) (x6 : Vec F S1x1x2048x1024 .bf16) (x7 : Vec F S1x1x2048x1024 .bf16) (x8 : Vec F S1x1x1024x2048 .bf16) (K : PUnit → sProp 𝕄) :
    iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare x7 ∗ owns (c : Thread nD τ) a8 fullShare x8 ∗ (∃ d, owns (c : Thread nD τ) a9 fullShare d)
        ∗ (iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare x7 ∗ owns (c : Thread nD τ) a8 fullShare x8 ∗ owns (c : Thread nD τ) a9 fullShare (latent x0 x1 x2 x6 x7 x8)) -∗ K ⟨⟩))
      ⊢ wp frame (wpE (defs₀ (F := F)) Variants.none c none) E (cc0_moe_expert_ffn i a0 h0 a1 h1 a2 h2 a3 h3 a4 h4 a5 h5 a6 h6 a7 h7 a8 h8 a9 h9 a10 h10) K := by
  simp only [cc0_moe_expert_ffn_eq_skeleton]; unfold cc0_moe_expert_ffn_skel
  simp only [k0_part1_eq_skeleton]; unfold k0_part1_skel
  rw [dif_pos k1, dif_neg k2]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, Hk⟩
  subst hf0 hf1 hf2 hf3 hf4 hf5 hf6 hf7 hf8
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  iexists _; isplitr
  swap; · iexact H9
  ipureintro
  exact View.read_writes_eq_canon _ _ _ (latent_filled _)

set_option maxHeartbeats 2000000 in
/-- Where the context branch is taken and the other is not, the body stores the context rows and touches no latent row. -/
theorem body_context (c : Dev nD) (E : Set ℕ) (i : grid0.Coords) (k1 : ¬ k0_cond1 i = 1#1) (k2 : k0_cond2 i = 1#1) (a0 : Memref sig .tc .vmem S1x1x512x1024 .i32) (h0 : a0.IsWhole) (a1 : Memref sig .tc .vmem S1x1x512x1 .f32) (h1 : a1.IsWhole) (a2 : Memref sig .tc .vmem S1x1x2048 .f32) (h2 : a2.IsWhole) (a3 : Memref sig .tc .vmem S4x1x32x1024 .i32) (h3 : a3.IsWhole) (a4 : Memref sig .tc .vmem S4x1x32x1 .f32) (h4 : a4.IsWhole) (a5 : Memref sig .tc .vmem S1x2048 .f32) (h5 : a5.IsWhole) (a6 : Memref sig .tc .vmem S1x1x2048x1024 .bf16) (h6 : a6.IsWhole) (a7 : Memref sig .tc .vmem S1x1x2048x1024 .bf16) (h7 : a7.IsWhole) (a8 : Memref sig .tc .vmem S1x1x1024x2048 .bf16) (h8 : a8.IsWhole) (a9 : Memref sig .tc .vmem S1x1x512x2048 .f32) (h9 : a9.IsWhole) (a10 : Memref sig .tc .vmem S4x1x32x2048 .f32) (h10 : a10.IsWhole)
    (x0 : Vec F S1x1x512x1024 .i32) (x1 : Vec F S1x1x512x1 .f32) (x2 : Vec F S1x1x2048 .f32) (x3 : Vec F S4x1x32x1024 .i32) (x4 : Vec F S4x1x32x1 .f32) (x5 : Vec F S1x2048 .f32) (x6 : Vec F S1x1x2048x1024 .bf16) (x7 : Vec F S1x1x2048x1024 .bf16) (x8 : Vec F S1x1x1024x2048 .bf16) (K : PUnit → sProp 𝕄) :
    iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare x7 ∗ owns (c : Thread nD τ) a8 fullShare x8 ∗ (∃ d, owns (c : Thread nD τ) a10 fullShare d)
        ∗ (iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare x7 ∗ owns (c : Thread nD τ) a8 fullShare x8 ∗ owns (c : Thread nD τ) a10 fullShare (context x3 x4 x5 x6 x7 x8)) -∗ K ⟨⟩))
      ⊢ wp frame (wpE (defs₀ (F := F)) Variants.none c none) E (cc0_moe_expert_ffn i a0 h0 a1 h1 a2 h2 a3 h3 a4 h4 a5 h5 a6 h6 a7 h7 a8 h8 a9 h9 a10 h10) K := by
  simp only [cc0_moe_expert_ffn_eq_skeleton]; unfold cc0_moe_expert_ffn_skel
  simp only [k0_part2_eq_skeleton]; unfold k0_part2_skel
  rw [dif_neg k1, dif_pos k2]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d10, %f10, -, H10⟩, Hk⟩
  subst hf0 hf1 hf2 hf3 hf4 hf5 hf6 hf7 hf8
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  iexists _; isplitr
  swap; · iexact H10
  ipureintro
  exact View.read_writes_eq_canon _ _ _ (context_filled _)

/-! ## The proof data: both blocks are stated at every point, also where they are idle -/

/-- After each point every input block is as fetched, and each output block is what the body makes of the input blocks. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => latent (iblk m c 0 t) (iblk m c 1 t) (iblk m c 2 t) (iblk m c 6 t) (iblk m c 7 t) (iblk m c 8 t)
    | ⟨10, _⟩ => context (iblk m c 3 t) (iblk m c 4 t) (iblk m c 5 t) (iblk m c 6 t) (iblk m c 7 t) (iblk m c 8 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = iblk m c 7 t := by dsimp only [dats]
theorem after_8 (c : Dev nD) (t : Fin cfg0.N) : (dats m 0 c).after 8 t = iblk m c 8 t := by dsimp only [dats]
theorem after_9 (c : Dev nD) (t : Fin cfg0.N) : (dats m 0 c).after 9 t = latent (iblk m c 0 t) (iblk m c 1 t) (iblk m c 2 t) (iblk m c 6 t) (iblk m c 7 t) (iblk m c 8 t) := by dsimp only [dats]
theorem after_10 (c : Dev nD) (t : Fin cfg0.N) : (dats m 0 c).after 10 t = context (iblk m c 3 t) (iblk m c 4 t) (iblk m c 5 t) (iblk m c 6 t) (iblk m c 7 t) (iblk m c 8 t) := by dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d
theorem before_6 (c : Dev nD) (t : Fin cfg0.N) (d) : (dats m 0 c).before 6 t d = iblk m c 6 t :=
  before0_6_of m (dats m 0 c) (A_eq m c 6) (after_6 m c) t d
theorem before_7 (c : Dev nD) (t : Fin cfg0.N) (d) : (dats m 0 c).before 7 t d = iblk m c 7 t :=
  before0_7_of m (dats m 0 c) (A_eq m c 7) (after_7 m c) t d
theorem before_8 (c : Dev nD) (t : Fin cfg0.N) (d) : (dats m 0 c).before 8 t d = iblk m c 8 t :=
  before0_8_of m (dats m 0 c) (A_eq m c 8) (after_8 m c) t d

/-! ## The points -/

/-- The two kinds of point, with what is idle and what is written back there. -/
theorem kinds : ∀ t : Fin cfg0.N,
    (k0_cond1 (grid0.coords t) = 1#1 ∧ ¬ k0_cond2 (grid0.coords t) = 1#1 ∧ (cfg0.win 10).flush t = false)
    ∨ (¬ k0_cond1 (grid0.coords t) = 1#1 ∧ k0_cond2 (grid0.coords t) = 1#1 ∧ (cfg0.win 9).flush t = true ∧ t.val % 5 = 4) := by
  decide +kernel

theorem fetch_9 (t : Fin cfg0.N) : (cfg0.win 9).fetch t = false := rfl

/-- The point before the fifth point of an expert is a latent point that does not write its block back. -/
theorem step_back : ∀ t : Fin cfg0.N, t.val % 5 = 4 →
    (cfg0.win 9).flush ⟨t.val - 1, Nat.lt_of_le_of_lt (Nat.sub_le _ _) t.isLt⟩ = false
    ∧ k0_cond1 (grid0.coords ⟨t.val - 1, Nat.lt_of_le_of_lt (Nat.sub_le _ _) t.isLt⟩) = 1#1 := by
  decide +kernel

theorem index_0 : ∀ t : Fin cfg0.N, t.val % 5 = 4 →
    (cfg0.win 0).index ⟨t.val - 1, Nat.lt_of_le_of_lt (Nat.sub_le _ _) t.isLt⟩ = (cfg0.win 0).index t := by
  decide +kernel
/-- So the fifth point finds in window 0 the block of the point before. -/
theorem same_0 (c : Dev nD) (t : Fin cfg0.N) (h : t.val % 5 = 4) :
    iblk m c 0 ⟨t.val - 1, Nat.lt_of_le_of_lt (Nat.sub_le _ _) t.isLt⟩ = iblk m c 0 t := by
  have e := (dats m 0 c).fetched_congr 0 (index_0 t h) rfl (iblk m c 0 t)
  unfold Dat.fetched Dat.blockOf at e
  rw [A_eq] at e
  exact e

theorem index_1 : ∀ t : Fin cfg0.N, t.val % 5 = 4 →
    (cfg0.win 1).index ⟨t.val - 1, Nat.lt_of_le_of_lt (Nat.sub_le _ _) t.isLt⟩ = (cfg0.win 1).index t := by
  decide +kernel
/-- So the fifth point finds in window 1 the block of the point before. -/
theorem same_1 (c : Dev nD) (t : Fin cfg0.N) (h : t.val % 5 = 4) :
    iblk m c 1 ⟨t.val - 1, Nat.lt_of_le_of_lt (Nat.sub_le _ _) t.isLt⟩ = iblk m c 1 t := by
  have e := (dats m 0 c).fetched_congr 1 (index_1 t h) rfl (iblk m c 1 t)
  unfold Dat.fetched Dat.blockOf at e
  rw [A_eq] at e
  exact e

theorem index_2 : ∀ t : Fin cfg0.N, t.val % 5 = 4 →
    (cfg0.win 2).index ⟨t.val - 1, Nat.lt_of_le_of_lt (Nat.sub_le _ _) t.isLt⟩ = (cfg0.win 2).index t := by
  decide +kernel
/-- So the fifth point finds in window 2 the block of the point before. -/
theorem same_2 (c : Dev nD) (t : Fin cfg0.N) (h : t.val % 5 = 4) :
    iblk m c 2 ⟨t.val - 1, Nat.lt_of_le_of_lt (Nat.sub_le _ _) t.isLt⟩ = iblk m c 2 t := by
  have e := (dats m 0 c).fetched_congr 2 (index_2 t h) rfl (iblk m c 2 t)
  unfold Dat.fetched Dat.blockOf at e
  rw [A_eq] at e
  exact e

theorem index_6 : ∀ t : Fin cfg0.N, t.val % 5 = 4 →
    (cfg0.win 6).index ⟨t.val - 1, Nat.lt_of_le_of_lt (Nat.sub_le _ _) t.isLt⟩ = (cfg0.win 6).index t := by
  decide +kernel
/-- So the fifth point finds in window 6 the block of the point before. -/
theorem same_6 (c : Dev nD) (t : Fin cfg0.N) (h : t.val % 5 = 4) :
    iblk m c 6 ⟨t.val - 1, Nat.lt_of_le_of_lt (Nat.sub_le _ _) t.isLt⟩ = iblk m c 6 t := by
  have e := (dats m 0 c).fetched_congr 6 (index_6 t h) rfl (iblk m c 6 t)
  unfold Dat.fetched Dat.blockOf at e
  rw [A_eq] at e
  exact e

theorem index_7 : ∀ t : Fin cfg0.N, t.val % 5 = 4 →
    (cfg0.win 7).index ⟨t.val - 1, Nat.lt_of_le_of_lt (Nat.sub_le _ _) t.isLt⟩ = (cfg0.win 7).index t := by
  decide +kernel
/-- So the fifth point finds in window 7 the block of the point before. -/
theorem same_7 (c : Dev nD) (t : Fin cfg0.N) (h : t.val % 5 = 4) :
    iblk m c 7 ⟨t.val - 1, Nat.lt_of_le_of_lt (Nat.sub_le _ _) t.isLt⟩ = iblk m c 7 t := by
  have e := (dats m 0 c).fetched_congr 7 (index_7 t h) rfl (iblk m c 7 t)
  unfold Dat.fetched Dat.blockOf at e
  rw [A_eq] at e
  exact e

theorem index_8 : ∀ t : Fin cfg0.N, t.val % 5 = 4 →
    (cfg0.win 8).index ⟨t.val - 1, Nat.lt_of_le_of_lt (Nat.sub_le _ _) t.isLt⟩ = (cfg0.win 8).index t := by
  decide +kernel
/-- So the fifth point finds in window 8 the block of the point before. -/
theorem same_8 (c : Dev nD) (t : Fin cfg0.N) (h : t.val % 5 = 4) :
    iblk m c 8 ⟨t.val - 1, Nat.lt_of_le_of_lt (Nat.sub_le _ _) t.isLt⟩ = iblk m c 8 t := by
  have e := (dats m 0 c).fetched_congr 8 (index_8 t h) rfl (iblk m c 8 t)
  unfold Dat.fetched Dat.blockOf at e
  rw [A_eq] at e
  exact e

/-- So the latent block at the fifth point is the one the point before stored. -/
theorem latent_kept (c : Dev nD) (t : Fin cfg0.N) (h : t.val % 5 = 4) :
    (dats m 0 c).after 9 ⟨t.val - 1, Nat.lt_of_le_of_lt (Nat.sub_le _ _) t.isLt⟩ = (dats m 0 c).after 9 t := by
  rw [after_9, after_9, same_0 m c t h, same_1 m c t h, same_2 m c t h, same_6 m c t h, same_7 m c t h, same_8 m c t h]

/-- The latent block's buffer at the fifth point holds the block the point before left. -/
theorem before_9 (c : Dev nD) (t : Fin cfg0.N) (h : t.val % 5 = 4) (d) : (dats m 0 c).before 9 t d = (dats m 0 c).after 9 t := by
  have hs := step_back t h
  rw [(dats m 0 c).before_of_pos 9 t (by omega) (fetch_9 t), hs.1, if_neg Bool.false_ne_true]
  have hi : cfg0.idle 9 (cfg0.grid.coords ⟨t.val - 1, Nat.lt_of_le_of_lt (Nat.sub_le _ _) t.isLt⟩) = false := by
    show (!(k0_cond1 (grid0.coords _) == 1#1)) = false
    rw [hs.2]; rfl
  unfold Dat.left; rw [hi]
  show (dats m 0 c).kept 9 _ d = _
  unfold Dat.kept
  exact (funext fun y => rfl).trans (latent_kept m c t h)

/-! ## The body obligation -/

/-- What the body is called with at a point. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d)))

/-- What it returns: an output's buffer as `leavesExact` asks of it. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ (dats m 0 c).leavesExact 9 t
    ∗ (dats m 0 c).leavesExact 10 t)

/-- A live output's buffer is to be left at the stated contents. -/
theorem leaves_live (c : Dev nD) (w : Fin cfg0.W) (t : Fin cfg0.N) (hi : cfg0.idle w (cfg0.grid.coords t) = false) :
    (dats m 0 c).leavesExact w t = (owns (c : Thread nD τ) ((cfg0.win w).stage (cfg0.slots t w)) fullShare ((dats m 0 c).after w t) : sProp 𝕄) := by
  unfold Dat.leavesExact; rw [hi]

/-- So is an idle one that is written back. -/
theorem leaves_flushed (c : Dev nD) (w : Fin cfg0.W) (t : Fin cfg0.N) (hi : cfg0.idle w (cfg0.grid.coords t) = true) (hf : (cfg0.win w).flush t = true) :
    (dats m 0 c).leavesExact w t = (owns (c : Thread nD τ) ((cfg0.win w).stage (cfg0.slots t w)) fullShare ((dats m 0 c).after w t) : sProp 𝕄) := by
  unfold Dat.leavesExact; rw [hi, hf]

theorem idle_9 (t : Fin cfg0.N) : cfg0.idle 9 (cfg0.grid.coords t) = !(k0_cond1 (grid0.coords t) == 1#1) := rfl
theorem idle_10 (t : Fin cfg0.N) : cfg0.idle 10 (cfg0.grid.coords t) = !(k0_cond2 (grid0.coords t) == 1#1) := rfl

theorem idle_of {k : BitVec 1} (h : ¬ k = 1#1) : (!(k == 1#1)) = true := by simp [h]
theorem live_of {k : BitVec 1} (h : k = 1#1) : (!(k == 1#1)) = false := by simp [h]

set_option maxHeartbeats 1000000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6, before_7, before_8]
  rw [show (dats m 0 c).Φ t.succ = (dats m 0 c).Φ t.castSucc from rfl,
    show (dats m 0 c).owesAt () t.succ = (dats m 0 c).owesAt () t.castSucc from rfl,
    after_0, after_1, after_2, after_3, after_4, after_5, after_6, after_7, after_8]
  rcases kinds t with ⟨k1, k2, hf⟩ | ⟨k1, k2, hf, h4⟩
  · rw [leaves_live m c 9 t ((idle_9 t).trans (live_of k1)), (dats m 0 c).leavesExact_idle 10 t ((idle_10 t).trans (idle_of k2)) hf, after_9]
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, H10⟩
    iapply (body_latent c Set.univ (grid0.coords t) k1 k2 _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexists _; iexact H9
    iintro ⟨H0, H1, H2, H3, H4, H5, H6, H7, H8, H9⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    iexact H10
  · rw [leaves_flushed m c 9 t ((idle_9 t).trans (idle_of k1)) hf, leaves_live m c 10 t ((idle_10 t).trans (live_of k2)), after_10]
    simp only [before_9 m c t h4]
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
    iapply (body_context c Set.univ (grid0.coords t) k1 k2 _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H10]; · iexists _; iexact H10
    iintro ⟨H0, H1, H2, H3, H4, H5, H6, H7, H8, H10⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    iexact H10

theorem defs₀_row (t : Fin cfg0.N) :
    defs₀ (F := F) .tc cfg0.body (cfg0.bodyArgs t (cfg0.slots t)) = bodyAt0 t := by
  unfold defs₀; rw [Defs.onTc_tc]

/-- The body obligation of the pipeline. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

set_option backward.isDefEq.respectTransparency.types false in
set_option maxHeartbeats 800000 in
/-- Every execution ends, with the pipeline's arrays at the stated contents and every counter at zero. -/
theorem run_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The same without the counters. -/
theorem run : θ_run defs (onTc (τ := τ) (main (F := F))) (s₀ m ρ) (Pipeline.FramePost cfgs (dats m) 0 (V m)) :=
  (θ_run defs _ _).mono (fun _ h => h.1) (run_quiescent m ρ)

/-- The arguments end unchanged and every counter ends at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8))
      ∧ r.2.sem = fun _ => 0) :=
  θ_run_and (frame_of m ρ (dats m) (A_eq m) (run m ρ)) ((θ_run defs _ _).mono (fun _ h => h.2) (run_quiescent m ρ))

end Cert.FfnIdeal.Body

end
-- ==== Proof.FfnFinal.lean ====
/- The experts' two result arrays, of the latent rows and of the context rows, are the reference's two results. -/
module

public import proofs.«01_k».proof.Proof.Words
public import proofs.«01_k».proof.Proof.FfnIdealBody
public import proofs.«01_k».proof.Proof.Gen.FfnReferenceIdeal.Read
public import Idealize.ShloMosaic.Lib.BitcastConvert
public import Idealize.ShloMosaic.Lib.Pipeline.ValueKit

@[expose] public section

set_option maxRecDepth 16384

noncomputable section

namespace Cert.FfnIdeal.Final

open Cert.FfnIdeal Cert.FfnIdeal.Gen Cert.FfnIdeal.Body Idealize.ShloMosaic Idealize.ShloMosaic.TcCoe Idealize.SL.Sem
open Cert.FfnReferenceIdeal.Read
open Idealize.ShloMosaic.Pipeline (Dat)

/-- A row times a column: the row's first 1024 numbers are its words' low halves, its last 1024 their high halves. -/
def along (w : Fin 1024 → BitVec 32) (a : Fin 2048 → EReal) : EReal :=
  (∑ k : Fin 1024, Ideal.ofBits .bf16 ((w k).extractLsb' 0 16) * a ⟨k.val, by omega⟩)
    + ∑ k : Fin 1024, Ideal.ofBits .bf16 ((w k).extractLsb' 16 16) * a ⟨1024 + k.val, by omega⟩

/-- One hidden entry of an expert: the gate's swish times the other projection. -/
def hidden (w : Fin 1024 → BitVec 32) (a b : Fin 2048 → EReal) : EReal :=
  along w a * Ideal.div 1 (1 + Ideal.exp (-(along w a))) * along w b

/-- What the kernel stores of a latent row, entry by entry. -/
theorem latent_entry (x0 : Vec Ideal S1x1x512x1024 .i32) (x1 : Vec Ideal S1x1x512x1 .f32) (x2 : Vec Ideal S1x1x2048 .f32)
    (x6 x7 : Vec Ideal S1x1x2048x1024 .bf16) (x8 : Vec Ideal S1x1x1024x2048 .bf16) (r : Fin 512) (d : Fin 2048) :
    k0_pay1 (F := Ideal) (k0_pay3 x0 x1 x2 x6 x7 x8) (ix4 0 0 r d)
      = (∑ j : Fin 1024, hidden (fun k => x0 (ix4 0 0 r k)) (fun k => x6 (ix4 0 0 k j)) (fun k => x7 (ix4 0 0 k j)) * x8 (ix4 0 0 j d))
        * x1 (ix4 0 0 r 0) * x2 (ix3 0 0 d) := by
  pointwise [k0_pay1, k0_pay3]
  simp only [Cert.Words.shifted, Cert.Words.masked]
  rfl

/-- What the kernel stores of a context row, entry by entry. -/
theorem context_entry (x3 : Vec Ideal S4x1x32x1024 .i32) (x4 : Vec Ideal S4x1x32x1 .f32) (x5 : Vec Ideal S1x2048 .f32)
    (x6 x7 : Vec Ideal S1x1x2048x1024 .bf16) (x8 : Vec Ideal S1x1x1024x2048 .bf16) (b : Fin 4) (r : Fin 32) (d : Fin 2048) :
    k0_pay2 (F := Ideal) (k0_pay4 x3 x4 x5 x6 x7 x8) (ix4 b 0 r d)
      = (∑ j : Fin 1024, hidden (fun k => x3 (ix4 b 0 r k)) (fun k => x6 (ix4 0 0 k j)) (fun k => x7 (ix4 0 0 k j)) * x8 (ix4 0 0 j d))
        * x4 (ix4 b 0 r 0) * x5 (ix2 0 d) := by
  pointwise [k0_pay2, k0_pay4]
  simp only [Cert.Words.shifted, Cert.Words.masked]
  rfl

/-- The word a bf16 of the latent rows lies in. -/
theorem word_latent (b : Fin 4) (e : Fin 16) (r : Fin 512) (k : Fin 1024) (p : Fin 2) :
    Cert.FfnReferenceIdeal.Gen.splits_S4x16x512x1024_w32_S4x16x512x1024x2_w16.drop (ix5 b e r k p) = ix4 b e r k := by
  funext i
  fin_cases i <;> rfl

/-- The word a bf16 of the context rows lies in. -/
theorem word_context (b : Fin 4) (e : Fin 16) (r : Fin 32) (k : Fin 1024) (p : Fin 2) :
    Cert.FfnReferenceIdeal.Gen.splits_S4x16x32x1024_w32_S4x16x32x1024x2_w16.drop (ix5 b e r k p) = ix4 b e r k := by
  funext i
  fin_cases i <;> rfl

/-- The reference's gate projection of a latent row. -/
theorem ref_gate_latent (x0 x6) (b : Fin 4) (e : Fin 16) (r : Fin 512) (j : Fin 1024) :
    val_main_v11 (F := Ideal) x0 x6 (ix4 b e r j) = along (fun k => x0 (ix4 b e r k)) (fun k => x6 (ix4 0 e k j)) := by
  pointwise [val_main_v11, val_main_v10, val_main_v9, val_main_v8, val_main_v6, val_main_v5, val_main_v4, val_main_v3,
    val_main_v2, val_main_v1, val_main_v0]
  simp only [word_latent, along]
  exact congrArg₂ (· + ·) (Finset.sum_congr rfl fun k _ => mul_comm _ _) (Finset.sum_congr rfl fun k _ => mul_comm _ _)

/-- The reference's other projection of a latent row. -/
theorem ref_up_latent (x0 x7) (b : Fin 4) (e : Fin 16) (r : Fin 512) (j : Fin 1024) :
    val_main_v15 (F := Ideal) x0 x7 (ix4 b e r j) = along (fun k => x0 (ix4 b e r k)) (fun k => x7 (ix4 0 e k j)) :=
  ref_gate_latent x0 x7 b e r j

/-- The reference's gate projection of a context row. -/
theorem ref_gate_context (x3 x6) (b : Fin 4) (e : Fin 16) (r : Fin 32) (j : Fin 1024) :
    val_main_v37 (F := Ideal) x3 x6 (ix4 b e r j) = along (fun k => x3 (ix4 b e r k)) (fun k => x6 (ix4 0 e k j)) := by
  pointwise [val_main_v37, val_main_v36, val_main_v35, val_main_v34, val_main_v32, val_main_v31, val_main_v30, val_main_v29,
    val_main_v28, val_main_v27, val_main_v26]
  simp only [word_context, along]
  exact congrArg₂ (· + ·) (Finset.sum_congr rfl fun k _ => mul_comm _ _) (Finset.sum_congr rfl fun k _ => mul_comm _ _)

/-- The reference's other projection of a context row. -/
theorem ref_up_context (x3 x7) (b : Fin 4) (e : Fin 16) (r : Fin 32) (j : Fin 1024) :
    val_main_v41 (F := Ideal) x3 x7 (ix4 b e r j) = along (fun k => x3 (ix4 b e r k)) (fun k => x7 (ix4 0 e k j)) :=
  ref_gate_context x3 x7 b e r j

/-- The reference's hidden entry of a latent row. -/
theorem ref_hidden_latent (x0 x6 x7) (b : Fin 4) (e : Fin 16) (r : Fin 512) (j : Fin 1024) :
    val_main_v17 (F := Ideal) x0 x6 x7 (ix4 b e r j)
      = hidden (fun k => x0 (ix4 b e r k)) (fun k => x6 (ix4 0 e k j)) (fun k => x7 (ix4 0 e k j)) := by
  pointwise [val_main_v17, val_main_v16, val_main_call0_v5, val_main_call0_v4, val_main_call0_v3, val_main_call0_v2,
    val_main_call0_v1, val_main_call0_v0, val_main_call0_cst, val_main_call0_cst_0]
  rw [ref_gate_latent, ref_up_latent]
  rfl

/-- The reference's hidden entry of a context row. -/
theorem ref_hidden_context (x3 x6 x7) (b : Fin 4) (e : Fin 16) (r : Fin 32) (j : Fin 1024) :
    val_main_v43 (F := Ideal) x3 x6 x7 (ix4 b e r j)
      = hidden (fun k => x3 (ix4 b e r k)) (fun k => x6 (ix4 0 e k j)) (fun k => x7 (ix4 0 e k j)) := by
  pointwise [val_main_v43, val_main_v42, val_main_call1_v5, val_main_call1_v4, val_main_call1_v3, val_main_call1_v2,
    val_main_call1_v1, val_main_call1_v0, val_main_call1_cst, val_main_call1_cst_0]
  rw [ref_gate_context, ref_up_context]
  rfl

/-- The reference's latent result, entry by entry. -/
theorem ref_latent (x0 x1 x2 x6 x7 x8) (b : Fin 4) (e : Fin 16) (r : Fin 512) (d : Fin 2048) :
    val_main_v25 (F := Ideal) x0 x1 x2 x6 x7 x8 (ix4 b e r d)
      = (∑ j : Fin 1024, hidden (fun k => x0 (ix4 b e r k)) (fun k => x6 (ix4 0 e k j)) (fun k => x7 (ix4 0 e k j)) * x8 (ix4 0 e j d))
        * x1 (ix4 b e r 0) * x2 (ix3 b 0 d) := by
  pointwise [val_main_v25, val_main_v24, val_main_v23, val_main_v22, val_main_v21, val_main_v20, val_main_v19, val_main_v18,
    val_main_v7]
  rw [mul_comm]
  simp only [ref_hidden_latent, mul_comm (x8 _)]

/-- The reference's context result, entry by entry. -/
theorem ref_context (x3 x4 x5 x6 x7 x8) (b : Fin 4) (e : Fin 16) (r : Fin 32) (d : Fin 2048) :
    val_main_v52 (F := Ideal) x3 x4 x5 x6 x7 x8 (ix4 b e r d)
      = (∑ j : Fin 1024, hidden (fun k => x3 (ix4 b e r k)) (fun k => x6 (ix4 0 e k j)) (fun k => x7 (ix4 0 e k j)) * x8 (ix4 0 e j d))
        * x4 (ix4 b e r 0) * x5 (ix2 0 d) := by
  pointwise [val_main_v52, val_main_v51, val_main_v50, val_main_v49, val_main_v48, val_main_v47, val_main_v46, val_main_v45,
    val_main_v44, val_main_v33]
  rw [mul_comm]
  simp only [ref_hidden_context, mul_comm (x8 _)]

/-- The latent result at an index of the array. -/
theorem ref_latent_at (x0 x1 x2 x6 x7 x8) (i : S4x16x512x2048.Idx) :
    val_main_v25 (F := Ideal) x0 x1 x2 x6 x7 x8 i
      = (∑ j : Fin 1024, hidden (fun k => x0 (ix4 (i 0) (i 1) (i 2) k)) (fun k => x6 (ix4 0 (i 1) k j)) (fun k => x7 (ix4 0 (i 1) k j))
          * x8 (ix4 0 (i 1) j (i 3))) * x1 (ix4 (i 0) (i 1) (i 2) 0) * x2 (ix3 (i 0) 0 (i 3)) := by
  idx_vars i
  exact ref_latent x0 x1 x2 x6 x7 x8 i0 i1 i2 i3

/-- The context result at an index of the array. -/
theorem ref_context_at (x3 x4 x5 x6 x7 x8) (i : S4x16x32x2048.Idx) :
    val_main_v52 (F := Ideal) x3 x4 x5 x6 x7 x8 i
      = (∑ j : Fin 1024, hidden (fun k => x3 (ix4 (i 0) (i 1) (i 2) k)) (fun k => x6 (ix4 0 (i 1) k j)) (fun k => x7 (ix4 0 (i 1) k j))
          * x8 (ix4 0 (i 1) j (i 3))) * x4 (ix4 (i 0) (i 1) (i 2) 0) * x5 (ix2 0 (i 3)) := by
  idx_vars i
  exact ref_context x3 x4 x5 x6 x7 x8 i0 i1 i2 i3

variable (m : (ℓ : Loc nD τ sig) → Buf (Elt Ideal) ℓ)

/-- The gate weights reach the call as they are. -/
theorem gate_at (c : Dev nD) (i : S4x16x2048x1024.Idx) : V m c main_v0 i = m ((c : Thread nD τ).loc main_arg6) i := by
  simp only [V, hostOps0]; entry_read; pointwise

/-- So do the other projection's. -/
theorem up_at (c : Dev nD) (i : S4x16x2048x1024.Idx) : V m c main_v1 i = m ((c : Thread nD τ).loc main_arg7) i := by
  simp only [V, hostOps0]; entry_read; pointwise

/-- And the second layer's. -/
theorem down_at (c : Dev nD) (i : S4x16x1024x2048.Idx) : V m c main_v2 i = m ((c : Thread nD τ).loc main_arg8) i := by
  simp only [V, hostOps0]; entry_read; pointwise

/-- Which block of each array a point works on: the expert's, and for the latent rows the step's batch. -/
theorem idx : ∀ t : Fin cfg0.N,
    win0_0.index t = ![min (grid0.coords t 1).val 3, (grid0.coords t 0).val, 0, 0]
    ∧ win0_1.index t = ![min (grid0.coords t 1).val 3, (grid0.coords t 0).val, 0, 0]
    ∧ win0_2.index t = ![min (grid0.coords t 1).val 3, 0, 0]
    ∧ win0_3.index t = ![0, (grid0.coords t 0).val, 0, 0] ∧ win0_4.index t = ![0, (grid0.coords t 0).val, 0, 0]
    ∧ win0_5.index t = ![0, 0]
    ∧ win0_6.index t = ![0, (grid0.coords t 0).val, 0, 0] ∧ win0_7.index t = ![0, (grid0.coords t 0).val, 0, 0]
    ∧ win0_8.index t = ![0, (grid0.coords t 0).val, 0, 0]
    ∧ win0_9.index t = ![min (grid0.coords t 1).val 3, (grid0.coords t 0).val, 0, 0]
    ∧ win0_10.index t = ![0, (grid0.coords t 0).val, 0, 0] :=
  (by decide +kernel : ∀ t : Fin grid0.N, _)

/-- The latent result array is the reference's. -/
theorem latent_final (c : Dev nD) :
    (dats m 0 c).arrAt 9 cfg0.N = val_main_v25 (F := Ideal) (m ((c : Thread nD τ).loc main_arg0)) (m ((c : Thread nD τ).loc main_arg1))
      (m ((c : Thread nD τ).loc main_arg2)) (m ((c : Thread nD τ).loc main_arg6)) (m ((c : Thread nD τ).loc main_arg7)) (m ((c : Thread nD τ).loc main_arg8)) := by
  refine (dats m 0 c).arrAt_eq_of_covers 9 _ (by decide +kernel) fun t _ y => ?_
  blk_simp
  rw [after_9]; unfold latent; frame_out
  idx_vars y
  obtain rfl : y0 = 0 := Subsingleton.elim _ _
  obtain rfl : y1 = 0 := Subsingleton.elim _ _
  rw [latent_entry, ref_latent_at]
  generalize hI : ((View.whole main_v3_0).slice (win0_9.rect t)).emb (ix4 0 0 y2 y3) = I
  have hw : ∀ k : Fin 1024, iblk m c 0 t (ix4 0 0 y2 k) = m ((c : Thread nD τ).loc main_arg0) (ix4 (I 0) (I 1) (I 2) k) := by
    intro k; subst hI
    blk_point [iblk, idx t, V_main_arg0]
  have hg : iblk m c 1 t (ix4 0 0 y2 0) = m ((c : Thread nD τ).loc main_arg1) (ix4 (I 0) (I 1) (I 2) 0) := by
    subst hI
    blk_point [iblk, idx t, V_main_arg1]
  have hf : iblk m c 2 t (ix3 0 0 y3) = m ((c : Thread nD τ).loc main_arg2) (ix3 (I 0) 0 (I 3)) := by
    subst hI
    blk_point [iblk, idx t, V_main_arg2]
  have ha : ∀ (k : Fin 2048) (j : Fin 1024), iblk m c 6 t (ix4 0 0 k j) = m ((c : Thread nD τ).loc main_arg6) (ix4 0 (I 1) k j) := by
    intro k j; subst hI
    blk_point [iblk, idx t, gate_at]
  have hb : ∀ (k : Fin 2048) (j : Fin 1024), iblk m c 7 t (ix4 0 0 k j) = m ((c : Thread nD τ).loc main_arg7) (ix4 0 (I 1) k j) := by
    intro k j; subst hI
    blk_point [iblk, idx t, up_at]
  have hd : ∀ j : Fin 1024, iblk m c 8 t (ix4 0 0 j y3) = m ((c : Thread nD τ).loc main_arg8) (ix4 0 (I 1) j (I 3)) := by
    intro j; subst hI
    blk_point [iblk, idx t, down_at]
  simp only [hw, hg, hf, ha, hb, hd]

/-- The context result array is the reference's. -/
theorem context_final (c : Dev nD) :
    (dats m 0 c).arrAt 10 cfg0.N = val_main_v52 (F := Ideal) (m ((c : Thread nD τ).loc main_arg3)) (m ((c : Thread nD τ).loc main_arg4))
      (m ((c : Thread nD τ).loc main_arg5)) (m ((c : Thread nD τ).loc main_arg6)) (m ((c : Thread nD τ).loc main_arg7)) (m ((c : Thread nD τ).loc main_arg8)) := by
  refine (dats m 0 c).arrAt_eq_of_covers 10 _ (by decide +kernel) fun t _ y => ?_
  blk_simp
  rw [after_10]; unfold context; frame_out
  idx_vars y
  obtain rfl : y1 = 0 := Subsingleton.elim _ _
  rw [context_entry, ref_context_at]
  generalize hI : ((View.whole main_v3_1).slice (win0_10.rect t)).emb (ix4 y0 0 y2 y3) = I
  have hw : ∀ k : Fin 1024, iblk m c 3 t (ix4 y0 0 y2 k) = m ((c : Thread nD τ).loc main_arg3) (ix4 (I 0) (I 1) (I 2) k) := by
    intro k; subst hI
    blk_point [iblk, idx t, V_main_arg3]
  have hg : iblk m c 4 t (ix4 y0 0 y2 0) = m ((c : Thread nD τ).loc main_arg4) (ix4 (I 0) (I 1) (I 2) 0) := by
    subst hI
    blk_point [iblk, idx t, V_main_arg4]
  have hf : iblk m c 5 t (ix2 0 y3) = m ((c : Thread nD τ).loc main_arg5) (ix2 0 (I 3)) := by
    subst hI
    blk_point [iblk, idx t, V_main_arg5]
  have ha : ∀ (k : Fin 2048) (j : Fin 1024), iblk m c 6 t (ix4 0 0 k j) = m ((c : Thread nD τ).loc main_arg6) (ix4 0 (I 1) k j) := by
    intro k j; subst hI
    blk_point [iblk, idx t, gate_at]
  have hb : ∀ (k : Fin 2048) (j : Fin 1024), iblk m c 7 t (ix4 0 0 k j) = m ((c : Thread nD τ).loc main_arg7) (ix4 0 (I 1) k j) := by
    intro k j; subst hI
    blk_point [iblk, idx t, up_at]
  have hd : ∀ j : Fin 1024, iblk m c 8 t (ix4 0 0 j y3) = m ((c : Thread nD τ).loc main_arg8) (ix4 0 (I 1) j (I 3)) := by
    intro j; subst hI
    blk_point [iblk, idx t, down_at]
  simp only [hw, hg, hf, ha, hb, hd]

/-- Every execution ends with the reference's two results and the arguments unchanged. -/
theorem run_value (ρ : Dev nD → PrngReg) : θ_run defs (onTc (τ := τ) (main (F := Ideal))) ⟨m, fun _ => 0, ρ⟩ (fun r => ∀ c : Dev nD,
      r.2.mem ((c.tc : Thread nD τ).loc main_v3_0) = val_main_v25 (F := Ideal) (m ((c : Thread nD τ).loc main_arg0)) (m ((c : Thread nD τ).loc main_arg1)) (m ((c : Thread nD τ).loc main_arg2))
        (m ((c : Thread nD τ).loc main_arg6)) (m ((c : Thread nD τ).loc main_arg7)) (m ((c : Thread nD τ).loc main_arg8))
      ∧ r.2.mem ((c.tc : Thread nD τ).loc main_v3_1) = val_main_v52 (F := Ideal) (m ((c : Thread nD τ).loc main_arg3)) (m ((c : Thread nD τ).loc main_arg4)) (m ((c : Thread nD τ).loc main_arg5))
        (m ((c : Thread nD τ).loc main_arg6)) (m ((c : Thread nD τ).loc main_arg7)) (m ((c : Thread nD τ).loc main_arg8))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun _ h c => ⟨((h.2 c).1 9).trans (latent_final m c), ((h.2 c).1 10).trans (context_final m c), h.1.1 c⟩)
    (θ_run_and (frame m ρ) (run m ρ))

end Cert.FfnIdeal.Final

end
-- ==== Proof.FfnLast.lean ====
/- The experts' result array in the last layer, of the latent rows alone, is the reference's result. -/
module

public import proofs.«01_k».proof.Proof.FfnFinal
public import proofs.«01_k».proof.Proof.Gen.FfnLastIdeal.Value
public import proofs.«01_k».proof.Proof.Gen.FfnLastReferenceIdeal.Read
public import Idealize.ShloMosaic.Lib.Pipeline.ValueKit

@[expose] public section

set_option maxRecDepth 16384

noncomputable section

namespace Cert.FfnLastIdeal.Final

open Cert.FfnLastIdeal Cert.FfnLastIdeal.Gen Idealize.ShloMosaic Idealize.ShloMosaic.TcCoe Idealize.SL.Sem
open Cert.FfnLastReferenceIdeal.Read
open Idealize.ShloMosaic.Pipeline (Dat)
open Cert.FfnIdeal.Final (along hidden)

/-- What the kernel stores of a row, entry by entry. -/
theorem entry (x0 : Vec Ideal S1x1x512x1024 .i32) (x1 : Vec Ideal S1x1x512x1 .f32) (x2 : Vec Ideal S1x1x2048 .f32)
    (x3 x4 : Vec Ideal S1x1x2048x1024 .bf16) (x5 : Vec Ideal S1x1x1024x2048 .bf16) (r : Fin 512) (d : Fin 2048) :
    k0_pay1 (F := Ideal) (k0_pay2 x0 x1 x2 x3 x4 x5) (ix4 0 0 r d)
      = (∑ j : Fin 1024, hidden (fun k => x0 (ix4 0 0 r k)) (fun k => x3 (ix4 0 0 k j)) (fun k => x4 (ix4 0 0 k j)) * x5 (ix4 0 0 j d))
        * x1 (ix4 0 0 r 0) * x2 (ix3 0 0 d) :=
  Cert.FfnIdeal.Final.latent_entry x0 x1 x2 x3 x4 x5 r d

/-- The reference's gate projection. -/
theorem ref_gate (x0 x3) (b : Fin 4) (e : Fin 16) (r : Fin 512) (j : Fin 1024) :
    val_main_v11 (F := Ideal) x0 x3 (ix4 b e r j) = along (fun k => x0 (ix4 b e r k)) (fun k => x3 (ix4 3 e k j)) := by
  pointwise [val_main_v11, val_main_v10, val_main_v9, val_main_v8, val_main_v6, val_main_v5, val_main_v4, val_main_v3, val_main_v2, val_main_v1, val_main_v0]
  simp only [Cert.FfnIdeal.Final.word_latent, along]
  exact congrArg₂ (· + ·) (Finset.sum_congr rfl fun k _ => mul_comm _ _) (Finset.sum_congr rfl fun k _ => mul_comm _ _)

/-- The reference's other projection. -/
theorem ref_up (x0 x4) (b : Fin 4) (e : Fin 16) (r : Fin 512) (j : Fin 1024) :
    val_main_v15 (F := Ideal) x0 x4 (ix4 b e r j) = along (fun k => x0 (ix4 b e r k)) (fun k => x4 (ix4 3 e k j)) :=
  ref_gate x0 x4 b e r j

/-- The reference's hidden entry. -/
theorem ref_hidden (x0 x3 x4) (b : Fin 4) (e : Fin 16) (r : Fin 512) (j : Fin 1024) :
    val_main_v17 (F := Ideal) x0 x3 x4 (ix4 b e r j)
      = hidden (fun k => x0 (ix4 b e r k)) (fun k => x3 (ix4 3 e k j)) (fun k => x4 (ix4 3 e k j)) := by
  pointwise [val_main_v17, val_main_v16, val_main_call0_v5, val_main_call0_v4, val_main_call0_v3, val_main_call0_v2,
    val_main_call0_v1, val_main_call0_v0, val_main_call0_cst, val_main_call0_cst_0]
  rw [ref_gate, ref_up]
  rfl

/-- The reference's result, entry by entry. -/
theorem ref (x0 x1 x2 x3 x4 x5) (i : S4x16x512x2048.Idx) :
    val_main_v25 (F := Ideal) x0 x1 x2 x3 x4 x5 i
      = (∑ j : Fin 1024, hidden (fun k => x0 (ix4 (i 0) (i 1) (i 2) k)) (fun k => x3 (ix4 3 (i 1) k j)) (fun k => x4 (ix4 3 (i 1) k j))
          * x5 (ix4 3 (i 1) j (i 3))) * x1 (ix4 (i 0) (i 1) (i 2) 0) * x2 (ix3 (i 0) 0 (i 3)) := by
  idx_vars i
  pointwise [val_main_v25, val_main_v24, val_main_v23, val_main_v22, val_main_v21, val_main_v20, val_main_v19, val_main_v18, val_main_v7]
  rw [mul_comm]
  simp only [ref_hidden, mul_comm (x5 _)]

variable (m : (ℓ : Loc nD τ sig) → Buf (Elt Ideal) ℓ)

/-- The gate weights reach the call as they are. -/
theorem gate_at (c : Dev nD) (i : S4x16x2048x1024.Idx) : V m c main_v0 i = m ((c : Thread nD τ).loc main_arg3) i := by
  simp only [V, hostOps0]; entry_read; pointwise

/-- So do the other projection's. -/
theorem up_at (c : Dev nD) (i : S4x16x2048x1024.Idx) : V m c main_v1 i = m ((c : Thread nD τ).loc main_arg4) i := by
  simp only [V, hostOps0]; entry_read; pointwise

/-- And the second layer's. -/
theorem down_at (c : Dev nD) (i : S4x16x1024x2048.Idx) : V m c main_v2 i = m ((c : Thread nD τ).loc main_arg5) i := by
  simp only [V, hostOps0]; entry_read; pointwise

/-- Which block of each array a point works on: the expert's, and for the rows the step's batch. -/
theorem idx : ∀ t : Fin cfg0.N,
    win0_0.index t = ![min (grid0.coords t 1).val 3, (grid0.coords t 0).val, 0, 0]
    ∧ win0_1.index t = ![min (grid0.coords t 1).val 3, (grid0.coords t 0).val, 0, 0]
    ∧ win0_2.index t = ![min (grid0.coords t 1).val 3, 0, 0]
    ∧ win0_3.index t = ![3, (grid0.coords t 0).val, 0, 0] ∧ win0_4.index t = ![3, (grid0.coords t 0).val, 0, 0] ∧ win0_5.index t = ![3, (grid0.coords t 0).val, 0, 0]
    ∧ win0_6.index t = ![min (grid0.coords t 1).val 3, (grid0.coords t 0).val, 0, 0] :=
  (by decide +kernel : ∀ t : Fin grid0.N, _)

/-- The result array is the reference's. -/
theorem final (c : Dev nD) :
    (dats m 0 c).arrAt 6 cfg0.N = val_main_v25 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (dats m 0 c).arrAt_eq_of_covers 6 _ (by decide +kernel) fun t _ y => ?_
  blk_simp
  rw [after0_6]; unfold outsAt0; frame_out
  idx_vars y
  obtain rfl : y0 = 0 := Subsingleton.elim _ _
  obtain rfl : y1 = 0 := Subsingleton.elim _ _
  rw [entry, ref]
  generalize hI : ((View.whole main_v3).slice (win0_6.rect t)).emb (ix4 0 0 y2 y3) = I
  have hw : ∀ k : Fin 1024, iblk m c 0 t (ix4 0 0 y2 k) = m ((c : Thread nD τ).loc main_arg0) (ix4 (I 0) (I 1) (I 2) k) := by
    intro k; subst hI
    blk_point [iblk, idx t, V_main_arg0]
  have hg : iblk m c 1 t (ix4 0 0 y2 0) = m ((c : Thread nD τ).loc main_arg1) (ix4 (I 0) (I 1) (I 2) 0) := by
    subst hI
    blk_point [iblk, idx t, V_main_arg1]
  have hf : iblk m c 2 t (ix3 0 0 y3) = m ((c : Thread nD τ).loc main_arg2) (ix3 (I 0) 0 (I 3)) := by
    subst hI
    blk_point [iblk, idx t, V_main_arg2]
  have ha : ∀ (k : Fin 2048) (j : Fin 1024), iblk m c 3 t (ix4 0 0 k j) = m ((c : Thread nD τ).loc main_arg3) (ix4 3 (I 1) k j) := by
    intro k j; subst hI
    blk_point [iblk, idx t, gate_at]
  have hb : ∀ (k : Fin 2048) (j : Fin 1024), iblk m c 4 t (ix4 0 0 k j) = m ((c : Thread nD τ).loc main_arg4) (ix4 3 (I 1) k j) := by
    intro k j; subst hI
    blk_point [iblk, idx t, up_at]
  have hd : ∀ j : Fin 1024, iblk m c 5 t (ix4 0 0 j y3) = m ((c : Thread nD τ).loc main_arg5) (ix4 3 (I 1) j (I 3)) := by
    intro j; subst hI
    blk_point [iblk, idx t, down_at]
  simp only [hw, hg, hf, ha, hb, hd]

end Cert.FfnLastIdeal.Final

end
-- ==== Proof.DownQ.lean ====
/- The latent of the queries: the kernel's result array is the reference's result. -/
module

public import proofs.«01_k».proof.Proof.Gen.DownQIdeal.Value
public import proofs.«01_k».proof.Proof.Gen.DownQReferenceIdeal.Read
public import Idealize.ShloMosaic.Lib.Pipeline.ValueKit

@[expose] public section

set_option maxRecDepth 16384

noncomputable section

namespace Cert.DownQIdeal.Final

open Cert.DownQIdeal Cert.DownQIdeal.Gen Idealize.ShloMosaic Idealize.ShloMosaic.TcCoe Idealize.SL.Sem
open Cert.DownQReferenceIdeal.Read
open Idealize.ShloMosaic.Pipeline (Dat)

variable (m : (ℓ : Loc nD τ sig) → Buf (Elt Ideal) ℓ)

/-- The rows reach the call as they are. -/
theorem rows_at (c : Dev nD) (i : S4x4096x2048.Idx) : V m c main_v0 i = m ((c : Thread nD τ).loc main_arg0) i := by
  simp only [V, hostOps0]; entry_read; pointwise

/-- So do the weights. -/
theorem weights_at (c : Dev nD) (i : S2048x768.Idx) : V m c main_v1 i = m ((c : Thread nD τ).loc main_arg1) i := by
  simp only [V, hostOps0]; entry_read; pointwise

/-- The gains reach the call as a row. -/
theorem gains_at (c : Dev nD) (i : S1x768.Idx) : V m c main_v2 i = m ((c : Thread nD τ).loc main_arg2) (ix1 (i 1)) := by
  simp only [V, hostOps0]; entry_read; idx_vars i; pointwise

/-- The blocks a grid point reads and writes. -/
theorem idx : ∀ t : Fin cfg0.N,
    win0_0.index t = ![(grid0.coords t 0).val, (grid0.coords t 1).val, 0] ∧ win0_1.index t = ![0, (grid0.coords t 2).val]
    ∧ win0_2.index t = ![0, 0]
    ∧ win0_3.index t = ![(grid0.coords t 0).val, (grid0.coords t 1).val, (grid0.coords t 2).val] :=
  (by decide +kernel : ∀ t : Fin grid0.N, _)

/-- One entry of a normalised row: the row's product, over the root of its mean square, times the gain. -/
def normed (a : Fin 768 → EReal) (g : Fin 768 → EReal) (d : Fin 768) : EReal :=
  a d * Ideal.rsqrt (Ideal.div (∑ k : Fin 768, a k * a k) (Ideal.ofBits .f32 0x44400000#32) + Ideal.ofBits .f32 0x358637BD#32) * g d

/-- What the kernel stores, entry by entry. -/
theorem pay (x0 : FVec Ideal S1x1024x2048 .bf16) (x1 : FVec Ideal S2048x768 .bf16) (x2 : FVec Ideal S1x768 .f32) (r : Fin 1024) (d : Fin 768) :
    k0_pay1 (F := Ideal) x0 x1 x2 (ix3 0 r d)
      = normed (fun j => ∑ k : Fin 2048, x0 (ix3 0 r k) * x1 (ix2 k j)) (fun j => x2 (ix2 0 j)) d := by
  pointwise [k0_pay1]
  rfl

/-- The reference's result, entry by entry. -/
theorem ref (x0 : FVec Ideal S4x4096x2048 .f32) (x1 : FVec Ideal S2048x768 .f32) (x2 : FVec Ideal S768 .f32) (i : S4x4096x768.Idx) :
    val_main_v14 (F := Ideal) x0 x1 x2 i
      = normed (fun j => ∑ k : Fin 2048, x0 (ix3 (i 0) (i 1) k) * x1 (ix2 k j)) (fun j => x2 (ix1 j)) (i 2) := by
  idx_vars i
  pointwise [val_main_v14, val_main_v13, val_main_v12, val_main_v11, val_main_v10, val_main_v9, val_main_v8, val_main_v7, val_main_v6, val_main_v5,
    val_main_v4, val_main_v3, val_main_v2, val_main_v1, val_main_v0, val_main_cst, val_main_cst_0, val_main_cst_1]
  rfl

/-- The result array is the reference's. -/
theorem final (c : Dev nD) :
    (dats m 0 c).arrAt 3 cfg0.N = val_main_v14 (F := Ideal) (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp
  rw [after0_3]; frame_out
  idx_vars y
  obtain rfl : y0 = 0 := Subsingleton.elim _ _
  rw [pay, ref]
  generalize hI : ((View.whole main_v3).slice (win0_3.rect t)).emb (ix3 0 y1 y2) = I
  have hr : ∀ k : Fin 2048, iblk m c 0 t (ix3 0 y1 k) = m ((c : Thread nD τ).loc main_arg0) (ix3 (I 0) (I 1) k) := by
    intro k; subst hI
    blk_point [iblk, idx t, rows_at]
  have hw : ∀ (k : Fin 2048) (j : Fin 768), iblk m c 1 t (ix2 k j) = m ((c : Thread nD τ).loc main_arg1) (ix2 k j) := by
    intro k j
    blk_point [iblk, idx t, weights_at]
  have hg : ∀ j : Fin 768, iblk m c 2 t (ix2 0 j) = m ((c : Thread nD τ).loc main_arg2) (ix1 j) := by
    intro j
    blk_point [iblk, idx t, gains_at]
  have hl : I 2 = y2 := by
    have place : I = ix3 (I 0) (I 1) y2 := by
      subst hI
      blk_ext [idx t]
    exact congrFun place 2
  simp only [hr, hw, hg, hl]

end Cert.DownQIdeal.Final

end
-- ==== Proof.DownKv.lean ====
/- The latent of the keys and values, with the rotary part: the kernel's result array is the reference's result. -/
module

public import proofs.«01_k».proof.Proof.Gen.DownKvIdeal.Value
public import proofs.«01_k».proof.Proof.Gen.DownKvReferenceIdeal.Read
public import Idealize.ShloMosaic.Lib.Pipeline.ValueKit

@[expose] public section

set_option maxRecDepth 16384

noncomputable section

namespace Cert.DownKvIdeal.Final

open Cert.DownKvIdeal Cert.DownKvIdeal.Gen Idealize.ShloMosaic Idealize.ShloMosaic.TcCoe Idealize.SL.Sem
open Cert.DownKvReferenceIdeal.Read
open Idealize.ShloMosaic.Pipeline (Dat)

variable (m : (ℓ : Loc nD τ sig) → Buf (Elt Ideal) ℓ)

/-- The rows as launched. -/
abbrev rows (c : Dev nD) : FVec Ideal S4x4096x2048 .f32 := m ((c : Thread nD τ).loc main_arg0)

/-- The integer zero as a float. -/
theorem int_zero : FloatOps.sitofp (F := Ideal) .f32 (0#32) = (0 : EReal) := by
  simp [FloatOps.sitofp]

/-- The rows reach the call as they are. -/
theorem rows_at (c : Dev nD) (i : S4x4096x2048.Idx) : V m c main_v2 i = m ((c : Thread nD τ).loc main_arg0) i := by
  simp only [V, hostOps0, hostOps0_1, hostOps0_2, List.flatten_cons, List.flatten_nil, List.append_nil, List.cons_append, List.nil_append]
  entry_read; pointwise

/-- A matrix with columns of zeros after its 576. -/
def widened (w : FVec Ideal S2048x576 .f32) (k : Fin 2048) (j : Fin 640) : EReal :=
  if h : j.val < 576 then w (ix2 k ⟨j.val, h⟩) else 0

/-- Within its columns it is the matrix. -/
theorem widened_lt (w : FVec Ideal S2048x576 .f32) (k : Fin 2048) {j : ℕ} (h : j < 576) :
    widened w k ⟨j, by omega⟩ = w (ix2 k ⟨j, h⟩) := dif_pos h

/-- The weights reach the call with 64 columns of zeros after them. -/
theorem weights_at (c : Dev nD) (k : Fin 2048) (j : Fin 640) :
    V m c main_v1 (ix2 k j) = widened (m ((c : Thread nD τ).loc main_arg1)) k j := by
  simp only [V, hostOps0, hostOps0_1, hostOps0_2, List.flatten_cons, List.flatten_nil, List.append_nil, List.cons_append, List.nil_append]
  entry_read
  simp -implicitDefEqProofs only [StableHlo.TRef.toBuf, StableHlo.TRef.ofBuf, cast_cast, cast_eq]
  pointwise
  simp only [k.isLt, true_and, int_zero, widened]

/-- The gains reach the call as a row. -/
theorem gains_at (c : Dev nD) (j : Fin 512) : V m c main_v3 (ix2 0 j) = m ((c : Thread nD τ).loc main_arg2) (ix1 j) := by
  simp only [V, hostOps0, hostOps0_1, hostOps0_2, List.flatten_cons, List.flatten_nil, List.append_nil, List.cons_append, List.nil_append]
  entry_read; pointwise

/-- The blocks a grid point reads and writes. -/
theorem idx : ∀ t : Fin cfg0.N,
    win0_0.index t = ![(grid0.coords t 0).val, (grid0.coords t 1).val, 0] ∧ win0_1.index t = ![0, (grid0.coords t 2).val]
    ∧ win0_2.index t = ![0, 0]
    ∧ win0_3.index t = ![(grid0.coords t 0).val, (grid0.coords t 1).val, (grid0.coords t 2).val] :=
  (by decide +kernel : ∀ t : Fin grid0.N, _)

/-- One entry of a row whose first 512 entries are normalised: there the entry, over the root of the mean square
of the 512, times the gain; after them the entry as it is. -/
def normed (a : Fin 640 → EReal) (g : Fin 512 → EReal) (d : Fin 640) : EReal :=
  if h : d.val < 512 then
    a ⟨d.val, by omega⟩ * Ideal.rsqrt (Ideal.div (∑ k : Fin 512, a ⟨k.val, by omega⟩ * a ⟨k.val, by omega⟩) (Ideal.ofBits .f32 0x44000000#32) + Ideal.ofBits .f32 0x358637BD#32) * g ⟨d.val, h⟩
  else a d

/-- What the kernel stores, entry by entry. -/
theorem pay (x0 : FVec Ideal S1x1024x2048 .bf16) (x1 : FVec Ideal S2048x640 .bf16) (x2 : FVec Ideal S1x512 .f32) (r : Fin 1024) (d : Fin 640) :
    k0_pay1 (F := Ideal) x0 x1 x2 (ix3 0 r d)
      = normed (fun j => ∑ k : Fin 2048, x0 (ix3 0 r k) * x1 (ix2 k j)) (fun j => x2 (ix2 0 j)) d := by
  pointwise [k0_pay1]
  unfold normed
  by_cases h : d.val < 512
  · rw [dif_pos h, dif_pos h]
  · rw [dif_neg h, dif_neg h]
    have e : (⟨512 + (d.val - 512), by omega⟩ : Fin 640) = d := Fin.ext (by simp only; omega)
    exact Finset.sum_congr rfl fun k _ => by rw [e]

/-- The reference's result, entry by entry. -/
theorem ref (x0 : FVec Ideal S4x4096x2048 .f32) (x1 : FVec Ideal S2048x576 .f32) (x2 : FVec Ideal S512 .f32) (i : S4x4096x640.Idx) :
    val_main_v18 (F := Ideal) x0 x1 x2 i
      = normed (fun j => ∑ k : Fin 2048, x0 (ix3 (i 0) (i 1) k) * widened x1 k j) (fun j => x2 (ix1 j)) (i 2) := by
  idx_vars i
  pointwise [val_main_v18, val_main_v17, val_main_v16, val_main_v15, val_main_v14, val_main_v13, val_main_v12, val_main_v11, val_main_v10, val_main_v9, val_main_v8, val_main_v7, val_main_v6, val_main_v5,
    val_main_v4, val_main_v3, val_main_v2, val_main_v1, val_main_v0, val_main_cst, val_main_cst_0, val_main_cst_1, val_main_cst_2]
  unfold normed
  by_cases h : i2.val < 512
  · rw [dif_pos h, dif_pos h]
    simp only [widened_lt x1 _ (show i2.val < 576 by omega), fun (k : Fin 2048) (j : Fin 512) => widened_lt x1 k (show j.val < 576 by omega)]
  · rw [dif_neg h, dif_neg h]
    by_cases h' : i2.val - 512 < 64
    · rw [dif_pos h']
      have e : (⟨512 + (i2.val - 512), by omega⟩ : Fin 576) = ⟨i2.val, by omega⟩ := Fin.ext (by simp only; omega)
      refine Finset.sum_congr rfl fun k _ => ?_
      rw [e, ← widened_lt x1 k (show i2.val < 576 by omega)]
    · rw [dif_neg h']
      refine (Finset.sum_eq_zero fun k _ => ?_).symm
      rw [widened, dif_neg (by omega), mul_zero]

/-- The result array is the reference's. -/
theorem final (c : Dev nD) :
    (dats m 0 c).arrAt 3 cfg0.N = val_main_v18 (F := Ideal) (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp
  rw [after0_3]; frame_out
  idx_vars y
  obtain rfl : y0 = 0 := Subsingleton.elim _ _
  rw [pay, ref]
  generalize hI : ((View.whole main_v4).slice (win0_3.rect t)).emb (ix3 0 y1 y2) = I
  have hr : ∀ k : Fin 2048, iblk m c 0 t (ix3 0 y1 k) = m ((c : Thread nD τ).loc main_arg0) (ix3 (I 0) (I 1) k) := by
    intro k; subst hI
    blk_point [iblk, idx t, rows_at]
  have hw : ∀ (k : Fin 2048) (j : Fin 640), iblk m c 1 t (ix2 k j) = widened (m ((c : Thread nD τ).loc main_arg1)) k j := by
    intro k j
    rw [← weights_at m c k j]
    blk_point [iblk, idx t]
  have hg : ∀ j : Fin 512, iblk m c 2 t (ix2 0 j) = m ((c : Thread nD τ).loc main_arg2) (ix1 j) := by
    intro j
    rw [← gains_at m c j]
    blk_point [iblk, idx t]
  have hl : I 2 = y2 := by
    have place : I = ix3 (I 0) (I 1) y2 := by
      subst hI
      blk_ext [idx t]
    exact congrFun place 2
  simp only [hr, hw, hg, hl]

end Cert.DownKvIdeal.Final

end
-- ==== Proof.UpQRows.lean ====
/- A head of the queries on 256 lanes: normalised, turned by the rotation and scaled, as the kernel computes it and as the reference does. -/
module

public import proofs.«01_k».proof.Proof.Softmax

@[expose] public section

set_option maxRecDepth 16384

noncomputable section

namespace Cert.UpQRows

open Idealize.ShloMosaic Cert.Softmax

/-- The small number under the root. -/
abbrev eps : EReal := Ideal.ofBits .f32 0x358637BD#32

/-- The queries' scale, for exponentials of base two. -/
abbrev scale : EReal := Ideal.ofBits .f32 0x3DD53B95#32

/-- The scale is this quotient. -/
theorem scale_eq : scale = ((13974421 / 134217728 : ℝ) : EReal) := by
  simp [scale, Ideal.ofBits, Ideal.ieee]
  rw [← EReal.coe_mul]
  norm_num

/-- The number of entries of a head, as the reference's program writes it. -/
theorem count_eq : Ideal.ofBits .f32 0x43400000#32 = ((192 : ℝ) : EReal) := by
  simp [Ideal.ofBits, Ideal.ieee]
  rw [← EReal.coe_mul]
  norm_num

/-- The factor of a row, over its two halves of 128 lanes. -/
def factor (a : Fin 256 → EReal) : EReal :=
  Ideal.rsqrt ((∑ k : Fin 128, (a ⟨k.val, by omega⟩ * a ⟨k.val, by omega⟩ + a ⟨128 + k.val, by omega⟩ * a ⟨128 + k.val, by omega⟩))
    * ((1 / 192 : ℝ) : EReal) + eps) * scale

/-- A lane of the row, times its factor and its gain. -/
def entry (a g : Fin 256 → EReal) (l : Fin 256) : EReal := a l * factor a * g l

/-- The upper half turned: the lane sixteen on, with its sign changed, in the first half of every 32, the lane sixteen back in the second. -/
def turn (y c s : Fin 128 → EReal) (j : Fin 128) : EReal :=
  y j * c j + (if j.val % 32 < 16 then 0 - y ⟨(j.val + 128 - 112) % 128, by omega⟩ else y ⟨(j.val + 128 - 16) % 128, by omega⟩) * s j

/-- A lane of a head as the kernel computes it. -/
def lane (a g : Fin 256 → EReal) (c s : Fin 128 → EReal) (l : Fin 256) : EReal :=
  if h : l.val < 128 then entry a g l else turn (fun k => entry a g ⟨128 + k.val, by omega⟩) c s ⟨l.val - 128, by omega⟩

/-- An entry of the head normalised, as in the reference. -/
def normed (b g : Fin 192 → EReal) (e : Fin 192) : EReal :=
  b e * Ideal.rsqrt (Ideal.div (∑ k : Fin 192, b k * b k) (Ideal.ofBits .f32 0x43400000#32) + eps) * g e

/-- An entry past 128 turned, as in the reference. -/
def turned (n : Fin 192 → EReal) (c s : Fin 64 → EReal) (j : Fin 64) : EReal :=
  n ⟨128 + j.val, by omega⟩ * c j
    + (if h : j.val % 32 < 16 then -n ⟨128 + j.val + 16, by omega⟩ else n ⟨128 + j.val - 16, by omega⟩) * s j

/-- An entry of the head, turned past 128. -/
def head (n : Fin 192 → EReal) (c s : Fin 64 → EReal) (e : Fin 192) : EReal :=
  if h : e.val < 128 then n e else turned n c s ⟨e.val - 128, by omega⟩

/-- A row of 64 on 128 lanes, with a filling past it. -/
def wide (z : EReal) (f : Fin 64 → EReal) (j : Fin 128) : EReal := if h : j.val < 64 then f ⟨j.val, h⟩ else z

/-- The squares of a padded row, over its two halves, are the squares of the row. -/
theorem squares (b : Fin 192 → EReal) :
    (∑ k : Fin 128, (lanes 0 b ⟨k.val, by omega⟩ * lanes 0 b ⟨k.val, by omega⟩ + lanes 0 b ⟨128 + k.val, by omega⟩ * lanes 0 b ⟨128 + k.val, by omega⟩))
      = ∑ k : Fin 192, b k * b k := by
  rw [← sum_lanes b b, Finset.sum_add_distrib, Fin.sum_univ_add (a := 128) (b := 128) (fun d : Fin 256 => lanes 0 b d * lanes 0 b d)]
  rfl

/-- The factor of a padded row is the reference's, scaled. -/
theorem factor_eq (b : Fin 192 → EReal) :
    factor (lanes 0 b) = Ideal.rsqrt (Ideal.div (∑ k : Fin 192, b k * b k) (Ideal.ofBits .f32 0x43400000#32) + eps) * scale := by
  rw [factor, squares, count_eq, Ideal.div_coe (by norm_num)]

/-- A lane of a padded row is the reference's entry, scaled, or zero. -/
theorem entry_eq (b g : Fin 192 → EReal) (l : Fin 256) :
    entry (lanes 0 b) (lanes 0 g) l = lanes 0 (fun e => normed b g e * scale) l := by
  rw [entry, factor_eq]
  by_cases h : l.val < 192
  · simp only [lanes, dif_pos h, normed]
    ac_rfl
  · simp only [lanes, dif_neg h, mul_zero]

/-- The scale passes through a sum of two. -/
theorem scaled (x y : EReal) : x * scale + y * scale = (x + y) * scale := by
  rw [mul_comm x, mul_comm y, mul_comm (x + y), scale_eq]
  exact (EReal.left_distrib_of_nonneg_of_ne_top (by exact_mod_cast (by norm_num : (0 : ℝ) ≤ 13974421 / 134217728)) (EReal.coe_ne_top _) _ _).symm

/-- A lane of a padded head is the reference's entry, scaled, or zero. -/
theorem lane_eq (b g : Fin 192 → EReal) (z : EReal) (c s : Fin 64 → EReal) (l : Fin 256) :
    lane (lanes 0 b) (lanes 0 g) (wide z c) (wide 0 s) l = lanes 0 (fun e => head (normed b g) c s e * scale) l := by
  rw [lane]
  by_cases h : l.val < 128
  · rw [dif_pos h, entry_eq]
    simp only [lanes, dif_pos (show l.val < 192 by omega), head, dif_pos h]
  · rw [dif_neg h]
    by_cases h' : l.val < 192
    · have hj : l.val - 128 < 64 := by omega
      have e1 : 128 + (l.val - 128) < 192 := by omega
      simp only [turn, entry_eq, lanes, wide, dif_pos h', head, dif_neg h, turned, dif_pos hj, dif_pos e1]
      rw [← scaled]
      congr 1
      · ac_rfl
      · by_cases hq : (l.val - 128) % 32 < 16
        · have e2 : (l.val - 128 + 128 - 112) % 128 = l.val - 128 + 16 := by omega
          have e3 : 128 + (l.val - 128 + 16) = 128 + (l.val - 128) + 16 := by omega
          simp only [if_pos hq, dif_pos hq, e2, e3, dif_pos (show 128 + (l.val - 128) + 16 < 192 by omega), zero_sub, neg_mul]
          ac_rfl
        · have e2 : (l.val - 128 + 128 - 16) % 128 = l.val - 128 - 16 := by omega
          have e3 : 128 + (l.val - 128 - 16) = 128 + (l.val - 128) - 16 := by omega
          simp only [if_neg hq, dif_neg hq, e2, e3, dif_pos (show 128 + (l.val - 128) - 16 < 192 by omega)]
          ac_rfl
    · have hj : ¬ l.val - 128 < 64 := by omega
      have e1 : ¬ 128 + (l.val - 128) < 192 := by omega
      simp only [turn, entry_eq, lanes, wide, dif_neg h', dif_neg hj, dif_neg e1, zero_mul, mul_zero, add_zero]

end Cert.UpQRows

end
-- ==== Proof.UpQReads.lean ====
/- The queries' latent raised to the heads: what the blocks of the call hold. -/
module

public import proofs.«01_k».proof.Proof.UpQRows
public import proofs.«01_k».proof.Proof.Gen.UpQIdeal.Value
public import proofs.«01_k».proof.Proof.Gen.UpQReferenceIdeal.Read
public import Idealize.ShloMosaic.Lib.Pipeline.ValueKit

@[expose] public section

set_option maxRecDepth 16384

noncomputable section

namespace Cert.UpQIdeal.Reads

open Cert.UpQIdeal Cert.UpQIdeal.Gen Idealize.ShloMosaic Idealize.ShloMosaic.TcCoe Idealize.SL.Sem
open Cert.UpQReferenceIdeal.Read Cert.UpQRows Cert.Softmax
open Idealize.ShloMosaic.Pipeline (Dat)

variable (m : (ℓ : Loc nD τ sig) → Buf (Elt Ideal) ℓ)

/-- The integer zero as a float. -/
theorem int_zero : FloatOps.sitofp (F := Ideal) .f32 (0#32) = (0 : EReal) := by
  simp [FloatOps.sitofp]

/-- The latent reaches the call as it is. -/
theorem latent_at (c : Dev nD) (i : S4x4096x768.Idx) : V m c main_v5 i = m ((c : Thread nD τ).loc main_arg0) i := by
  simp only [V, hostOps0, hostOps0_1, hostOps0_2, hostOps0_3, hostOps0_4, hostOps0_5, hostOps0_6, hostOps0_7, hostOps0_8, List.flatten_cons, List.flatten_nil,
    List.append_nil, List.cons_append, List.nil_append]
  entry_read; pointwise

/-- A head's weights reach the call with lanes of zeros after them. -/
theorem weights_at (c : Dev nD) (k : Fin 768) (l : Fin 4096) :
    V m c main_v6 (ix2 k l) = lanes 0 (fun e : Fin 192 => m ((c : Thread nD τ).loc main_arg1) (ix2 k ⟨l.val / 256 * 192 + e.val, by omega⟩)) ⟨l.val % 256, by omega⟩ := by
  simp only [V, hostOps0, hostOps0_1, hostOps0_2, hostOps0_3, hostOps0_4, hostOps0_5, hostOps0_6, hostOps0_7, hostOps0_8, List.flatten_cons, List.flatten_nil,
    List.append_nil, List.cons_append, List.nil_append]
  entry_read
  simp -implicitDefEqProofs only [StableHlo.TRef.toBuf, StableHlo.TRef.ofBuf, cast_cast, cast_eq]
  pointwise
  simp only [show l.val / 256 < 16 by omega, true_and, int_zero, lanes]

/-- So do the gains. -/
theorem gains_at (c : Dev nD) (l : Fin 256) :
    V m c main_v8 (ix2 0 l) = lanes 0 (fun e : Fin 192 => m ((c : Thread nD τ).loc main_arg2) (ix1 e)) l := by
  simp only [V, hostOps0, hostOps0_1, hostOps0_2, hostOps0_3, hostOps0_4, hostOps0_5, hostOps0_6, hostOps0_7, hostOps0_8, List.flatten_cons, List.flatten_nil,
    List.append_nil, List.cons_append, List.nil_append]
  entry_read
  simp -implicitDefEqProofs only [StableHlo.TRef.toBuf, StableHlo.TRef.ofBuf, cast_cast, cast_eq]
  pointwise
  simp only [true_and, int_zero, lanes]

/-- The cosines reach the call with ones after them. -/
theorem cos_at (c : Dev nD) (p : Fin 4096) (j : Fin 128) :
    V m c main_v3 (ix2 p j) = wide (Ideal.ofBits .f32 0x3F800000#32) (fun e => m ((c : Thread nD τ).loc main_arg3) (ix2 p e)) j := by
  simp only [V, hostOps0, hostOps0_1, hostOps0_2, hostOps0_3, hostOps0_4, hostOps0_5, hostOps0_6, hostOps0_7, hostOps0_8, List.flatten_cons, List.flatten_nil,
    List.append_nil, List.cons_append, List.nil_append]
  entry_read
  simp -implicitDefEqProofs only [StableHlo.TRef.toBuf, StableHlo.TRef.ofBuf, cast_cast, cast_eq]
  pointwise
  simp only [p.isLt, true_and, wide]

/-- The sines reach the call with zeros after them. -/
theorem sin_at (c : Dev nD) (p : Fin 4096) (j : Fin 128) :
    V m c main_v4 (ix2 p j) = wide 0 (fun e => m ((c : Thread nD τ).loc main_arg4) (ix2 p e)) j := by
  simp only [V, hostOps0, hostOps0_1, hostOps0_2, hostOps0_3, hostOps0_4, hostOps0_5, hostOps0_6, hostOps0_7, hostOps0_8, List.flatten_cons, List.flatten_nil,
    List.append_nil, List.cons_append, List.nil_append]
  entry_read
  simp -implicitDefEqProofs only [StableHlo.TRef.toBuf, StableHlo.TRef.ofBuf, cast_cast, cast_eq]
  pointwise
  simp only [p.isLt, true_and, int_zero, wide]

end Cert.UpQIdeal.Reads

end
-- ==== Proof.UpQPlain.lean ====
/- The queries' latent raised to the heads: the reference's result lane by lane. -/
module

public import proofs.«01_k».proof.Proof.UpQRows
public import proofs.«01_k».proof.Proof.Gen.UpQReferenceIdeal.Read
public import Idealize.ShloMosaic.Lib.Pipeline.ValueKit

@[expose] public section

set_option maxRecDepth 16384

noncomputable section

namespace Cert.UpQReferenceIdeal.Plain

open Cert.UpQReferenceIdeal Idealize.ShloMosaic Idealize.ShloMosaic.TcCoe Idealize.SL.Sem
open Cert.UpQReferenceIdeal.Read Cert.UpQRows Cert.Softmax
open Idealize.ShloMosaic.Pipeline (Dat)

section Reference

variable (x0 : FVec Ideal S4x4096x768 .f32) (x1 : FVec Ideal S768x3072 .f32) (x2 : FVec Ideal S192 .f32) (x3 x4 : FVec Ideal S4096x64 .f32)

/-- A head of the reference, normalised. -/
theorem ref_normed (b : Fin 4) (p : Fin 4096) (h : Fin 16) (e : Fin 192) :
    val_main_v14 (F := Ideal) x0 x1 x2 (ix4 b p h e)
      = normed (fun e => ∑ k : Fin 768, x0 (ix3 b p k) * x1 (ix2 k ⟨h.val * 192 + e.val, by omega⟩)) (fun e => x2 (ix1 e)) e := by
  pointwise [val_main_v14, val_main_v13, val_main_v12, val_main_v11, val_main_v10, val_main_v9, val_main_v8, val_main_v7, val_main_v6, val_main_v5,
    val_main_v4, val_main_v3, val_main_v2, val_main_v1, val_main_v0, val_main_cst, val_main_cst_0, val_main_cst_1]
  rfl

/-- The part of a head that is turned, in the reference. -/
theorem ref_turned (b : Fin 4) (p : Fin 4096) (h : Fin 16) (j : Fin 64) :
    val_main_v45 (F := Ideal) x0 x1 x2 x3 x4 (ix4 b p h j)
      = turned (fun e => val_main_v14 (F := Ideal) x0 x1 x2 (ix4 b p h e)) (fun e => x3 (ix2 p e)) (fun e => x4 (ix2 p e)) j := by
  pointwise [val_main_v45, val_main_v44, val_main_v43, val_main_v42, val_main_v41, val_main_v40, val_main_v39, val_main_v38, val_main_v37, val_main_v36,
    val_main_v35, val_main_v34, val_main_v33, val_main_v32, val_main_v31, val_main_v30, val_main_v29, val_main_v28, val_main_v27, val_main_v26, val_main_v25,
    val_main_v24, val_main_v23, val_main_v22, val_main_v21, val_main_v20, val_main_v19, val_main_v18, val_main_v17, val_main_v16]
  by_cases h1 : j.val < 32
  · by_cases h2 : j.val < 16
    · have e : 128 + (16 + j.val) = 128 + j.val + 16 := by omega
      simp only [turned, dif_pos h1, dif_pos h2, dif_pos (show j.val % 32 < 16 by omega), e]
    · have e : 128 + (j.val - 16) = 128 + j.val - 16 := by omega
      simp only [turned, dif_pos h1, dif_neg h2, dif_neg (show ¬ j.val % 32 < 16 by omega), e]
  · have e1 : 32 + (j.val - 32) = j.val := by omega
    by_cases h2 : j.val - 32 < 16
    · have e : 128 + (32 + (16 + (j.val - 32))) = 128 + j.val + 16 := by omega
      simp only [turned, dif_neg h1, dif_pos h2, dif_pos (show j.val % 32 < 16 by omega), e, e1]
    · have e : 128 + (32 + (j.val - 32 - 16)) = 128 + j.val - 16 := by omega
      simp only [turned, dif_neg h1, dif_neg h2, dif_neg (show ¬ j.val % 32 < 16 by omega), e, e1]

/-- The reference's result, lane by lane. -/
theorem ref (b : Fin 4) (p l : Fin 4096) :
    val_main_v52 (F := Ideal) x0 x1 x2 x3 x4 (ix3 b p l)
      = lanes 0 (fun e : Fin 192 => head (fun e => val_main_v14 (F := Ideal) x0 x1 x2 (ix4 b p ⟨l.val / 256, by omega⟩ e))
          (fun e => x3 (ix2 p e)) (fun e => x4 (ix2 p e)) e * UpQRows.scale) ⟨l.val % 256, by omega⟩ := by
  rw [val_main_v52_apply, val_main_v51_apply]
  have e : idx_main_v51 (ix3 b p l) = ix4 b p (⟨l.val / 256, by omega⟩ : Fin 16) (⟨l.val % 256, by omega⟩ : Fin 256) := by
    have := b.isLt; have := p.isLt; have := l.isLt
    ext a; fin_cases a <;> simp [idx_main_v51, ix3, ix4] <;> omega
  rw [e]
  simp only [lanes, head, ← ref_turned]
  pointwise [val_main_v50, val_main_v49, val_main_v48, val_main_v47, val_main_v46, val_main_v15, val_main_cst_2, val_main_cst_3]

end Reference

end Cert.UpQReferenceIdeal.Plain

end
-- ==== Proof.UpQ.lean ====
/- The queries' latent raised to the heads: the kernel's result array is the reference's result. -/
module

public import proofs.«01_k».proof.Proof.UpQReads
public import proofs.«01_k».proof.Proof.UpQPlain
public import proofs.«01_k».proof.Proof.Gen.UpQIdeal.Value
public import proofs.«01_k».proof.Proof.Gen.UpQReferenceIdeal.Read
public import Idealize.ShloMosaic.Lib.Pipeline.ValueKit

@[expose] public section

set_option maxRecDepth 16384

noncomputable section

namespace Cert.UpQIdeal.Final

open Cert.UpQIdeal Cert.UpQIdeal.Gen Idealize.ShloMosaic Idealize.ShloMosaic.TcCoe Idealize.SL.Sem
open Cert.UpQReferenceIdeal.Read Cert.UpQIdeal.Reads Cert.UpQReferenceIdeal.Plain Cert.UpQRows Cert.Softmax
open Idealize.ShloMosaic.Pipeline (Dat)

/-- The constant that stands for one part in 192. -/
theorem per_entry : Named.named (F := Ideal) κ "per_entry" (φ := .f32) 0x3BAAAAAB#32 = ((1 / 192 : ℝ) : EReal) :=
  IdealRules.named_const.ideal_named_scalar _ _ _ _ rfl

/-- The lane test of the turn: whether the lane is in the first half of its 32. -/
def firstHalf (j : Fin 128) : BitVec 1 :=
  IntOp.cmpi CmpIPredicate.slt
    (Scalar.select
      (IntOp.andi
        (IntOp.xori
          (IntOp.cmpi CmpIPredicate.slt
            (IntOp.remsi ArithUnit.vector (BitVec.ofNat 32 j.val) (Scalar.select (Scalar.cmpi CmpIPredicate.eq 32#32 0#32) 1#32 32#32)) 0#32)
          (Scalar.cmpi CmpIPredicate.slt (Scalar.select (Scalar.cmpi CmpIPredicate.eq 32#32 0#32) 1#32 32#32) 0#32))
        (IntOp.cmpi CmpIPredicate.ne
          (IntOp.remsi ArithUnit.vector (BitVec.ofNat 32 j.val) (Scalar.select (Scalar.cmpi CmpIPredicate.eq 32#32 0#32) 1#32 32#32)) 0#32))
      (IntOp.addi
        (IntOp.remsi ArithUnit.vector (BitVec.ofNat 32 j.val) (Scalar.select (Scalar.cmpi CmpIPredicate.eq 32#32 0#32) 1#32 32#32))
        (Scalar.select (Scalar.cmpi CmpIPredicate.eq 32#32 0#32) 1#32 32#32))
      (IntOp.remsi ArithUnit.vector (BitVec.ofNat 32 j.val) (Scalar.select (Scalar.cmpi CmpIPredicate.eq 32#32 0#32) 1#32 32#32)))
    16#32

/-- It says what it is to say. -/
theorem firstHalf_eq : ∀ j : Fin 128, firstHalf j = if j.val % 32 < 16 then 1#1 else 0#1 := by decide +kernel

/-- A choice by the lane test. -/
theorem choose (j : Fin 128) (x y : EReal) : Scalar.select (firstHalf j) x y = if j.val % 32 < 16 then x else y := by
  rw [firstHalf_eq]; split <;> rfl

/-- The upper half of a head, turned. -/
theorem turn_at (v8 v29 v35 : FVec Ideal S1024x128 .f32) (c : Fin 128 → EReal) (r : Fin 1024) (j : Fin 128) (h : ∀ j, v35 (ix2 r j) = v29 (ix2 r j) * c j) :
    k0_pay19 (F := Ideal) v8 v29 v35 (ix2 r j) = turn (fun k => v29 (ix2 r k)) c (fun k => v8 (ix2 r k)) j := by
  rw [turn, ← choose, ← h]
  pointwise [k0_pay19]
  rfl

/-- A lane of the lower half of a head. -/
theorem lane_low (a g : Fin 256 → EReal) (c s : Fin 128 → EReal) (j : Fin 128) : lane a g c s ⟨j.val, by omega⟩ = entry a g ⟨j.val, by omega⟩ := by
  rw [lane, dif_pos j.isLt]

/-- A lane of the upper half of a head. -/
theorem lane_high (a g : Fin 256 → EReal) (c s : Fin 128 → EReal) (j : Fin 128) :
    lane a g c s ⟨128 + j.val, by omega⟩ = turn (fun k => entry a g ⟨128 + k.val, by omega⟩) c s j := by
  rw [lane, dif_neg (by show ¬ 128 + j.val < 128; omega)]
  congr 1
  exact Fin.ext (by show 128 + j.val - 128 = j.val; omega)

/-- A half that is scaled and multiplied by its gains: the fourth head's upper one, before the turn. -/
def upper (v10 : FVec Ideal S1x256 .f32) (v165 v178 : FVec Ideal S1024x128 .f32) : FVec Ideal S1024x128 .f32 :=
  mulf (mulf v165 v178) (broadcastTo S1024x128 (extractStridedSlice S1x128 ![0, 128] v10 slices_S1x256_o0_128_S1x128) broadcasts_S1x128_S1024x128)

/-- The fourth head's lower half. -/
def lower (v10 : FVec Ideal S1x256 .f32) (v164 : FVec Ideal S1024x128 .f32) (v177 : FVec Ideal S1024x1 .f32) : FVec Ideal S1024x128 .f32 :=
  mulf (mulf v164 (broadcastTo S1024x128 v177 broadcasts_S1024x1_S1024x128))
    (broadcastTo S1024x128 (extractStridedSlice S1x128 ![0, 0] v10 slices_S1x256_o0_0_S1x128) broadcasts_S1x128_S1024x128)

section Pieces

variable (v4 : FVec Ideal S1024x1024 .f32) (v6 v8 : FVec Ideal S1024x128 .f32) (v10 : FVec Ideal S1x256 .f32) (r : Fin 1024) (a : Fin 256 → EReal)

/-- The lower half of the second head. -/
theorem low1 (h0 : ∀ j : Fin 128, v4 (ix2 r ⟨256 + j.val, by omega⟩) = a ⟨j.val, by omega⟩) (h1 : ∀ j : Fin 128, v4 (ix2 r ⟨384 + j.val, by omega⟩) = a ⟨128 + j.val, by omega⟩) (j : Fin 128) :
    k0_pay17 (F := Ideal) v4 v10 (ix2 r j) = lane a (fun l => v10 (ix2 0 l)) (fun k => v6 (ix2 r k)) (fun k => v8 (ix2 r k)) ⟨j.val, by omega⟩ := by
  rw [lane_low]
  pointwise [k0_pay17, k0_pay15, k0_pay14, k0_pay13]
  simp only [per_entry, h0, h1]
  rfl

/-- The upper half of the second head, before the turn. -/
theorem upper1 (h0 : ∀ j : Fin 128, v4 (ix2 r ⟨256 + j.val, by omega⟩) = a ⟨j.val, by omega⟩) (h1 : ∀ j : Fin 128, v4 (ix2 r ⟨384 + j.val, by omega⟩) = a ⟨128 + j.val, by omega⟩) (j : Fin 128) :
    k0_pay16 (F := Ideal) v4 v10 (ix2 r j) = entry a (fun l => v10 (ix2 0 l)) ⟨128 + j.val, by omega⟩ := by
  pointwise [k0_pay16, k0_pay15, k0_pay14, k0_pay13]
  simp only [per_entry, h0, h1]
  rfl

/-- The upper half of the second head. -/
theorem high1 (h0 : ∀ j : Fin 128, v4 (ix2 r ⟨256 + j.val, by omega⟩) = a ⟨j.val, by omega⟩) (h1 : ∀ j : Fin 128, v4 (ix2 r ⟨384 + j.val, by omega⟩) = a ⟨128 + j.val, by omega⟩) (j : Fin 128) :
    k0_pay19 (F := Ideal) v8 (k0_pay16 v4 v10) (k0_pay18 v4 v6 v10) (ix2 r j) = lane a (fun l => v10 (ix2 0 l)) (fun k => v6 (ix2 r k)) (fun k => v8 (ix2 r k)) ⟨128 + j.val, by omega⟩ := by
  rw [lane_high, turn_at _ _ _ (fun k => v6 (ix2 r k)) r j (fun j => by pointwise [k0_pay18])]
  simp only [upper1 v4 v10 r a h0 h1]

/-- The lower half of the third head. -/
theorem low2 (h0 : ∀ j : Fin 128, v4 (ix2 r ⟨512 + j.val, by omega⟩) = a ⟨j.val, by omega⟩) (h1 : ∀ j : Fin 128, v4 (ix2 r ⟨640 + j.val, by omega⟩) = a ⟨128 + j.val, by omega⟩) (j : Fin 128) :
    k0_pay25 (F := Ideal) v10 (k0_pay20 v4) (k0_pay24 v4) (ix2 r j) = lane a (fun l => v10 (ix2 0 l)) (fun k => v6 (ix2 r k)) (fun k => v8 (ix2 r k)) ⟨j.val, by omega⟩ := by
  rw [lane_low]
  pointwise [k0_pay25, k0_pay24, k0_pay22, k0_pay21, k0_pay20]
  simp only [per_entry, h0, h1]
  rfl

/-- The upper half of the third head, before the turn. -/
theorem upper2 (h0 : ∀ j : Fin 128, v4 (ix2 r ⟨512 + j.val, by omega⟩) = a ⟨j.val, by omega⟩) (h1 : ∀ j : Fin 128, v4 (ix2 r ⟨640 + j.val, by omega⟩) = a ⟨128 + j.val, by omega⟩) (j : Fin 128) :
    k0_pay23 (F := Ideal) v4 v10 (ix2 r j) = entry a (fun l => v10 (ix2 0 l)) ⟨128 + j.val, by omega⟩ := by
  pointwise [k0_pay23, k0_pay22, k0_pay21, k0_pay20]
  simp only [per_entry, h0, h1]
  rfl

/-- The third head's turn. -/
theorem turn2_at (v131 : FVec Ideal S1024x128 .f32) (j : Fin 128) :
    k0_pay26 (F := Ideal) v6 v8 v131 (ix2 r j) = turn (fun k => v131 (ix2 r k)) (fun k => v6 (ix2 r k)) (fun k => v8 (ix2 r k)) j := by
  rw [turn, ← choose]
  pointwise [k0_pay26]
  rfl

/-- The upper half of the third head. -/
theorem high2 (h0 : ∀ j : Fin 128, v4 (ix2 r ⟨512 + j.val, by omega⟩) = a ⟨j.val, by omega⟩) (h1 : ∀ j : Fin 128, v4 (ix2 r ⟨640 + j.val, by omega⟩) = a ⟨128 + j.val, by omega⟩) (j : Fin 128) :
    k0_pay26 (F := Ideal) v6 v8 (k0_pay23 v4 v10) (ix2 r j) = lane a (fun l => v10 (ix2 0 l)) (fun k => v6 (ix2 r k)) (fun k => v8 (ix2 r k)) ⟨128 + j.val, by omega⟩ := by
  rw [lane_high, turn2_at]
  simp only [upper2 v4 v10 r a h0 h1]

/-- The lower half of the fourth head. -/
theorem low3 (h0 : ∀ j : Fin 128, v4 (ix2 r ⟨768 + j.val, by omega⟩) = a ⟨j.val, by omega⟩) (h1 : ∀ j : Fin 128, v4 (ix2 r ⟨896 + j.val, by omega⟩) = a ⟨128 + j.val, by omega⟩) (j : Fin 128) :
    lower v10 (k0_pay27 v4) (k0_pay29 v4) (ix2 r j) = lane a (fun l => v10 (ix2 0 l)) (fun k => v6 (ix2 r k)) (fun k => v8 (ix2 r k)) ⟨j.val, by omega⟩ := by
  rw [lane_low]
  pointwise [lower, k0_pay29, k0_pay28, k0_pay27]
  simp only [per_entry, h0, h1]
  rfl

/-- The upper half of the fourth head, before the turn. -/
theorem upper3 (h0 : ∀ j : Fin 128, v4 (ix2 r ⟨768 + j.val, by omega⟩) = a ⟨j.val, by omega⟩) (h1 : ∀ j : Fin 128, v4 (ix2 r ⟨896 + j.val, by omega⟩) = a ⟨128 + j.val, by omega⟩) (j : Fin 128) :
    upper v10 (k0_pay28 v4) (k0_pay30 v4) (ix2 r j) = entry a (fun l => v10 (ix2 0 l)) ⟨128 + j.val, by omega⟩ := by
  pointwise [upper, k0_pay30, k0_pay29, k0_pay28, k0_pay27]
  simp only [per_entry, h0, h1]
  rfl

/-- The upper half of the fourth head. -/
theorem high3 (h0 : ∀ j : Fin 128, v4 (ix2 r ⟨768 + j.val, by omega⟩) = a ⟨j.val, by omega⟩) (h1 : ∀ j : Fin 128, v4 (ix2 r ⟨896 + j.val, by omega⟩) = a ⟨128 + j.val, by omega⟩) (j : Fin 128) :
    k0_pay19 (F := Ideal) v8 (upper v10 (k0_pay28 v4) (k0_pay30 v4)) (mulf (upper v10 (k0_pay28 v4) (k0_pay30 v4)) v6) (ix2 r j)
      = lane a (fun l => v10 (ix2 0 l)) (fun k => v6 (ix2 r k)) (fun k => v8 (ix2 r k)) ⟨128 + j.val, by omega⟩ := by
  rw [lane_high, turn_at _ _ _ (fun k => v6 (ix2 r k)) r j (fun j => by pointwise)]
  simp only [upper3 v4 v10 r a h0 h1]

end Pieces

section First

variable (x0 : FVec Ideal S1x1024x768 .bf16) (x1 : FVec Ideal S768x1024 .bf16) (x2 : FVec Ideal S1x256 .f32) (x3 x4 : FVec Ideal S1024x128 .f32)
  (r : Fin 1024) (a : Fin 256 → EReal)

/-- The lower half of the first head. -/
theorem low0 (h0 : ∀ j : Fin 128, k0_pay2 (F := Ideal) x0 x1 (ix2 r ⟨j.val, by omega⟩) = a ⟨j.val, by omega⟩) (h1 : ∀ j : Fin 128, k0_pay2 (F := Ideal) x0 x1 (ix2 r ⟨128 + j.val, by omega⟩) = a ⟨128 + j.val, by omega⟩) (j : Fin 128) :
    k0_pay10 (F := Ideal) x0 x1 x2 (ix2 r j) = lane a (fun l => k0_pay5 (F := Ideal) x2 (ix2 0 l)) (fun k => k0_pay3 (F := Ideal) x3 (ix2 r k)) (fun k => k0_pay4 (F := Ideal) x4 (ix2 r k)) ⟨j.val, by omega⟩ := by
  rw [lane_low]
  pointwise [k0_pay10, k0_pay8, k0_pay7, k0_pay6]
  simp only [per_entry, h0, h1]
  rfl

/-- The upper half of the first head, before the turn. -/
theorem upper0 (h0 : ∀ j : Fin 128, k0_pay2 (F := Ideal) x0 x1 (ix2 r ⟨j.val, by omega⟩) = a ⟨j.val, by omega⟩) (h1 : ∀ j : Fin 128, k0_pay2 (F := Ideal) x0 x1 (ix2 r ⟨128 + j.val, by omega⟩) = a ⟨128 + j.val, by omega⟩) (j : Fin 128) :
    k0_pay9 (F := Ideal) x0 x1 x2 (ix2 r j) = entry a (fun l => k0_pay5 (F := Ideal) x2 (ix2 0 l)) ⟨128 + j.val, by omega⟩ := by
  pointwise [k0_pay9, k0_pay8, k0_pay7, k0_pay6]
  simp only [per_entry, h0, h1]
  rfl

/-- The first head's turn. -/
theorem turn0_at (v8 v29 v35 : FVec Ideal S1024x128 .f32) (c : Fin 128 → EReal) (j : Fin 128) (h : ∀ j, v35 (ix2 r j) = v29 (ix2 r j) * c j) :
    k0_pay12 (F := Ideal) v8 v29 v35 (iota Kind.tc S1024x128 32 [1] iota_S1024x128_d1_w32) (32#32) (Scalar.cmpi CmpIPredicate.eq 32#32 0#32) 1#32 (ix2 r j)
      = turn (fun k => v29 (ix2 r k)) c (fun k => v8 (ix2 r k)) j := by
  rw [turn, ← choose, ← h]
  pointwise [k0_pay12]
  rfl

/-- The upper half of the first head. -/
theorem high0 (h0 : ∀ j : Fin 128, k0_pay2 (F := Ideal) x0 x1 (ix2 r ⟨j.val, by omega⟩) = a ⟨j.val, by omega⟩) (h1 : ∀ j : Fin 128, k0_pay2 (F := Ideal) x0 x1 (ix2 r ⟨128 + j.val, by omega⟩) = a ⟨128 + j.val, by omega⟩) (j : Fin 128) :
    k0_pay12 (F := Ideal) (k0_pay4 x4) (k0_pay9 x0 x1 x2) (k0_pay11 x0 x1 x3 x2) (iota Kind.tc S1024x128 32 [1] iota_S1024x128_d1_w32) (32#32)
        (Scalar.cmpi CmpIPredicate.eq 32#32 0#32) 1#32 (ix2 r j) = lane a (fun l => k0_pay5 (F := Ideal) x2 (ix2 0 l)) (fun k => k0_pay3 (F := Ideal) x3 (ix2 r k)) (fun k => k0_pay4 (F := Ideal) x4 (ix2 r k)) ⟨128 + j.val, by omega⟩ := by
  rw [lane_high, turn0_at _ _ _ _ (fun k => k0_pay3 (F := Ideal) x3 (ix2 r k)) _ (fun j => by pointwise [k0_pay11])]
  simp only [upper0 x0 x1 x2 r a h0 h1]

end First

/-- The eight halves of a block's four heads side by side, narrowed. -/
def joined (p0 p1 p2 p3 p4 p5 p6 p7 : FVec Ideal S1024x128 .f32) : FVec Ideal S1x1024x1024 .bf16 :=
  shapeCast S1x1024x1024
    (truncf .bf16
      (concatenate S1024x1024 1 [⟨S1024x128, p0⟩, ⟨S1024x128, p1⟩, ⟨S1024x128, p2⟩, ⟨S1024x128, p3⟩, ⟨S1024x128, p4⟩, ⟨S1024x128, p5⟩, ⟨S1024x128, p6⟩, ⟨S1024x128, p7⟩]
        concatenates_S1024x128_S1024x128_S1024x128_S1024x128_S1024x128_S1024x128_S1024x128_S1024x128_S1024x1024_d1)
      bitsLt_bf16_f32)
    shapeCasts_S1024x1024_S1x1024x1024

/-- The store's value is the eight halves joined, the last head's computed here. -/
theorem store_eq (v6 v8 v34 v61 v85 v112 v136 v163 v164 v165 : FVec Ideal S1024x128 .f32) (v10 : FVec Ideal S1x256 .f32) (v177 : FVec Ideal S1024x1 .f32)
    (v178 : FVec Ideal S1024x128 .f32) :
    k0_pay1 (F := Ideal) v6 v8 v10 v34 v61 v85 v112 v136 v163 v164 v165 v177 v178
      = joined v34 v61 v85 v112 v136 v163 (lower v10 v164 v177) (k0_pay19 v8 (upper v10 v165 v178) (mulf (upper v10 v165 v178) v6)) := rfl

/-- The eight halves, lane by lane. -/
theorem joined_at (p0 p1 p2 p3 p4 p5 p6 p7 : FVec Ideal S1024x128 .f32) (r j : Fin 1024) :
    joined p0 p1 p2 p3 p4 p5 p6 p7 (ix3 0 r j) =
      if h : j.val < 128 then p0 (ix2 r ⟨j.val, by omega⟩) else
      if h : j.val - 128 < 128 then p1 (ix2 r ⟨j.val - 128, by omega⟩) else
      if h : j.val - 128 - 128 < 128 then p2 (ix2 r ⟨j.val - 128 - 128, by omega⟩) else
      if h : j.val - 128 - 128 - 128 < 128 then p3 (ix2 r ⟨j.val - 128 - 128 - 128, by omega⟩) else
      if h : j.val - 128 - 128 - 128 - 128 < 128 then p4 (ix2 r ⟨j.val - 128 - 128 - 128 - 128, by omega⟩) else
      if h : j.val - 128 - 128 - 128 - 128 - 128 < 128 then p5 (ix2 r ⟨j.val - 128 - 128 - 128 - 128 - 128, by omega⟩) else
      if h : j.val - 128 - 128 - 128 - 128 - 128 - 128 < 128 then p6 (ix2 r ⟨j.val - 128 - 128 - 128 - 128 - 128 - 128, by omega⟩) else
      p7 (ix2 r ⟨j.val - 128 - 128 - 128 - 128 - 128 - 128 - 128, by omega⟩) := by
  pointwise [joined]

/-- The columns of the block that are of the head a lane is in. -/
def cols (v4 : FVec Ideal S1024x1024 .f32) (r j : Fin 1024) (l : Fin 256) : EReal := v4 (ix2 r ⟨j.val / 256 * 256 + l.val, by omega⟩)

/-- What the kernel stores, lane by lane: its lane of the head it is in. -/
theorem pay (x0 : FVec Ideal S1x1024x768 .bf16) (x1 : FVec Ideal S768x1024 .bf16) (x2 : FVec Ideal S1x256 .f32) (x3 x4 : FVec Ideal S1024x128 .f32) (r : Fin 1024) (j : Fin 1024) :
    out0_5 (F := Ideal) x0 x1 x2 x3 x4 (ix3 0 r j)
      = lane (cols (k0_pay2 x0 x1) r j) (fun l => k0_pay5 (F := Ideal) x2 (ix2 0 l)) (fun k => k0_pay3 (F := Ideal) x3 (ix2 r k)) (fun k => k0_pay4 (F := Ideal) x4 (ix2 r k))
          ⟨j.val % 256, by omega⟩ := by
  unfold_out out0_5
  frame_out
  rw [store_eq, joined_at]
  have at' : ∀ n (hn : n < 1024) m (hm : m < 256), n = j.val / 256 * 256 + m → k0_pay2 (F := Ideal) x0 x1 (ix2 r ⟨n, hn⟩) = cols (k0_pay2 x0 x1) r j ⟨m, hm⟩ := by
    intro n hn m hm e
    subst e
    rfl
  split
  · refine (low0 x0 x1 x2 x3 x4 r _ (fun k => at' _ _ _ _ (by omega)) (fun k => at' _ _ _ _ (by omega)) _).trans (congrArg _ (Fin.ext ?_))
    dsimp only
    omega
  split
  · refine (high0 x0 x1 x2 x3 x4 r _ (fun k => at' _ _ _ _ (by omega)) (fun k => at' _ _ _ _ (by omega)) _).trans (congrArg _ (Fin.ext ?_))
    dsimp only
    omega
  split
  · refine (low1 (k0_pay2 x0 x1) (k0_pay3 x3) (k0_pay4 x4) (k0_pay5 x2) r _ (fun k => at' _ _ _ _ (by omega)) (fun k => at' _ _ _ _ (by omega)) _).trans (congrArg _ (Fin.ext ?_))
    dsimp only
    omega
  split
  · refine (high1 (k0_pay2 x0 x1) (k0_pay3 x3) (k0_pay4 x4) (k0_pay5 x2) r _ (fun k => at' _ _ _ _ (by omega)) (fun k => at' _ _ _ _ (by omega)) _).trans (congrArg _ (Fin.ext ?_))
    dsimp only
    omega
  split
  · refine (low2 (k0_pay2 x0 x1) (k0_pay3 x3) (k0_pay4 x4) (k0_pay5 x2) r _ (fun k => at' _ _ _ _ (by omega)) (fun k => at' _ _ _ _ (by omega)) _).trans (congrArg _ (Fin.ext ?_))
    dsimp only
    omega
  split
  · refine (high2 (k0_pay2 x0 x1) (k0_pay3 x3) (k0_pay4 x4) (k0_pay5 x2) r _ (fun k => at' _ _ _ _ (by omega)) (fun k => at' _ _ _ _ (by omega)) _).trans (congrArg _ (Fin.ext ?_))
    dsimp only
    omega
  split
  · refine (low3 (k0_pay2 x0 x1) (k0_pay3 x3) (k0_pay4 x4) (k0_pay5 x2) r _ (fun k => at' _ _ _ _ (by omega)) (fun k => at' _ _ _ _ (by omega)) _).trans (congrArg _ (Fin.ext ?_))
    dsimp only
    omega
  refine (high3 (k0_pay2 x0 x1) (k0_pay3 x3) (k0_pay4 x4) (k0_pay5 x2) r _ (fun k => at' _ _ _ _ (by omega)) (fun k => at' _ _ _ _ (by omega)) _).trans (congrArg _ (Fin.ext ?_))
  dsimp only
  omega

/-- The block's product, entry by entry. -/
theorem acc (x0 : FVec Ideal S1x1024x768 .bf16) (x1 : FVec Ideal S768x1024 .bf16) (r j : Fin 1024) :
    k0_pay2 (F := Ideal) x0 x1 (ix2 r j) = ∑ k : Fin 768, x0 (ix3 0 r k) * x1 (ix2 k j) := by
  pointwise [k0_pay2]

/-- The other blocks reach the payload as they are. -/
theorem same (x2 : FVec Ideal S1x256 .f32) (x3 : FVec Ideal S1024x128 .f32) : k0_pay5 (F := Ideal) x2 = x2 ∧ k0_pay3 (F := Ideal) x3 = x3 ∧ k0_pay4 (F := Ideal) x3 = x3 := by
  refine ⟨?_, ?_, ?_⟩ <;> (ext i; idx_vars i; pointwise [k0_pay5, k0_pay4, k0_pay3])

/-- A sum of products with padded columns is the padded row of the sums. -/
theorem sum_padded (q : Fin 768 → EReal) (w : Fin 768 → Fin 192 → EReal) (l : Fin 256) :
    ∑ k : Fin 768, q k * lanes 0 (w k) l = lanes 0 (fun e => ∑ k : Fin 768, q k * w k e) l := by
  by_cases h : l.val < 192
  · simp only [lanes, dif_pos h]
  · simp only [lanes, dif_neg h, mul_zero, Finset.sum_const_zero]

variable (m : (ℓ : Loc nD τ sig) → Buf (Elt Ideal) ℓ)

/-- The blocks a grid point reads and writes. -/
theorem idx : ∀ t : Fin cfg0.N,
    win0_0.index t = ![(grid0.coords t 0).val, (grid0.coords t 1).val, 0] ∧ win0_1.index t = ![0, (grid0.coords t 2).val]
    ∧ win0_2.index t = ![0, 0] ∧ win0_3.index t = ![(grid0.coords t 1).val, 0] ∧ win0_4.index t = ![(grid0.coords t 1).val, 0]
    ∧ win0_5.index t = ![(grid0.coords t 0).val, (grid0.coords t 1).val, (grid0.coords t 2).val] :=
  (by decide +kernel : ∀ t : Fin grid0.N, _)

/-- The result array is the reference's. -/
theorem final (c : Dev nD) :
    (dats m 0 c).arrAt 5 cfg0.N = val_main_v52 (F := Ideal) (m ((c : Thread nD τ).loc main_arg0)) (m ((c : Thread nD τ).loc main_arg1))
      (m ((c : Thread nD τ).loc main_arg2)) (m ((c : Thread nD τ).loc main_arg3)) (m ((c : Thread nD τ).loc main_arg4)) := by
  refine (dats m 0 c).arrAt_eq_of_covers 5 _ (by decide +kernel) fun t _ y => ?_
  blk_simp
  rw [after0_5]
  idx_vars y
  obtain rfl : y0 = 0 := Subsingleton.elim _ _
  rw [pay]
  have h0 : (grid0.coords t 0).val < 4 := (grid0.coords t 0).isLt
  have h1 : (grid0.coords t 1).val < 4 := (grid0.coords t 1).isLt
  have h2 : (grid0.coords t 2).val < 4 := (grid0.coords t 2).isLt
  have place : ((View.whole main_v9).slice (win0_5.rect t)).emb (ix3 0 y1 y2)
      = ix3 (⟨(grid0.coords t 0).val, h0⟩ : Fin 4) (⟨(grid0.coords t 1).val * 1024 + y1.val, by omega⟩ : Fin 4096)
          (⟨(grid0.coords t 2).val * 1024 + y2.val, by omega⟩ : Fin 4096) := by
    blk_ext [idx t]
  rw [place]
  refine Eq.trans ?_ (ref _ _ _ _ _ _ _ _).symm
  simp only [ref_normed]
  refine Eq.trans ?_ (lane_eq _ _ (Ideal.ofBits .f32 0x3F800000#32) _ _ _)
  have hr : ∀ k : Fin 768, iblk m c 0 t (ix3 0 y1 k)
      = m ((c : Thread nD τ).loc main_arg0) (ix3 (⟨(grid0.coords t 0).val, h0⟩ : Fin 4) (⟨(grid0.coords t 1).val * 1024 + y1.val, by omega⟩ : Fin 4096) k) := by
    intro k
    blk_point [iblk, idx t, latent_at]
  have hw : ∀ (k : Fin 768) (j : Fin 1024), iblk m c 1 t (ix2 k j)
      = lanes 0 (fun e : Fin 192 => m ((c : Thread nD τ).loc main_arg1) (ix2 k ⟨((grid0.coords t 2).val * 1024 + j.val) / 256 * 192 + e.val, by omega⟩))
          ⟨((grid0.coords t 2).val * 1024 + j.val) % 256, by omega⟩ := by
    intro k j
    have at' : (win0_1.blk t).view.emb (ix2 k j) = ix2 k (⟨(grid0.coords t 2).val * 1024 + j.val, by omega⟩ : Fin 4096) := by
      blk_ext [idx t]
    exact (congrArg (V m c main_v6) at').trans (weights_at m c k _)
  have hg : ∀ j : Fin 256, iblk m c 2 t (ix2 0 j) = lanes 0 (fun e : Fin 192 => m ((c : Thread nD τ).loc main_arg2) (ix1 e)) j := by
    intro j
    have at' : (win0_2.blk t).view.emb (ix2 0 j) = ix2 0 j := by
      blk_ext [idx t]
    exact (congrArg (V m c main_v8) at').trans (gains_at m c j)
  have hc : ∀ j : Fin 128, iblk m c 3 t (ix2 y1 j)
      = wide (Ideal.ofBits .f32 0x3F800000#32) (fun e => m ((c : Thread nD τ).loc main_arg3) (ix2 (⟨(grid0.coords t 1).val * 1024 + y1.val, by omega⟩ : Fin 4096) e)) j := by
    intro j
    have at' : (win0_3.blk t).view.emb (ix2 y1 j) = ix2 (⟨(grid0.coords t 1).val * 1024 + y1.val, by omega⟩ : Fin 4096) j := by
      blk_ext [idx t]
    exact (congrArg (V m c main_v3) at').trans (cos_at m c _ j)
  have hs : ∀ j : Fin 128, iblk m c 4 t (ix2 y1 j)
      = wide 0 (fun e => m ((c : Thread nD τ).loc main_arg4) (ix2 (⟨(grid0.coords t 1).val * 1024 + y1.val, by omega⟩ : Fin 4096) e)) j := by
    intro j
    have at' : (win0_4.blk t).view.emb (ix2 y1 j) = ix2 (⟨(grid0.coords t 1).val * 1024 + y1.val, by omega⟩ : Fin 4096) j := by
      blk_ext [idx t]
    exact (congrArg (V m c main_v4) at').trans (sin_at m c _ j)
  rw [(same (iblk m c 2 t) (iblk m c 3 t)).1, (same (iblk m c 2 t) (iblk m c 3 t)).2.1, (same (iblk m c 2 t) (iblk m c 4 t)).2.2]
  simp only [hg, hc, hs]
  congr 1
  · funext l
    have d1 : ((grid0.coords t 2).val * 1024 + (y2.val / 256 * 256 + l.val)) / 256 = ((grid0.coords t 2).val * 1024 + y2.val) / 256 := by omega
    have d2 : ((grid0.coords t 2).val * 1024 + (y2.val / 256 * 256 + l.val)) % 256 = l.val := by omega
    rw [cols, acc]
    simp only [hr, hw, d1, d2]
    exact sum_padded _ _ _
  · exact Fin.ext (by dsimp only; omega)

end Cert.UpQIdeal.Final

end
-- ==== Proof.InProj.lean ====
/- The input projection's result array is the reference's result. -/
module

public import proofs.«01_k».proof.Proof.Gen.InProjIdeal.Value
public import proofs.«01_k».proof.Proof.Gen.InProjReferenceIdeal.Read
public import Idealize.ShloMosaic.Lib.Pipeline.ValueKit

@[expose] public section

set_option maxRecDepth 16384

noncomputable section

namespace Cert.InProjIdeal.Final

open Cert.InProjIdeal Cert.InProjIdeal.Gen Idealize.ShloMosaic Idealize.ShloMosaic.TcCoe Idealize.SL.Sem
open Cert.InProjReferenceIdeal.Read
open Idealize.ShloMosaic.Pipeline (Dat)

variable (m : (ℓ : Loc nD τ sig) → Buf (Elt Ideal) ℓ)

/-- The blocks a grid point reads and writes. -/
theorem idx : ∀ t : Fin cfg0.N,
    win0_0.index t = ![(grid0.coords t 0).val, (grid0.coords t 1).val, 0] ∧ win0_1.index t = ![0, (grid0.coords t 2).val]
    ∧ win0_2.index t = ![(grid0.coords t 0).val, (grid0.coords t 1).val, (grid0.coords t 2).val] :=
  (by decide +kernel : ∀ t : Fin grid0.N, _)

/-- The first operand as the call takes it is the argument, entry by entry. -/
theorem rows_at (c : Dev nD) (i : S4x4096x2048.Idx) : V m c main_v0 i = m ((c : Thread nD τ).loc main_arg0) i := by
  simp only [V, hostOps0]
  entry_read
  pointwise

/-- The weights as the call takes them are the argument, entry by entry. -/
theorem weights_at (c : Dev nD) (i : S2048x6144.Idx) : V m c main_v1 i = m ((c : Thread nD τ).loc main_arg1) i := by
  simp only [V, hostOps0]
  entry_read
  pointwise

/-- An entry of a result block: a row against a column. -/
theorem pay (x0 : FVec Ideal S1x1024x2048 .bf16) (x1 : FVec Ideal S2048x1024 .bf16) (r d : Fin 1024) :
    k0_pay1 x0 x1 (ix3 0 r d) = ∑ k : Fin 2048, x0 (ix3 0 r k) * x1 (ix2 k d) := by
  pointwise [k0_pay1]

/-- An entry of the reference: a row against a column. -/
theorem ref (x0 : FVec Ideal S4x4096x2048 .f32) (x1 : FVec Ideal S2048x6144 .f32) (i : S4x4096x6144.Idx) :
    val_main_v1 (F := Ideal) x0 x1 i = ∑ k : Fin 2048, x0 (ix3 (i 0) (i 1) k) * x1 (ix2 k (i 2)) := by
  pointwise [val_main_v1, val_main_v0]

/-- The result array is the reference's. -/
theorem final (c : Dev nD) :
    (dats m 0 c).arrAt 2 cfg0.N = val_main_v1 (F := Ideal) (m ((c : Thread nD τ).loc main_arg0)) (m ((c : Thread nD τ).loc main_arg1)) := by
  refine (dats m 0 c).arrAt_eq_of_covers 2 _ (by decide +kernel) fun t _ y => ?_
  blk_simp
  rw [after0_2]; frame_out
  idx_vars y
  obtain rfl : y0 = 0 := Subsingleton.elim _ _
  rw [pay, ref]
  blk_point [iblk, idx t, rows_at, weights_at]

end Cert.InProjIdeal.Final
-- ==== Proof.OutProj.lean ====
/- The output projection's result array is the reference's result. -/
module

public import proofs.«01_k».proof.Proof.Gen.OutProjIdeal.Value
public import proofs.«01_k».proof.Proof.Gen.OutProjReferenceIdeal.Read
public import Idealize.ShloMosaic.Lib.Pipeline.ValueKit

@[expose] public section

set_option maxRecDepth 16384

noncomputable section

namespace Cert.OutProjIdeal.Final

open Cert.OutProjIdeal Cert.OutProjIdeal.Gen Idealize.ShloMosaic Idealize.ShloMosaic.TcCoe Idealize.SL.Sem
open Cert.OutProjReferenceIdeal.Read
open Idealize.ShloMosaic.Pipeline (Dat)

variable (m : (ℓ : Loc nD τ sig) → Buf (Elt Ideal) ℓ)

/-- The blocks a grid point reads and writes. -/
theorem idx : ∀ t : Fin cfg0.N,
    win0_0.index t = ![(grid0.coords t 0).val, (grid0.coords t 1).val, 0] ∧ win0_1.index t = ![0, (grid0.coords t 2).val]
    ∧ win0_2.index t = ![(grid0.coords t 0).val, (grid0.coords t 1).val, (grid0.coords t 2).val]
    ∧ win0_3.index t = ![(grid0.coords t 0).val, 0, (grid0.coords t 2).val]
    ∧ win0_4.index t = ![(grid0.coords t 0).val, (grid0.coords t 1).val, (grid0.coords t 2).val] :=
  (by decide +kernel : ∀ t : Fin grid0.N, _)

/-- The first operand as the call takes it is the argument, entry by entry. -/
theorem rows_at (c : Dev nD) (i : S4x4096x2048.Idx) : V m c main_v0 i = m ((c : Thread nD τ).loc main_arg0) i := by
  simp only [V, hostOps0]
  entry_read
  pointwise

/-- The weights as the call takes them are the argument, entry by entry. -/
theorem weights_at (c : Dev nD) (i : S2048x2048.Idx) : V m c main_v1 i = m ((c : Thread nD τ).loc main_arg1) i := by
  simp only [V, hostOps0]
  entry_read
  pointwise

/-- An entry of a result block: the residual, and the gate times a row against a column. -/
theorem pay (x0 : FVec Ideal S1x1024x2048 .bf16) (x1 : FVec Ideal S2048x1024 .bf16) (x2 : FVec Ideal S1x1024x1024 .f32) (x3 : FVec Ideal S1x1x1024 .f32)
    (r d : Fin 1024) :
    k0_pay1 x0 x1 x2 x3 (ix3 0 r d) = x2 (ix3 0 r d) + x3 (ix3 0 0 d) * ∑ k : Fin 2048, x0 (ix3 0 r k) * x1 (ix2 k d) := by
  pointwise [k0_pay1]

/-- An entry of the reference: the residual, and the gate times a row against a column. -/
theorem ref (x0 x2 : FVec Ideal S4x4096x2048 .f32) (x1 : FVec Ideal S2048x2048 .f32) (x3 : FVec Ideal S4x1x2048 .f32) (i : S4x4096x2048.Idx) :
    val_main_v3 (F := Ideal) x0 x1 x2 x3 i = x2 i + x3 (ix3 (i 0) 0 (i 2)) * ∑ k : Fin 2048, x0 (ix3 (i 0) (i 1) k) * x1 (ix2 k (i 2)) := by
  pointwise [val_main_v3, val_main_v2, val_main_v1, val_main_v0]

/-- The result array is the reference's. -/
theorem final (c : Dev nD) :
    (dats m 0 c).arrAt 4 cfg0.N = val_main_v3 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t _ y => ?_
  blk_simp
  rw [after0_4]; frame_out
  idx_vars y
  obtain rfl : y0 = 0 := Subsingleton.elim _ _
  rw [pay, ref]
  blk_point [iblk, idx t, rows_at, weights_at]

end Cert.OutProjIdeal.Final
-- ==== Proof.lean ====
module

public import proofs.«01_k».proof.Defs
public import proofs.«01_k».proof.Proof.Gen.Kernel.Frame
public import proofs.«01_k».proof.Proof.Gen.KernelIdeal.Value
public import proofs.«01_k».proof.Proof.Gen.ReferenceIdeal.Run
public import proofs.«01_k».proof.Proof.Gen.ReferenceIdeal.Read
public import proofs.«01_k».proof.Proof.Gen.InProj.Frame
public import proofs.«01_k».proof.Proof.Gen.InProjIdeal.Value
public import proofs.«01_k».proof.Proof.Gen.InProjReferenceIdeal.Run
public import proofs.«01_k».proof.Proof.Gen.InProjReferenceIdeal.Read
public import proofs.«01_k».proof.Proof.Gen.OutProj.Frame
public import proofs.«01_k».proof.Proof.Gen.OutProjIdeal.Value
public import proofs.«01_k».proof.Proof.Gen.OutProjReferenceIdeal.Run
public import proofs.«01_k».proof.Proof.Gen.OutProjReferenceIdeal.Read
public import proofs.«01_k».proof.Proof.Gen.FfnReferenceIdeal.Run
public import proofs.«01_k».proof.Proof.Gen.FfnReferenceIdeal.Read
public import proofs.«01_k».proof.Proof.Gen.Ffn.Frame
public import proofs.«01_k».proof.Proof.Gen.FfnIdeal.Frame
public import proofs.«01_k».proof.Proof.Gen.FfnIdeal.Skeleton
public import proofs.«01_k».proof.Proof.Gen.Ffn.Skeleton
public import proofs.«01_k».proof.Proof.Gen.FfnLast.Frame
public import proofs.«01_k».proof.Proof.Gen.FfnLastIdeal.Value
public import proofs.«01_k».proof.Proof.Gen.FfnLastReferenceIdeal.Run
public import proofs.«01_k».proof.Proof.Gen.FfnLastReferenceIdeal.Read
public import proofs.«01_k».proof.Proof.Gen.DownQ.Frame
public import proofs.«01_k».proof.Proof.Gen.DownQIdeal.Value
public import proofs.«01_k».proof.Proof.Gen.DownQReferenceIdeal.Run
public import proofs.«01_k».proof.Proof.Gen.DownQReferenceIdeal.Read
public import proofs.«01_k».proof.Proof.Gen.DownKv.Frame
public import proofs.«01_k».proof.Proof.Gen.DownKvIdeal.Value
public import proofs.«01_k».proof.Proof.Gen.DownKvReferenceIdeal.Run
public import proofs.«01_k».proof.Proof.Gen.DownKvReferenceIdeal.Read
public import proofs.«01_k».proof.Proof.Gen.UpQ.Frame
public import proofs.«01_k».proof.Proof.Gen.UpQIdeal.Value
public import proofs.«01_k».proof.Proof.Gen.UpQReferenceIdeal.Run
public import proofs.«01_k».proof.Proof.Gen.UpQReferenceIdeal.Read
public import proofs.«01_k».proof.Proof.Final
public import proofs.«01_k».proof.Proof.Finite
public import proofs.«01_k».proof.Proof.FfnBody
public import proofs.«01_k».proof.Proof.FfnFinal
public import proofs.«01_k».proof.Proof.FfnIdealBody
public import proofs.«01_k».proof.Proof.FfnLast
public import proofs.«01_k».proof.Proof.DownQ
public import proofs.«01_k».proof.Proof.DownKv
public import proofs.«01_k».proof.Proof.UpQ
public import proofs.«01_k».proof.Proof.InProj
public import proofs.«01_k».proof.Proof.OutProj
public import Idealize.ShloMosaic.Lib.Claim
public import Idealize.ShloMosaic.Adequacy
public import Idealize.ShloMosaic.Init

@[expose] public section

noncomputable section

namespace Cert.Proof

open Idealize.ShloMosaic Idealize.SL.Sem Cert.Kernel

/-- The reference runs and leaves its arguments unchanged. -/
theorem reference_frame : Cert.quiescent_ReferenceIdeal (hReferenceIdeal := Cert.ReferenceIdeal.Gen.facts) := by
  intro m g _
  exact (θ_run _ _ _).mono (fun r h => ⟨fun c => (h c).2, Idealize.ShloMosaic.sem_eq_zero_of_no_sems (by decide) _⟩) (Cert.ReferenceIdeal.Value.run m g)

/-- The reference's value at equal context and further keys and values. -/
theorem value_congr (x0 : FVec Ideal Cert.ReferenceIdeal.S4x4096x16x192 .f32) {x1 y1 : FVec Ideal Cert.ReferenceIdeal.S4x256x16x192 .f32}
    {x2 y2 : FVec Ideal Cert.ReferenceIdeal.S4x256x16x128 .f32} {x3 y3 : FVec Ideal Cert.ReferenceIdeal.S4x4096x16x192 .f32}
    {x4 y4 : FVec Ideal Cert.ReferenceIdeal.S4x4096x16x128 .f32} (h1 : x1 = y1) (h2 : x2 = y2) (h3 : x3 = y3) (h4 : x4 = y4) :
    Cert.ReferenceIdeal.Read.val_main_v19 (F := Ideal) x0 x1 x2 x3 x4 = Cert.ReferenceIdeal.Read.val_main_v19 (F := Ideal) x0 y1 y2 y3 y4 := by
  subst h1 h2 h3 h4; rfl

/-- From finite queries and keys, the kernel's result is the reference's, entry by entry. -/
theorem attention : Cert.algebraic_KernelIdeal_ReferenceIdeal_pre_finite_scores (hKernelIdeal := Cert.KernelIdeal.Gen.facts)
    (hReferenceIdeal := Cert.ReferenceIdeal.Gen.facts) (hPre_finite_scores := Cert.Finite.facts) := by
  pair_intro
  · run_from Cert.KernelIdeal.Value.run_blocks m g
  · run_from Cert.ReferenceIdeal.Value.run m' g'
    obtain ⟨h0, h1, h3⟩ := Cert.Finite.of_pre _ _ _ _ _ (hpre c)
    refine Eq.trans ?_ (Cert.KernelIdeal.Final.final m c h0 h1 h3).symm
    obtain ⟨_, a1, a2, a3, a4⟩ := hagree c
    refine (Cert.ReferenceIdeal.Read.val_main_v19_eq (F := Ideal) (Cert.KernelIdeal.Entries.queries m c) _ _ _ _).trans ?_
    exact value_congr _ a1 a2 a3 a4

/-- The reference of the input projection runs and leaves its arguments unchanged. -/
theorem inProj_reference_frame : Cert.quiescent_InProjReferenceIdeal (hInProjReferenceIdeal := Cert.InProjReferenceIdeal.Gen.facts) := by
  intro m g _
  exact (θ_run _ _ _).mono (fun r h => ⟨fun c => (h c).2, Idealize.ShloMosaic.sem_eq_zero_of_no_sems (by decide) _⟩) (Cert.InProjReferenceIdeal.Value.run m g)

/-- The input projection's result is the reference's, entry by entry. -/
theorem inProj_value : Cert.algebraic_InProjIdeal_InProjReferenceIdeal (hInProjIdeal := Cert.InProjIdeal.Gen.facts)
    (hInProjReferenceIdeal := Cert.InProjReferenceIdeal.Gen.facts) := by
  pair_intro
  · run_from Cert.InProjIdeal.Value.run_blocks m g
  · run_from Cert.InProjReferenceIdeal.Value.run m' g'
    refine Eq.trans ?_ (Cert.InProjIdeal.Final.final m c).symm
    exact Cert.InProjReferenceIdeal.Read.val_main_v1_eq (F := Ideal) _ _

/-- The reference of the output projection runs and leaves its arguments unchanged. -/
theorem outProj_reference_frame : Cert.quiescent_OutProjReferenceIdeal (hOutProjReferenceIdeal := Cert.OutProjReferenceIdeal.Gen.facts) := by
  intro m g _
  exact (θ_run _ _ _).mono (fun r h => ⟨fun c => (h c).2, Idealize.ShloMosaic.sem_eq_zero_of_no_sems (by decide) _⟩) (Cert.OutProjReferenceIdeal.Value.run m g)

/-- The output projection's result is the reference's, entry by entry. -/
theorem outProj_value : Cert.algebraic_OutProjIdeal_OutProjReferenceIdeal (hOutProjIdeal := Cert.OutProjIdeal.Gen.facts)
    (hOutProjReferenceIdeal := Cert.OutProjReferenceIdeal.Gen.facts) := by
  pair_intro
  · run_from Cert.OutProjIdeal.Value.run_blocks m g
  · run_from Cert.OutProjReferenceIdeal.Value.run m' g'
    refine Eq.trans ?_ (Cert.OutProjIdeal.Final.final m c).symm
    exact Cert.OutProjReferenceIdeal.Read.val_main_v3_eq (F := Ideal) _ _ _ _

/-- The reference of the experts runs and leaves its arguments unchanged. -/
theorem ffn_reference_frame : Cert.quiescent_FfnReferenceIdeal (hFfnReferenceIdeal := Cert.FfnReferenceIdeal.Gen.facts) := by
  intro m g _
  exact (θ_run _ _ _).mono (fun r h => ⟨fun c => (h c).2.2, Idealize.ShloMosaic.sem_eq_zero_of_no_sems (by decide) _⟩) (Cert.FfnReferenceIdeal.Value.run m g)

/-- The reference's latent result at equal arguments. -/
theorem latent_congr {x0 y0 : IVec Cert.FfnReferenceIdeal.S4x16x512x1024 32} {x1 y1 : FVec Ideal Cert.FfnReferenceIdeal.S4x16x512x1 .f32}
    {x2 y2 : FVec Ideal Cert.FfnReferenceIdeal.S4x1x2048 .f32} {x6 y6 x7 y7 : FVec Ideal Cert.FfnReferenceIdeal.S4x16x2048x1024 .f32}
    {x8 y8 : FVec Ideal Cert.FfnReferenceIdeal.S4x16x1024x2048 .f32} (h0 : x0 = y0) (h1 : x1 = y1) (h2 : x2 = y2) (h6 : x6 = y6) (h7 : x7 = y7)
    (h8 : x8 = y8) : Cert.FfnReferenceIdeal.Read.val_main_v25 (F := Ideal) x0 x1 x2 x6 x7 x8 = Cert.FfnReferenceIdeal.Read.val_main_v25 (F := Ideal) y0 y1 y2 y6 y7 y8 := by
  subst h0 h1 h2 h6 h7 h8; rfl

/-- The reference's context result at equal arguments. -/
theorem context_congr {x3 y3 : IVec Cert.FfnReferenceIdeal.S4x16x32x1024 32} {x4 y4 : FVec Ideal Cert.FfnReferenceIdeal.S4x16x32x1 .f32}
    {x5 y5 : FVec Ideal Cert.FfnReferenceIdeal.S1x2048 .f32} {x6 y6 x7 y7 : FVec Ideal Cert.FfnReferenceIdeal.S4x16x2048x1024 .f32}
    {x8 y8 : FVec Ideal Cert.FfnReferenceIdeal.S4x16x1024x2048 .f32} (h3 : x3 = y3) (h4 : x4 = y4) (h5 : x5 = y5) (h6 : x6 = y6) (h7 : x7 = y7)
    (h8 : x8 = y8) : Cert.FfnReferenceIdeal.Read.val_main_v52 (F := Ideal) x3 x4 x5 x6 x7 x8 = Cert.FfnReferenceIdeal.Read.val_main_v52 (F := Ideal) y3 y4 y5 y6 y7 y8 := by
  subst h3 h4 h5 h6 h7 h8; rfl

/-- The experts' two results are the reference's, entry by entry. -/
theorem ffn_value : Cert.algebraic_FfnIdeal_FfnReferenceIdeal (hFfnIdeal := Cert.FfnIdeal.Gen.facts)
    (hFfnReferenceIdeal := Cert.FfnReferenceIdeal.Gen.facts) := by
  intro m g m' g' _ hagree
  refine ⟨_, _, Cert.FfnIdeal.Final.run_value m g, (θ_run _ _ _).mono (fun r h c => ?_) (Cert.FfnReferenceIdeal.Value.run m' g')⟩
  obtain ⟨e0, e1, e2, e3, e4, e5, e6, e7, e8⟩ := hagree c
  exact ⟨(h c).1.trans ((Cert.FfnReferenceIdeal.Read.val_main_v25_eq (F := Ideal) m' c).trans (latent_congr e0 e1 e2 e6 e7 e8)),
    (h c).2.1.trans ((Cert.FfnReferenceIdeal.Read.val_main_v52_eq (F := Ideal) m' c).trans (context_congr e3 e4 e5 e6 e7 e8)), (h c).2.2⟩

/-- The reference of the experts in the last layer runs and leaves its arguments unchanged. -/
theorem ffnLast_reference_frame : Cert.quiescent_FfnLastReferenceIdeal (hFfnLastReferenceIdeal := Cert.FfnLastReferenceIdeal.Gen.facts) := by
  intro m g _
  exact (θ_run _ _ _).mono (fun r h => ⟨fun c => (h c).2, Idealize.ShloMosaic.sem_eq_zero_of_no_sems (by decide) _⟩) (Cert.FfnLastReferenceIdeal.Value.run m g)

/-- The last layer's result at equal arguments. -/
theorem last_congr {x0 y0 : IVec Cert.FfnLastReferenceIdeal.S4x16x512x1024 32} {x1 y1 : FVec Ideal Cert.FfnLastReferenceIdeal.S4x16x512x1 .f32}
    {x2 y2 : FVec Ideal Cert.FfnLastReferenceIdeal.S4x1x2048 .f32} {x3 y3 x4 y4 : FVec Ideal Cert.FfnLastReferenceIdeal.S4x16x2048x1024 .f32}
    {x5 y5 : FVec Ideal Cert.FfnLastReferenceIdeal.S4x16x1024x2048 .f32} (h0 : x0 = y0) (h1 : x1 = y1) (h2 : x2 = y2) (h3 : x3 = y3) (h4 : x4 = y4)
    (h5 : x5 = y5) : Cert.FfnLastReferenceIdeal.Read.val_main_v25 (F := Ideal) x0 x1 x2 x3 x4 x5 = Cert.FfnLastReferenceIdeal.Read.val_main_v25 (F := Ideal) y0 y1 y2 y3 y4 y5 := by
  subst h0 h1 h2 h3 h4 h5; rfl

/-- The experts' result in the last layer is the reference's, entry by entry. -/
theorem ffnLast_value : Cert.algebraic_FfnLastIdeal_FfnLastReferenceIdeal (hFfnLastIdeal := Cert.FfnLastIdeal.Gen.facts)
    (hFfnLastReferenceIdeal := Cert.FfnLastReferenceIdeal.Gen.facts) := by
  pair_intro
  · run_from Cert.FfnLastIdeal.Value.run_blocks m g
  · run_from Cert.FfnLastReferenceIdeal.Value.run m' g'
    refine Eq.trans ?_ (Cert.FfnLastIdeal.Final.final m c).symm
    obtain ⟨e0, e1, e2, e3, e4, e5⟩ := hagree c
    exact (Cert.FfnLastReferenceIdeal.Read.val_main_v25_eq (F := Ideal) m' c).trans (last_congr e0 e1 e2 e3 e4 e5)

/-- The reference of the queries' latent runs and leaves its arguments unchanged. -/
theorem downQ_reference_frame : Cert.quiescent_DownQReferenceIdeal (hDownQReferenceIdeal := Cert.DownQReferenceIdeal.Gen.facts) := by
  intro m g _
  exact (θ_run _ _ _).mono (fun r h => ⟨fun c => (h c).2, Idealize.ShloMosaic.sem_eq_zero_of_no_sems (by decide) _⟩) (Cert.DownQReferenceIdeal.Value.run m g)

/-- The latent of the queries is the reference's, entry by entry. -/
theorem downQ_value : Cert.algebraic_DownQIdeal_DownQReferenceIdeal (hDownQIdeal := Cert.DownQIdeal.Gen.facts)
    (hDownQReferenceIdeal := Cert.DownQReferenceIdeal.Gen.facts) := by
  pair_intro
  · run_from Cert.DownQIdeal.Value.run_blocks m g
  · run_from Cert.DownQReferenceIdeal.Value.run m' g'
    refine Eq.trans ?_ (Cert.DownQIdeal.Final.final m c).symm
    exact Cert.DownQReferenceIdeal.Read.val_main_v14_eq (F := Ideal) _ _ _

/-- The reference of the latent of keys and values runs and leaves its arguments unchanged. -/
theorem downKv_reference_frame : Cert.quiescent_DownKvReferenceIdeal (hDownKvReferenceIdeal := Cert.DownKvReferenceIdeal.Gen.facts) := by
  intro m g _
  exact (θ_run _ _ _).mono (fun r h => ⟨fun c => (h c).2, Idealize.ShloMosaic.sem_eq_zero_of_no_sems (by decide) _⟩) (Cert.DownKvReferenceIdeal.Value.run m g)

/-- That reference's value at equal gains. -/
theorem downKv_congr (x0 : FVec Ideal Cert.DownKvReferenceIdeal.S4x4096x2048 .f32) (x1 : FVec Ideal Cert.DownKvReferenceIdeal.S2048x576 .f32)
    {x2 y2 : FVec Ideal Cert.DownKvReferenceIdeal.S512 .f32} (h2 : x2 = y2) :
    Cert.DownKvReferenceIdeal.Read.val_main_v18 (F := Ideal) x0 x1 x2 = Cert.DownKvReferenceIdeal.Read.val_main_v18 (F := Ideal) x0 x1 y2 := by
  subst h2; rfl

/-- The latent of keys and values, with the rotary key, is the reference's, entry by entry. -/
theorem downKv_value : Cert.algebraic_DownKvIdeal_DownKvReferenceIdeal (hDownKvIdeal := Cert.DownKvIdeal.Gen.facts)
    (hDownKvReferenceIdeal := Cert.DownKvReferenceIdeal.Gen.facts) := by
  pair_intro
  · run_from Cert.DownKvIdeal.Value.run_blocks m g
  · run_from Cert.DownKvReferenceIdeal.Value.run m' g'
    refine Eq.trans ?_ (Cert.DownKvIdeal.Final.final m c).symm
    refine (Cert.DownKvReferenceIdeal.Read.val_main_v18_eq (F := Ideal) (Cert.DownKvIdeal.Final.rows m c) _ _).trans ?_
    exact downKv_congr _ _ (hagree c).2.2

/-- The reference of the queries raised to their heads runs and leaves its arguments unchanged. -/
theorem upQ_reference_frame : Cert.quiescent_UpQReferenceIdeal (hUpQReferenceIdeal := Cert.UpQReferenceIdeal.Gen.facts) := by
  intro m g _
  exact (θ_run _ _ _).mono (fun r h => ⟨fun c => (h c).2, Idealize.ShloMosaic.sem_eq_zero_of_no_sems (by decide) _⟩) (Cert.UpQReferenceIdeal.Value.run m g)

/-- That reference's value at equal arguments. -/
theorem upQ_congr {x0 y0 : FVec Ideal Cert.UpQReferenceIdeal.S4x4096x768 .f32} {x1 y1 : FVec Ideal Cert.UpQReferenceIdeal.S768x3072 .f32}
    {x2 y2 : FVec Ideal Cert.UpQReferenceIdeal.S192 .f32} {x3 y3 x4 y4 : FVec Ideal Cert.UpQReferenceIdeal.S4096x64 .f32}
    (h0 : x0 = y0) (h1 : x1 = y1) (h2 : x2 = y2) (h3 : x3 = y3) (h4 : x4 = y4) :
    Cert.UpQReferenceIdeal.Read.val_main_v52 (F := Ideal) x0 x1 x2 x3 x4 = Cert.UpQReferenceIdeal.Read.val_main_v52 (F := Ideal) y0 y1 y2 y3 y4 := by
  subst h0 h1 h2 h3 h4; rfl

/-- The queries, normalised, turned and scaled, are the reference's, entry by entry. -/
theorem upQ_value : Cert.algebraic_UpQIdeal_UpQReferenceIdeal (hUpQIdeal := Cert.UpQIdeal.Gen.facts)
    (hUpQReferenceIdeal := Cert.UpQReferenceIdeal.Gen.facts) := by
  pair_intro
  · run_from Cert.UpQIdeal.Value.run_blocks m g
  · run_from Cert.UpQReferenceIdeal.Value.run m' g'
    refine Eq.trans ?_ (Cert.UpQIdeal.Final.final m c).symm
    obtain ⟨e0, e1, e2, e3, e4⟩ := hagree c
    exact (Cert.UpQReferenceIdeal.Read.val_main_v52_eq (F := Ideal) m' c).trans (upQ_congr e0 e1 e2 e3 e4)

theorem claim : Cert.Claim :=
  ⟨Cert.Kernel.Gen.facts, Cert.KernelIdeal.Gen.facts, Cert.ReferenceIdeal.Gen.facts, Cert.InProj.Gen.facts, Cert.InProjIdeal.Gen.facts,
    Cert.InProjReferenceIdeal.Gen.facts, Cert.OutProj.Gen.facts, Cert.OutProjIdeal.Gen.facts, Cert.OutProjReferenceIdeal.Gen.facts, Cert.Ffn.Gen.facts,
    Cert.FfnIdeal.Gen.facts, Cert.FfnReferenceIdeal.Gen.facts,
    Cert.FfnLast.Gen.facts, Cert.FfnLastIdeal.Gen.facts, Cert.FfnLastReferenceIdeal.Gen.facts,
    Cert.DownQ.Gen.facts, Cert.DownQIdeal.Gen.facts, Cert.DownQReferenceIdeal.Gen.facts,
    Cert.DownKv.Gen.facts, Cert.DownKvIdeal.Gen.facts, Cert.DownKvReferenceIdeal.Gen.facts,
    Cert.UpQ.Gen.facts, Cert.UpQIdeal.Gen.facts, Cert.UpQReferenceIdeal.Gen.facts, Cert.Finite.facts,
    fun m g _ => Cert.Kernel.Gen.frame m g, fun m g _ => Cert.KernelIdeal.Gen.frame m g, fun m g _ => Cert.KernelIdeal.Gen.frame m g,
    reference_frame, fun m g _ => reference_frame m g trivial,
    fun m g _ => Cert.InProj.Gen.frame m g, fun m g _ => Cert.InProjIdeal.Gen.frame m g, inProj_reference_frame,
    fun m g _ => Cert.OutProj.Gen.frame m g, fun m g _ => Cert.OutProjIdeal.Gen.frame m g, outProj_reference_frame,
    fun m g _ => Cert.Ffn.Body.frame m g, fun m g _ => Cert.FfnIdeal.Body.frame m g, ffn_reference_frame,
    fun m g _ => Cert.FfnLast.Gen.frame m g, fun m g _ => Cert.FfnLastIdeal.Gen.frame m g, ffnLast_reference_frame,
    fun m g _ => Cert.DownQ.Gen.frame m g, fun m g _ => Cert.DownQIdeal.Gen.frame m g, downQ_reference_frame,
    fun m g _ => Cert.DownKv.Gen.frame m g, fun m g _ => Cert.DownKvIdeal.Gen.frame m g, downKv_reference_frame,
    fun m g _ => Cert.UpQ.Gen.frame m g, fun m g _ => Cert.UpQIdeal.Gen.frame m g, upQ_reference_frame,
    trivial, attention, trivial, inProj_value, trivial, outProj_value, trivial, ffn_value,
    trivial, ffnLast_value, trivial, downQ_value, trivial, downKv_value,
    IdealRules.named_const.statement Cert.UpQIdeal.κ "per_entry" .f32 0x3BAAAAAB#32 ((1 / 192 : ℝ) : EReal) rfl, upQ_value⟩

end Cert.Proof

end
